-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1348) = v0 c
          ∧ r.2.mem ((c.tc : Thread Cert.ReferenceIdeal.nD Cert.ReferenceIdeal.τ).loc Cert.ReferenceIdeal.main_v1349) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S4x50000x3 : Shape := ⟨3, ![4, 50000, 3]⟩
abbrev S4x32x4 : Shape := ⟨3, ![4, 32, 4]⟩
abbrev S_ : Shape := ⟨0, ![]⟩

class Facts : Prop where
  bcast_S_S4x50000x3 : S_.BroadcastsInDim S4x50000x3 (![] : Fin 0 → Fin S4x50000x3.rank)
  reducesTo_S4x50000x3_S_d0_1_2 : S4x50000x3.ReducesTo [0, 1, 2] S_
  h_S_ : 0 < S_.numel

variable [Facts]

def fn {F : FTy → Type} [FloatOps F] (main_arg0 : FVec F S4x50000x3 .f32) (main_arg1 : FVec F S4x32x4 .f32) : IVec S_ 1 :=
  let main_v0 : FVec F S4x50000x3 .f32 := Host.absf main_arg0
  let main_cst : FVec F S_ .f32 := constant S_ .f32 0x7F800000#32
  let main_v1 : FVec F S4x50000x3 .f32 := broadcastInDim S4x50000x3 ![] bcast_S_S4x50000x3 main_cst
  let main_v2 : IVec S4x50000x3 1 := cmpf .olt main_v0 main_v1
  let main_c : IVec S_ 1 := constantI S_ 1 1#1
  let main_v3 : IVec S_ 1 := (fun x v => Host.reduce IntOp.andi x v reducesTo_S4x50000x3_S_d0_1_2 h_S_) main_v2 main_c
  main_v3
-- ==== Kernel.lean ====
abbrev S4x50000x3 : Shape := ⟨3, ![4, 50000, 3]⟩
abbrev S4x32x4 : Shape := ⟨3, ![4, 32, 4]⟩
abbrev S4x3x50000 : Shape := ⟨3, ![4, 3, 50000]⟩
abbrev S_ : Shape := ⟨0, ![]⟩
abbrev S4x3x50048 : Shape := ⟨3, ![4, 3, 50048]⟩
abbrev S4x32x3 : Shape := ⟨3, ![4, 32, 3]⟩
abbrev S4x32x1 : Shape := ⟨3, ![4, 32, 1]⟩
abbrev S4x32 : Shape := ⟨2, ![4, 32]⟩
abbrev S4x32x123 : Shape := ⟨3, ![4, 32, 123]⟩
abbrev S4x32x128 : Shape := ⟨3, ![4, 32, 128]⟩
abbrev S4x8x50048 : Shape := ⟨3, ![4, 8, 50048]⟩
abbrev S1x3x50048 : Shape := ⟨3, ![1, 3, 50048]⟩
abbrev S1x32x128 : Shape := ⟨3, ![1, 32, 128]⟩
abbrev S1x8x50048 : Shape := ⟨3, ![1, 8, 50048]⟩
abbrev S3x50048 : Shape := ⟨2, ![3, 50048]⟩
abbrev S1x50048 : Shape := ⟨2, ![1, 50048]⟩
abbrev S1x32x3 : Shape := ⟨3, ![1, 32, 3]⟩
abbrev S32x3 : Shape := ⟨2, ![32, 3]⟩
abbrev S1x32x1 : Shape := ⟨3, ![1, 32, 1]⟩
abbrev S32x1 : Shape := ⟨2, ![32, 1]⟩
abbrev S32x50048 : Shape := ⟨2, ![32, 50048]⟩
abbrev S32 : Shape := ⟨1, ![32]⟩
abbrev S32x124 : Shape := ⟨2, ![32, 124]⟩
abbrev S32x128 : Shape := ⟨2, ![32, 128]⟩
abbrev S1x32 : Shape := ⟨2, ![1, 32]⟩
abbrev S6x50048 : Shape := ⟨2, ![6, 50048]⟩
abbrev S8x50048 : Shape := ⟨2, ![8, 50048]⟩
abbrev S4x64x6256 : Shape := ⟨3, ![4, 64, 6256]⟩
abbrev S4x24x6256 : Shape := ⟨3, ![4, 24, 6256]⟩
abbrev S1x24x6256 : Shape := ⟨3, ![1, 24, 6256]⟩
abbrev S1x16x6256 : Shape := ⟨3, ![1, 16, 6256]⟩
abbrev S1x8x6256 : Shape := ⟨3, ![1, 8, 6256]⟩
abbrev S8x6256 : Shape := ⟨2, ![8, 6256]⟩
abbrev S1x1x1 : Shape := ⟨3, ![1, 1, 1]⟩
abbrev S1x1 : Shape := ⟨2, ![1, 1]⟩
abbrev S4x50048x3 : Shape := ⟨3, ![4, 50048, 3]⟩

abbrev nBuf : Space → Nat
  | .hbm => 40
  | .vmem => 18
  | .smem => 0
  | _ => 0

abbrev bufTy : (tb : Table) → Fin (tcTables nBuf tb) → BufTy
  | .hbm, ⟨0, _⟩ => ⟨S4x50000x3, .f32⟩
  | .hbm, ⟨1, _⟩ => ⟨S4x32x4, .f32⟩
  | .hbm, ⟨2, _⟩ => ⟨S4x3x50000, .f32⟩
  | .hbm, ⟨3, _⟩ => ⟨S_, .i32⟩
  | .hbm, ⟨4, _⟩ => ⟨S_, .f32⟩
  | .hbm, ⟨5, _⟩ => ⟨S4x3x50048, .f32⟩
  | .hbm, ⟨6, _⟩ => ⟨S4x32x3, .f32⟩
  | .hbm, ⟨7, _⟩ => ⟨S4x32x1, .f32⟩
  | .hbm, ⟨8, _⟩ => ⟨S4x32, .f32⟩
  | .hbm, ⟨9, _⟩ => ⟨S4x32x3, .f32⟩
  | .hbm, ⟨10, _⟩ => ⟨S_, .f32⟩
  | .hbm, ⟨11, _⟩ => ⟨S4x32, .f32⟩
  | .hbm, ⟨12, _⟩ => ⟨S4x32, .f32⟩
  | .hbm, ⟨13, _⟩ => ⟨S_, .f32⟩
  | .hbm, ⟨14, _⟩ => ⟨S4x32, .f32⟩
  | .hbm, ⟨15, _⟩ => ⟨S4x32, .i1⟩
  | .hbm, ⟨16, _⟩ => ⟨S_, .f32⟩
  | .hbm, ⟨17, _⟩ => ⟨S4x32, .f32⟩
  | .hbm, ⟨18, _⟩ => ⟨S4x32, .f32⟩
  | .hbm, ⟨19, _⟩ => ⟨S4x32x1, .f32⟩
  | .hbm, ⟨20, _⟩ => ⟨S4x32x3, .f32⟩
  | .hbm, ⟨21, _⟩ => ⟨S4x32x3, .f32⟩
  | .hbm, ⟨22, _⟩ => ⟨S4x32x1, .f32⟩
  | .hbm, ⟨23, _⟩ => ⟨S4x32, .f32⟩
  | .hbm, ⟨24, _⟩ => ⟨S4x32x1, .f32⟩
  | .hbm, ⟨25, _⟩ => ⟨S_, .f32⟩
  | .hbm, ⟨26, _⟩ => ⟨S4x32x123, .f32⟩
  | .hbm, ⟨27, _⟩ => ⟨S4x32x128, .f32⟩
  | .hbm, ⟨28, _⟩ => ⟨S4x32x128, .f32⟩
  | .hbm, ⟨29, _⟩ => ⟨S4x8x50048, .f32⟩
  | .hbm, ⟨30, _⟩ => ⟨S4x64x6256, .f32⟩
  | .hbm, ⟨31, _⟩ => ⟨S4x24x6256, .f32⟩
  | .hbm, ⟨32, _⟩ => ⟨S4x24x6256, .f32⟩
  | .hbm, ⟨33, _⟩ => ⟨S4x24x6256, .f32⟩
  | .hbm, ⟨34, _⟩ => ⟨S4x3x50048, .f32⟩
  | .hbm, ⟨35, _⟩ => ⟨S4x50048x3, .f32⟩
  | .hbm, ⟨36, _⟩ => ⟨S4x50000x3, .f32⟩
  | .hbm, ⟨37, _⟩ => ⟨S4x3x50048, .f32⟩
  | .hbm, ⟨38, _⟩ => ⟨S4x50048x3, .f32⟩
  | .hbm, ⟨39, _⟩ => ⟨S4x50000x3, .f32⟩
  | .local _ .vmem, ⟨0, _⟩ => ⟨S1x3x50048, .f32⟩
  | .local _ .vmem, ⟨1, _⟩ => ⟨S1x3x50048, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x8x50048, .f32⟩
  | .local _ .vmem, ⟨7, _⟩ => ⟨S1x8x50048, .f32⟩
  | .local _ .vmem, ⟨8, _⟩ => ⟨S1x24x6256, .f32⟩
  | .local _ .vmem, ⟨9, _⟩ => ⟨S1x24x6256, .f32⟩
  | .local _ .vmem, ⟨10, _⟩ => ⟨S1x16x6256, .f32⟩
  | .local _ .vmem, ⟨11, _⟩ => ⟨S1x16x6256, .f32⟩
  | .local _ .vmem, ⟨12, _⟩ => ⟨S1x32x128, .f32⟩
  | .local _ .vmem, ⟨13, _⟩ => ⟨S1x32x128, .f32⟩
  | .local _ .vmem, ⟨14, _⟩ => ⟨S1x24x6256, .f32⟩
  | .local _ .vmem, ⟨15, _⟩ => ⟨S1x24x6256, .f32⟩
  | .local _ .vmem, ⟨16, _⟩ => ⟨S1x24x6256, .f32⟩
  | .local _ .vmem, ⟨17, _⟩ => ⟨S1x24x6256, .f32⟩
  | _, _ => ⟨S4x50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x50048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x50048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x24x6256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x6256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x24x6256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x24x6256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4x50000x3 : Shape := ⟨3, ![4, 50000, 3]⟩
abbrev S4x32x4 : Shape := ⟨3, ![4, 32, 4]⟩
abbrev S4x32x3 : Shape := ⟨3, ![4, 32, 3]⟩
abbrev S4x32x1 : Shape := ⟨3, ![4, 32, 1]⟩
abbrev S4x32 : Shape := ⟨2, ![4, 32]⟩
abbrev S_ : Shape := ⟨0, ![]⟩
abbrev S4x50000x32 : Shape := ⟨3, ![4, 50000, 32]⟩
abbrev S4x1x32 : Shape := ⟨3, ![4, 1, 32]⟩
abbrev S4x50000x1x3 : Shape := ⟨4, ![4, 50000, 1, 3]⟩
abbrev S4x50000x32x1 : Shape := ⟨4, ![4, 50000, 32, 1]⟩
abbrev S4x50000x32x3 : Shape := ⟨4, ![4, 50000, 32, 3]⟩
abbrev S4x1x32x3 : Shape := ⟨4, ![4, 1, 32, 3]⟩
abbrev S4x32x3x3 : Shape := ⟨4, ![4, 32, 3, 3]⟩
abbrev S4x32x1x1 : Shape := ⟨4, ![4, 32, 1, 1]⟩
abbrev S3x3 : Shape := ⟨2, ![3, 3]⟩
abbrev S1x1x3x3 : Shape := ⟨4, ![1, 1, 3, 3]⟩
abbrev S4x32x3x1 : Shape := ⟨4, ![4, 32, 3, 1]⟩
abbrev S4x32x1x3 : Shape := ⟨4, ![4, 32, 1, 3]⟩
abbrev S4x1x3 : Shape := ⟨3, ![4, 1, 3]⟩
abbrev S4x50000 : Shape := ⟨2, ![4, 50000]⟩
abbrev S4x1 : Shape := ⟨2, ![4, 1]⟩
abbrev S4x50000x1 : Shape := ⟨3, ![4, 50000, 1]⟩

abbrev nBuf : Space → Nat
  | .hbm => 1447
  | .vmem => 0
  | .smem => 0
  | _ => 0

abbrev hbmTy0_0 (i : Nat) : BufTy := match i % 128 with
  | 0 => ⟨S4x50000x3, .f32⟩
  | 1 => ⟨S4x32x4, .f32⟩
  | 2 => ⟨S4x32x3, .f32⟩
  | 3 => ⟨S4x32x1, .f32⟩
  | 4 => ⟨S4x32, .f32⟩
  | 5 => ⟨S4x32x3, .f32⟩
  | 6 => ⟨S_, .f32⟩
  | 7 => ⟨S4x32, .f32⟩
  | 8 => ⟨S4x32, .f32⟩
  | 9 => ⟨S_, .f32⟩
  | 10 => ⟨S4x32, .f32⟩
  | 11 => ⟨S4x32, .i1⟩
  | 12 => ⟨S_, .f32⟩
  | 13 => ⟨S4x32, .f32⟩
  | 14 => ⟨S4x32, .f32⟩
  | 15 => ⟨S4x32x1, .f32⟩
  | 16 => ⟨S4x32x3, .f32⟩
  | 17 => ⟨S4x32x3, .f32⟩
  | 18 => ⟨S4x50000x32, .f32⟩
  | 19 => ⟨S4x1x32, .f32⟩
  | 20 => ⟨S4x50000x32, .f32⟩
  | 21 => ⟨S4x50000x32, .f32⟩
  | 22 => ⟨S4x50000x32, .f32⟩
  | 23 => ⟨S_, .f32⟩
  | 24 => ⟨S4x50000x32, .f32⟩
  | 25 => ⟨S4x50000x32, .i1⟩
  | 26 => ⟨S4x1x32, .i1⟩
  | 27 => ⟨S4x50000x32, .i1⟩
  | 28 => ⟨S4x50000x32, .i1⟩
  | 29 => ⟨S4x50000x32, .f32⟩
  | 30 => ⟨S_, .f32⟩
  | 31 => ⟨S4x32, .f32⟩
  | 32 => ⟨S_, .f32⟩
  | 33 => ⟨S4x32, .f32⟩
  | 34 => ⟨S4x32, .i1⟩
  | 35 => ⟨S4x50000x1x3, .f32⟩
  | 36 => ⟨S4x50000x32x1, .f32⟩
  | 37 => ⟨S4x50000x32x3, .f32⟩
  | 38 => ⟨S4x50000x32x3, .f32⟩
  | 39 => ⟨S4x50000x32x3, .f32⟩
  | 40 => ⟨S_, .f32⟩
  | 41 => ⟨S4x32x3, .f32⟩
  | 42 => ⟨S_, .f32⟩
  | 43 => ⟨S4x32, .f32⟩
  | 44 => ⟨S4x32, .f32⟩
  | 45 => ⟨S4x32x1, .f32⟩
  | 46 => ⟨S4x32x3, .f32⟩
  | 47 => ⟨S4x32x3, .f32⟩
  | 48 => ⟨S4x50000x1x3, .f32⟩
  | 49 => ⟨S4x1x32x3, .f32⟩
  | 50 => ⟨S4x50000x32x3, .f32⟩
  | 51 => ⟨S4x50000x32x3, .f32⟩
  | 52 => ⟨S4x50000x32x3, .f32⟩
  | 53 => ⟨S4x50000x32x1, .f32⟩
  | 54 => ⟨S4x50000x32x3, .f32⟩
  | 55 => ⟨S4x50000x32x3, .f32⟩
  | 56 => ⟨S4x32x3x3, .f32⟩
  | 57 => ⟨S_, .f32⟩
  | 58 => ⟨S4x32, .f32⟩
  | 59 => ⟨S4x32, .f32⟩
  | 60 => ⟨S_, .f32⟩
  | 61 => ⟨S4x32, .f32⟩
  | 62 => ⟨S4x32, .f32⟩
  | 63 => ⟨S4x32x1x1, .f32⟩
  | 64 => ⟨S4x32x3x3, .f32⟩
  | 65 => ⟨S4x32x3x3, .f32⟩
  | 66 => ⟨S3x3, .i32⟩
  | 67 => ⟨S3x3, .i32⟩
  | 68 => ⟨S_, .i32⟩
  | 69 => ⟨S3x3, .i32⟩
  | 70 => ⟨S3x3, .i32⟩
  | 71 => ⟨S3x3, .i1⟩
  | 72 => ⟨S3x3, .f32⟩
  | 73 => ⟨S_, .f32⟩
  | 74 => ⟨S3x3, .f32⟩
  | 75 => ⟨S3x3, .f32⟩
  | 76 => ⟨S1x1x3x3, .f32⟩
  | 77 => ⟨S4x32x3x3, .f32⟩
  | 78 => ⟨S4x32x3x3, .f32⟩
  | 79 => ⟨S3x3, .i32⟩
  | 80 => ⟨S3x3, .i32⟩
  | 81 => ⟨S_, .i32⟩
  | 82 => ⟨S3x3, .i32⟩
  | 83 => ⟨S3x3, .i32⟩
  | 84 => ⟨S3x3, .i1⟩
  | 85 => ⟨S3x3, .f32⟩
  | 86 => ⟨S3x3, .f32⟩
  | 87 => ⟨S_, .f32⟩
  | 88 => ⟨S3x3, .f32⟩
  | 89 => ⟨S3x3, .f32⟩
  | 90 => ⟨S3x3, .f32⟩
  | 91 => ⟨S4x32x1x1, .i1⟩
  | 92 => ⟨S4x32x3x3, .i1⟩
  | 93 => ⟨S4x32x3x3, .f32⟩
  | 94 => ⟨S4x32x3x3, .f32⟩
  | 95 => ⟨S3x3, .i32⟩
  | 96 => ⟨S3x3, .i32⟩
  | 97 => ⟨S_, .f32⟩
  | 98 => ⟨S4x32, .f32⟩
  | 99 => ⟨S_, .f32⟩
  | 100 => ⟨S4x32, .f32⟩
  | 101 => ⟨S_, .f32⟩
  | 102 => ⟨S4x32, .f32⟩
  | 103 => ⟨S_, .f32⟩
  | 104 => ⟨S4x32, .f32⟩
  | 105 => ⟨S_, .i32⟩
  | 106 => ⟨S3x3, .i32⟩
  | 107 => ⟨S3x3, .i1⟩
  | 108 => ⟨S_, .i32⟩
  | 109 => ⟨S3x3, .i32⟩
  | 110 => ⟨S3x3, .i1⟩
  | 111 => ⟨S3x3, .i1⟩
  | 112 => ⟨S_, .i32⟩
  | 113 => ⟨S3x3, .i32⟩
  | 114 => ⟨S3x3, .i1⟩
  | 115 => ⟨S_, .i32⟩
  | 116 => ⟨S3x3, .i32⟩
  | 117 => ⟨S3x3, .i1⟩
  | 118 => ⟨S3x3, .i1⟩
  | 119 => ⟨S3x3, .i1⟩
  | 120 => ⟨S3x3, .f32⟩
  | 121 => ⟨S4x32x3x3, .f32⟩
  | 122 => ⟨S_, .i32⟩
  | 123 => ⟨S3x3, .i32⟩
  | 124 => ⟨S3x3, .i1⟩
  | 125 => ⟨S_, .i32⟩
  | 126 => ⟨S3x3, .i32⟩
  | 127 => ⟨S3x3, .i1⟩
  | _ => ⟨S4x50000x3, .f32⟩

abbrev hbmTy0_1 (i : Nat) : BufTy := match i % 128 with
  | 0 => ⟨S3x3, .i1⟩
  | 1 => ⟨S3x3, .f32⟩
  | 2 => ⟨S4x32x3x3, .f32⟩
  | 3 => ⟨S_, .i32⟩
  | 4 => ⟨S3x3, .i32⟩
  | 5 => ⟨S3x3, .i1⟩
  | 6 => ⟨S_, .i32⟩
  | 7 => ⟨S3x3, .i32⟩
  | 8 => ⟨S3x3, .i1⟩
  | 9 => ⟨S3x3, .i1⟩
  | 10 => ⟨S3x3, .f32⟩
  | 11 => ⟨S4x32x3x3, .f32⟩
  | 12 => ⟨S4x32x3x3, .f32⟩
  | 13 => ⟨S_, .i32⟩
  | 14 => ⟨S3x3, .i32⟩
  | 15 => ⟨S3x3, .i1⟩
  | 16 => ⟨S_, .i32⟩
  | 17 => ⟨S3x3, .i32⟩
  | 18 => ⟨S3x3, .i1⟩
  | 19 => ⟨S3x3, .i1⟩
  | 20 => ⟨S3x3, .f32⟩
  | 21 => ⟨S4x32x3x3, .f32⟩
  | 22 => ⟨S_, .i32⟩
  | 23 => ⟨S3x3, .i32⟩
  | 24 => ⟨S3x3, .i1⟩
  | 25 => ⟨S_, .i32⟩
  | 26 => ⟨S3x3, .i32⟩
  | 27 => ⟨S3x3, .i1⟩
  | 28 => ⟨S3x3, .i1⟩
  | 29 => ⟨S_, .i32⟩
  | 30 => ⟨S3x3, .i32⟩
  | 31 => ⟨S3x3, .i1⟩
  | 32 => ⟨S_, .i32⟩
  | 33 => ⟨S3x3, .i32⟩
  | 34 => ⟨S3x3, .i1⟩
  | 35 => ⟨S3x3, .i1⟩
  | 36 => ⟨S3x3, .i1⟩
  | 37 => ⟨S3x3, .f32⟩
  | 38 => ⟨S4x32x3x3, .f32⟩
  | 39 => ⟨S_, .i32⟩
  | 40 => ⟨S3x3, .i32⟩
  | 41 => ⟨S3x3, .i1⟩
  | 42 => ⟨S_, .i32⟩
  | 43 => ⟨S3x3, .i32⟩
  | 44 => ⟨S3x3, .i1⟩
  | 45 => ⟨S3x3, .i1⟩
  | 46 => ⟨S3x3, .f32⟩
  | 47 => ⟨S4x32x3x3, .f32⟩
  | 48 => ⟨S_, .i32⟩
  | 49 => ⟨S3x3, .i32⟩
  | 50 => ⟨S3x3, .i1⟩
  | 51 => ⟨S_, .i32⟩
  | 52 => ⟨S3x3, .i32⟩
  | 53 => ⟨S3x3, .i1⟩
  | 54 => ⟨S3x3, .i1⟩
  | 55 => ⟨S3x3, .f32⟩
  | 56 => ⟨S4x32x3x3, .f32⟩
  | 57 => ⟨S4x32x3x3, .f32⟩
  | 58 => ⟨S_, .i32⟩
  | 59 => ⟨S3x3, .i32⟩
  | 60 => ⟨S3x3, .i1⟩
  | 61 => ⟨S_, .i32⟩
  | 62 => ⟨S3x3, .i32⟩
  | 63 => ⟨S3x3, .i1⟩
  | 64 => ⟨S3x3, .i1⟩
  | 65 => ⟨S3x3, .f32⟩
  | 66 => ⟨S4x32x3x3, .f32⟩
  | 67 => ⟨S_, .i32⟩
  | 68 => ⟨S3x3, .i32⟩
  | 69 => ⟨S3x3, .i1⟩
  | 70 => ⟨S_, .i32⟩
  | 71 => ⟨S3x3, .i32⟩
  | 72 => ⟨S3x3, .i1⟩
  | 73 => ⟨S3x3, .i1⟩
  | 74 => ⟨S_, .i32⟩
  | 75 => ⟨S3x3, .i32⟩
  | 76 => ⟨S3x3, .i1⟩
  | 77 => ⟨S_, .i32⟩
  | 78 => ⟨S3x3, .i32⟩
  | 79 => ⟨S3x3, .i1⟩
  | 80 => ⟨S3x3, .i1⟩
  | 81 => ⟨S3x3, .i1⟩
  | 82 => ⟨S3x3, .f32⟩
  | 83 => ⟨S4x32x3x3, .f32⟩
  | 84 => ⟨S_, .i32⟩
  | 85 => ⟨S3x3, .i32⟩
  | 86 => ⟨S3x3, .i1⟩
  | 87 => ⟨S_, .i32⟩
  | 88 => ⟨S3x3, .i32⟩
  | 89 => ⟨S3x3, .i1⟩
  | 90 => ⟨S3x3, .i1⟩
  | 91 => ⟨S3x3, .f32⟩
  | 92 => ⟨S4x32x3x3, .f32⟩
  | 93 => ⟨S_, .i32⟩
  | 94 => ⟨S3x3, .i32⟩
  | 95 => ⟨S3x3, .i1⟩
  | 96 => ⟨S_, .i32⟩
  | 97 => ⟨S3x3, .i32⟩
  | 98 => ⟨S3x3, .i1⟩
  | 99 => ⟨S3x3, .i1⟩
  | 100 => ⟨S3x3, .f32⟩
  | 101 => ⟨S4x32x3x3, .f32⟩
  | 102 => ⟨S4x32x3x3, .f32⟩
  | 103 => ⟨S_, .i32⟩
  | 104 => ⟨S3x3, .i32⟩
  | 105 => ⟨S3x3, .i1⟩
  | 106 => ⟨S_, .i32⟩
  | 107 => ⟨S3x3, .i32⟩
  | 108 => ⟨S3x3, .i1⟩
  | 109 => ⟨S3x3, .i1⟩
  | 110 => ⟨S3x3, .f32⟩
  | 111 => ⟨S4x32x3x3, .f32⟩
  | 112 => ⟨S_, .i32⟩
  | 113 => ⟨S3x3, .i32⟩
  | 114 => ⟨S3x3, .i1⟩
  | 115 => ⟨S_, .i32⟩
  | 116 => ⟨S3x3, .i32⟩
  | 117 => ⟨S3x3, .i1⟩
  | 118 => ⟨S3x3, .i1⟩
  | 119 => ⟨S_, .i32⟩
  | 120 => ⟨S3x3, .i32⟩
  | 121 => ⟨S3x3, .i1⟩
  | 122 => ⟨S_, .i32⟩
  | 123 => ⟨S3x3, .i32⟩
  | 124 => ⟨S3x3, .i1⟩
  | 125 => ⟨S3x3, .i1⟩
  | 126 => ⟨S_, .i32⟩
  | 127 => ⟨S3x3, .i32⟩
  | _ => ⟨S4x50000x3, .f32⟩

abbrev hbmTy0_2 (i : Nat) : BufTy := match i % 128 with
  | 0 => ⟨S3x3, .i1⟩
  | 1 => ⟨S_, .i32⟩
  | 2 => ⟨S3x3, .i32⟩
  | 3 => ⟨S3x3, .i1⟩
  | 4 => ⟨S3x3, .i1⟩
  | 5 => ⟨S3x3, .i1⟩
  | 6 => ⟨S3x3, .i1⟩
  | 7 => ⟨S3x3, .f32⟩
  | 8 => ⟨S4x32x3x3, .f32⟩
  | 9 => ⟨S4x32x1x1, .f32⟩
  | 10 => ⟨S4x32, .f32⟩
  | 11 => ⟨S4x32x1x1, .f32⟩
  | 12 => ⟨S4x32, .f32⟩
  | 13 => ⟨S4x32x1x1, .f32⟩
  | 14 => ⟨S4x32, .f32⟩
  | 15 => ⟨S4x32, .i1⟩
  | 16 => ⟨S4x32, .f32⟩
  | 17 => ⟨S4x32, .f32⟩
  | 18 => ⟨S4x32, .f32⟩
  | 19 => ⟨S4x32, .f32⟩
  | 20 => ⟨S4x32, .i1⟩
  | 21 => ⟨S4x32, .f32⟩
  | 22 => ⟨S4x32, .f32⟩
  | 23 => ⟨S4x32, .f32⟩
  | 24 => ⟨S4x32, .f32⟩
  | 25 => ⟨S4x32, .f32⟩
  | 26 => ⟨S4x32, .f32⟩
  | 27 => ⟨S4x32, .f32⟩
  | 28 => ⟨S4x32, .f32⟩
  | 29 => ⟨S4x32, .f32⟩
  | 30 => ⟨S4x32, .f32⟩
  | 31 => ⟨S4x32, .f32⟩
  | 32 => ⟨S4x32, .f32⟩
  | 33 => ⟨S4x32, .f32⟩
  | 34 => ⟨S4x32, .f32⟩
  | 35 => ⟨S4x32x3x3, .f32⟩
  | 36 => ⟨S4x32x3x3, .f32⟩
  | 37 => ⟨S4x32x3x3, .f32⟩
  | 38 => ⟨S4x32x3x3, .f32⟩
  | 39 => ⟨S4x32x3x3, .f32⟩
  | 40 => ⟨S4x32x3x3, .f32⟩
  | 41 => ⟨S4x32x3x3, .f32⟩
  | 42 => ⟨S4x32x3x3, .f32⟩
  | 43 => ⟨S4x32x3x3, .f32⟩
  | 44 => ⟨S4x32x3x3, .f32⟩
  | 45 => ⟨S4x32x1x1, .f32⟩
  | 46 => ⟨S4x32, .f32⟩
  | 47 => ⟨S4x32x1x1, .f32⟩
  | 48 => ⟨S4x32, .f32⟩
  | 49 => ⟨S4x32x1x1, .f32⟩
  | 50 => ⟨S4x32, .f32⟩
  | 51 => ⟨S4x32, .i1⟩
  | 52 => ⟨S4x32, .f32⟩
  | 53 => ⟨S4x32, .f32⟩
  | 54 => ⟨S4x32, .f32⟩
  | 55 => ⟨S4x32, .f32⟩
  | 56 => ⟨S4x32, .i1⟩
  | 57 => ⟨S4x32, .f32⟩
  | 58 => ⟨S4x32, .f32⟩
  | 59 => ⟨S4x32, .f32⟩
  | 60 => ⟨S4x32, .f32⟩
  | 61 => ⟨S4x32, .f32⟩
  | 62 => ⟨S4x32, .f32⟩
  | 63 => ⟨S4x32, .f32⟩
  | 64 => ⟨S4x32, .f32⟩
  | 65 => ⟨S4x32, .f32⟩
  | 66 => ⟨S4x32, .f32⟩
  | 67 => ⟨S4x32, .f32⟩
  | 68 => ⟨S4x32, .f32⟩
  | 69 => ⟨S4x32, .f32⟩
  | 70 => ⟨S4x32, .f32⟩
  | 71 => ⟨S4x32x3x3, .f32⟩
  | 72 => ⟨S4x32x3x3, .f32⟩
  | 73 => ⟨S4x32x3x3, .f32⟩
  | 74 => ⟨S4x32x3x3, .f32⟩
  | 75 => ⟨S4x32x3x3, .f32⟩
  | 76 => ⟨S4x32x3x3, .f32⟩
  | 77 => ⟨S4x32x3x3, .f32⟩
  | 78 => ⟨S4x32x3x3, .f32⟩
  | 79 => ⟨S4x32x3x3, .f32⟩
  | 80 => ⟨S4x32x3x3, .f32⟩
  | 81 => ⟨S4x32x1x1, .f32⟩
  | 82 => ⟨S4x32, .f32⟩
  | 83 => ⟨S4x32x1x1, .f32⟩
  | 84 => ⟨S4x32, .f32⟩
  | 85 => ⟨S4x32x1x1, .f32⟩
  | 86 => ⟨S4x32, .f32⟩
  | 87 => ⟨S4x32, .i1⟩
  | 88 => ⟨S4x32, .f32⟩
  | 89 => ⟨S4x32, .f32⟩
  | 90 => ⟨S4x32, .f32⟩
  | 91 => ⟨S4x32, .f32⟩
  | 92 => ⟨S4x32, .i1⟩
  | 93 => ⟨S4x32, .f32⟩
  | 94 => ⟨S4x32, .f32⟩
  | 95 => ⟨S4x32, .f32⟩
  | 96 => ⟨S4x32, .f32⟩
  | 97 => ⟨S4x32, .f32⟩
  | 98 => ⟨S4x32, .f32⟩
  | 99 => ⟨S4x32, .f32⟩
  | 100 => ⟨S4x32, .f32⟩
  | 101 => ⟨S4x32, .f32⟩
  | 102 => ⟨S4x32, .f32⟩
  | 103 => ⟨S4x32, .f32⟩
  | 104 => ⟨S4x32, .f32⟩
  | 105 => ⟨S4x32, .f32⟩
  | 106 => ⟨S4x32, .f32⟩
  | 107 => ⟨S4x32x3x3, .f32⟩
  | 108 => ⟨S4x32x3x3, .f32⟩
  | 109 => ⟨S4x32x3x3, .f32⟩
  | 110 => ⟨S4x32x3x3, .f32⟩
  | 111 => ⟨S4x32x3x3, .f32⟩
  | 112 => ⟨S4x32x3x3, .f32⟩
  | 113 => ⟨S4x32x3x3, .f32⟩
  | 114 => ⟨S4x32x3x3, .f32⟩
  | 115 => ⟨S4x32x3x3, .f32⟩
  | 116 => ⟨S4x32x3x3, .f32⟩
  | 117 => ⟨S4x32x1x1, .f32⟩
  | 118 => ⟨S4x32, .f32⟩
  | 119 => ⟨S4x32x1x1, .f32⟩
  | 120 => ⟨S4x32, .f32⟩
  | 121 => ⟨S4x32x1x1, .f32⟩
  | 122 => ⟨S4x32, .f32⟩
  | 123 => ⟨S4x32, .i1⟩
  | 124 => ⟨S4x32, .f32⟩
  | 125 => ⟨S4x32, .f32⟩
  | 126 => ⟨S4x32, .f32⟩
  | 127 => ⟨S4x32, .f32⟩
  | _ => ⟨S4x50000x3, .f32⟩

abbrev hbmTy0_3 (i : Nat) : BufTy := match i % 128 with
  | 0 => ⟨S4x32, .i1⟩
  | 1 => ⟨S4x32, .f32⟩
  | 2 => ⟨S4x32, .f32⟩
  | 3 => ⟨S4x32, .f32⟩
  | 4 => ⟨S4x32, .f32⟩
  | 5 => ⟨S4x32, .f32⟩
  | 6 => ⟨S4x32, .f32⟩
  | 7 => ⟨S4x32, .f32⟩
  | 8 => ⟨S4x32, .f32⟩
  | 9 => ⟨S4x32, .f32⟩
  | 10 => ⟨S4x32, .f32⟩
  | 11 => ⟨S4x32, .f32⟩
  | 12 => ⟨S4x32, .f32⟩
  | 13 => ⟨S4x32, .f32⟩
  | 14 => ⟨S4x32, .f32⟩
  | 15 => ⟨S4x32x3x3, .f32⟩
  | 16 => ⟨S4x32x3x3, .f32⟩
  | 17 => ⟨S4x32x3x3, .f32⟩
  | 18 => ⟨S4x32x3x3, .f32⟩
  | 19 => ⟨S4x32x3x3, .f32⟩
  | 20 => ⟨S4x32x3x3, .f32⟩
  | 21 => ⟨S4x32x3x3, .f32⟩
  | 22 => ⟨S4x32x3x3, .f32⟩
  | 23 => ⟨S4x32x3x3, .f32⟩
  | 24 => ⟨S4x32x3x3, .f32⟩
  | 25 => ⟨S4x32x1x1, .f32⟩
  | 26 => ⟨S4x32, .f32⟩
  | 27 => ⟨S4x32x1x1, .f32⟩
  | 28 => ⟨S4x32, .f32⟩
  | 29 => ⟨S4x32x1x1, .f32⟩
  | 30 => ⟨S4x32, .f32⟩
  | 31 => ⟨S4x32, .i1⟩
  | 32 => ⟨S4x32, .f32⟩
  | 33 => ⟨S4x32, .f32⟩
  | 34 => ⟨S4x32, .f32⟩
  | 35 => ⟨S4x32, .f32⟩
  | 36 => ⟨S4x32, .i1⟩
  | 37 => ⟨S4x32, .f32⟩
  | 38 => ⟨S4x32, .f32⟩
  | 39 => ⟨S4x32, .f32⟩
  | 40 => ⟨S4x32, .f32⟩
  | 41 => ⟨S4x32, .f32⟩
  | 42 => ⟨S4x32, .f32⟩
  | 43 => ⟨S4x32, .f32⟩
  | 44 => ⟨S4x32, .f32⟩
  | 45 => ⟨S4x32, .f32⟩
  | 46 => ⟨S4x32, .f32⟩
  | 47 => ⟨S4x32, .f32⟩
  | 48 => ⟨S4x32, .f32⟩
  | 49 => ⟨S4x32, .f32⟩
  | 50 => ⟨S4x32, .f32⟩
  | 51 => ⟨S4x32x3x3, .f32⟩
  | 52 => ⟨S4x32x3x3, .f32⟩
  | 53 => ⟨S4x32x3x3, .f32⟩
  | 54 => ⟨S4x32x3x3, .f32⟩
  | 55 => ⟨S4x32x3x3, .f32⟩
  | 56 => ⟨S4x32x3x3, .f32⟩
  | 57 => ⟨S4x32x3x3, .f32⟩
  | 58 => ⟨S4x32x3x3, .f32⟩
  | 59 => ⟨S4x32x3x3, .f32⟩
  | 60 => ⟨S4x32x3x3, .f32⟩
  | 61 => ⟨S4x32x1x1, .f32⟩
  | 62 => ⟨S4x32, .f32⟩
  | 63 => ⟨S4x32x1x1, .f32⟩
  | 64 => ⟨S4x32, .f32⟩
  | 65 => ⟨S4x32x1x1, .f32⟩
  | 66 => ⟨S4x32, .f32⟩
  | 67 => ⟨S4x32, .i1⟩
  | 68 => ⟨S4x32, .f32⟩
  | 69 => ⟨S4x32, .f32⟩
  | 70 => ⟨S4x32, .f32⟩
  | 71 => ⟨S4x32, .f32⟩
  | 72 => ⟨S4x32, .i1⟩
  | 73 => ⟨S4x32, .f32⟩
  | 74 => ⟨S4x32, .f32⟩
  | 75 => ⟨S4x32, .f32⟩
  | 76 => ⟨S4x32, .f32⟩
  | 77 => ⟨S4x32, .f32⟩
  | 78 => ⟨S4x32, .f32⟩
  | 79 => ⟨S4x32, .f32⟩
  | 80 => ⟨S4x32, .f32⟩
  | 81 => ⟨S4x32, .f32⟩
  | 82 => ⟨S4x32, .f32⟩
  | 83 => ⟨S4x32, .f32⟩
  | 84 => ⟨S4x32, .f32⟩
  | 85 => ⟨S4x32, .f32⟩
  | 86 => ⟨S4x32, .f32⟩
  | 87 => ⟨S4x32x3x3, .f32⟩
  | 88 => ⟨S4x32x3x3, .f32⟩
  | 89 => ⟨S4x32x3x3, .f32⟩
  | 90 => ⟨S4x32x3x3, .f32⟩
  | 91 => ⟨S4x32x3x3, .f32⟩
  | 92 => ⟨S4x32x3x3, .f32⟩
  | 93 => ⟨S4x32x3x3, .f32⟩
  | 94 => ⟨S4x32x3x3, .f32⟩
  | 95 => ⟨S4x32x3x3, .f32⟩
  | 96 => ⟨S4x32x3x3, .f32⟩
  | 97 => ⟨S4x32x1x1, .f32⟩
  | 98 => ⟨S4x32, .f32⟩
  | 99 => ⟨S4x32x1x1, .f32⟩
  | 100 => ⟨S4x32, .f32⟩
  | 101 => ⟨S4x32x1x1, .f32⟩
  | 102 => ⟨S4x32, .f32⟩
  | 103 => ⟨S4x32, .i1⟩
  | 104 => ⟨S4x32, .f32⟩
  | 105 => ⟨S4x32, .f32⟩
  | 106 => ⟨S4x32, .f32⟩
  | 107 => ⟨S4x32, .f32⟩
  | 108 => ⟨S4x32, .i1⟩
  | 109 => ⟨S4x32, .f32⟩
  | 110 => ⟨S4x32, .f32⟩
  | 111 => ⟨S4x32, .f32⟩
  | 112 => ⟨S4x32, .f32⟩
  | 113 => ⟨S4x32, .f32⟩
  | 114 => ⟨S4x32, .f32⟩
  | 115 => ⟨S4x32, .f32⟩
  | 116 => ⟨S4x32, .f32⟩
  | 117 => ⟨S4x32, .f32⟩
  | 118 => ⟨S4x32, .f32⟩
  | 119 => ⟨S4x32, .f32⟩
  | 120 => ⟨S4x32, .f32⟩
  | 121 => ⟨S4x32, .f32⟩
  | 122 => ⟨S4x32, .f32⟩
  | 123 => ⟨S4x32x3x3, .f32⟩
  | 124 => ⟨S4x32x3x3, .f32⟩
  | 125 => ⟨S4x32x3x3, .f32⟩
  | 126 => ⟨S4x32x3x3, .f32⟩
  | 127 => ⟨S4x32x3x3, .f32⟩
  | _ => ⟨S4x50000x3, .f32⟩

abbrev hbmTy0_4 (i : Nat) : BufTy := match i % 128 with
  | 0 => ⟨S4x32x3x3, .f32⟩
  | 1 => ⟨S4x32x3x3, .f32⟩
  | 2 => ⟨S4x32x3x3, .f32⟩
  | 3 => ⟨S4x32x3x3, .f32⟩
  | 4 => ⟨S4x32x3x3, .f32⟩
  | 5 => ⟨S4x32x1x1, .f32⟩
  | 6 => ⟨S4x32, .f32⟩
  | 7 => ⟨S4x32x1x1, .f32⟩
  | 8 => ⟨S4x32, .f32⟩
  | 9 => ⟨S4x32x1x1, .f32⟩
  | 10 => ⟨S4x32, .f32⟩
  | 11 => ⟨S4x32, .i1⟩
  | 12 => ⟨S4x32, .f32⟩
  | 13 => ⟨S4x32, .f32⟩
  | 14 => ⟨S4x32, .f32⟩
  | 15 => ⟨S4x32, .f32⟩
  | 16 => ⟨S4x32, .i1⟩
  | 17 => ⟨S4x32, .f32⟩
  | 18 => ⟨S4x32, .f32⟩
  | 19 => ⟨S4x32, .f32⟩
  | 20 => ⟨S4x32, .f32⟩
  | 21 => ⟨S4x32, .f32⟩
  | 22 => ⟨S4x32, .f32⟩
  | 23 => ⟨S4x32, .f32⟩
  | 24 => ⟨S4x32, .f32⟩
  | 25 => ⟨S4x32, .f32⟩
  | 26 => ⟨S4x32, .f32⟩
  | 27 => ⟨S4x32, .f32⟩
  | 28 => ⟨S4x32, .f32⟩
  | 29 => ⟨S4x32, .f32⟩
  | 30 => ⟨S4x32, .f32⟩
  | 31 => ⟨S4x32x3x3, .f32⟩
  | 32 => ⟨S4x32x3x3, .f32⟩
  | 33 => ⟨S4x32x3x3, .f32⟩
  | 34 => ⟨S4x32x3x3, .f32⟩
  | 35 => ⟨S4x32x3x3, .f32⟩
  | 36 => ⟨S4x32x3x3, .f32⟩
  | 37 => ⟨S4x32x3x3, .f32⟩
  | 38 => ⟨S4x32x3x3, .f32⟩
  | 39 => ⟨S4x32x3x3, .f32⟩
  | 40 => ⟨S4x32x3x3, .f32⟩
  | 41 => ⟨S4x32x1x1, .f32⟩
  | 42 => ⟨S4x32, .f32⟩
  | 43 => ⟨S4x32x1x1, .f32⟩
  | 44 => ⟨S4x32, .f32⟩
  | 45 => ⟨S4x32x1x1, .f32⟩
  | 46 => ⟨S4x32, .f32⟩
  | 47 => ⟨S4x32, .i1⟩
  | 48 => ⟨S4x32, .f32⟩
  | 49 => ⟨S4x32, .f32⟩
  | 50 => ⟨S4x32, .f32⟩
  | 51 => ⟨S4x32, .f32⟩
  | 52 => ⟨S4x32, .i1⟩
  | 53 => ⟨S4x32, .f32⟩
  | 54 => ⟨S4x32, .f32⟩
  | 55 => ⟨S4x32, .f32⟩
  | 56 => ⟨S4x32, .f32⟩
  | 57 => ⟨S4x32, .f32⟩
  | 58 => ⟨S4x32, .f32⟩
  | 59 => ⟨S4x32, .f32⟩
  | 60 => ⟨S4x32, .f32⟩
  | 61 => ⟨S4x32, .f32⟩
  | 62 => ⟨S4x32, .f32⟩
  | 63 => ⟨S4x32, .f32⟩
  | 64 => ⟨S4x32, .f32⟩
  | 65 => ⟨S4x32, .f32⟩
  | 66 => ⟨S4x32, .f32⟩
  | 67 => ⟨S4x32x3x3, .f32⟩
  | 68 => ⟨S4x32x3x3, .f32⟩
  | 69 => ⟨S4x32x3x3, .f32⟩
  | 70 => ⟨S4x32x3x3, .f32⟩
  | 71 => ⟨S4x32x3x3, .f32⟩
  | 72 => ⟨S4x32x3x3, .f32⟩
  | 73 => ⟨S4x32x3x3, .f32⟩
  | 74 => ⟨S4x32x3x3, .f32⟩
  | 75 => ⟨S4x32x3x3, .f32⟩
  | 76 => ⟨S4x32x3x3, .f32⟩
  | 77 => ⟨S4x32x1x1, .f32⟩
  | 78 => ⟨S4x32, .f32⟩
  | 79 => ⟨S4x32x1x1, .f32⟩
  | 80 => ⟨S4x32, .f32⟩
  | 81 => ⟨S4x32x1x1, .f32⟩
  | 82 => ⟨S4x32, .f32⟩
  | 83 => ⟨S4x32, .i1⟩
  | 84 => ⟨S4x32, .f32⟩
  | 85 => ⟨S4x32, .f32⟩
  | 86 => ⟨S4x32, .f32⟩
  | 87 => ⟨S4x32, .f32⟩
  | 88 => ⟨S4x32, .i1⟩
  | 89 => ⟨S4x32, .f32⟩
  | 90 => ⟨S4x32, .f32⟩
  | 91 => ⟨S4x32, .f32⟩
  | 92 => ⟨S4x32, .f32⟩
  | 93 => ⟨S4x32, .f32⟩
  | 94 => ⟨S4x32, .f32⟩
  | 95 => ⟨S4x32, .f32⟩
  | 96 => ⟨S4x32, .f32⟩
  | 97 => ⟨S4x32, .f32⟩
  | 98 => ⟨S4x32, .f32⟩
  | 99 => ⟨S4x32, .f32⟩
  | 100 => ⟨S4x32, .f32⟩
  | 101 => ⟨S4x32, .f32⟩
  | 102 => ⟨S4x32, .f32⟩
  | 103 => ⟨S4x32x3x3, .f32⟩
  | 104 => ⟨S4x32x3x3, .f32⟩
  | 105 => ⟨S4x32x3x3, .f32⟩
  | 106 => ⟨S4x32x3x3, .f32⟩
  | 107 => ⟨S4x32x3x3, .f32⟩
  | 108 => ⟨S4x32x3x3, .f32⟩
  | 109 => ⟨S4x32x3x3, .f32⟩
  | 110 => ⟨S4x32x3x3, .f32⟩
  | 111 => ⟨S4x32x3x3, .f32⟩
  | 112 => ⟨S4x32x3x3, .f32⟩
  | 113 => ⟨S4x32x1x1, .f32⟩
  | 114 => ⟨S4x32, .f32⟩
  | 115 => ⟨S4x32x1x1, .f32⟩
  | 116 => ⟨S4x32, .f32⟩
  | 117 => ⟨S4x32x1x1, .f32⟩
  | 118 => ⟨S4x32, .f32⟩
  | 119 => ⟨S4x32, .i1⟩
  | 120 => ⟨S4x32, .f32⟩
  | 121 => ⟨S4x32, .f32⟩
  | 122 => ⟨S4x32, .f32⟩
  | 123 => ⟨S4x32, .f32⟩
  | 124 => ⟨S4x32, .i1⟩
  | 125 => ⟨S4x32, .f32⟩
  | 126 => ⟨S4x32, .f32⟩
  | 127 => ⟨S4x32, .f32⟩
  | _ => ⟨S4x50000x3, .f32⟩

abbrev hbmTy0_5 (i : Nat) : BufTy := match i % 128 with
  | 0 => ⟨S4x32, .f32⟩
  | 1 => ⟨S4x32, .f32⟩
  | 2 => ⟨S4x32, .f32⟩
  | 3 => ⟨S4x32, .f32⟩
  | 4 => ⟨S4x32, .f32⟩
  | 5 => ⟨S4x32, .f32⟩
  | 6 => ⟨S4x32, .f32⟩
  | 7 => ⟨S4x32, .f32⟩
  | 8 => ⟨S4x32, .f32⟩
  | 9 => ⟨S4x32, .f32⟩
  | 10 => ⟨S4x32, .f32⟩
  | 11 => ⟨S4x32x3x3, .f32⟩
  | 12 => ⟨S4x32x3x3, .f32⟩
  | 13 => ⟨S4x32x3x3, .f32⟩
  | 14 => ⟨S4x32x3x3, .f32⟩
  | 15 => ⟨S4x32x3x3, .f32⟩
  | 16 => ⟨S4x32x3x3, .f32⟩
  | 17 => ⟨S4x32x3x3, .f32⟩
  | 18 => ⟨S4x32x3x3, .f32⟩
  | 19 => ⟨S4x32x3x3, .f32⟩
  | 20 => ⟨S4x32x3x3, .f32⟩
  | 21 => ⟨S4x32x1x1, .f32⟩
  | 22 => ⟨S4x32, .f32⟩
  | 23 => ⟨S4x32x1x1, .f32⟩
  | 24 => ⟨S4x32, .f32⟩
  | 25 => ⟨S4x32x1x1, .f32⟩
  | 26 => ⟨S4x32, .f32⟩
  | 27 => ⟨S4x32, .i1⟩
  | 28 => ⟨S4x32, .f32⟩
  | 29 => ⟨S4x32, .f32⟩
  | 30 => ⟨S4x32, .f32⟩
  | 31 => ⟨S4x32, .f32⟩
  | 32 => ⟨S4x32, .i1⟩
  | 33 => ⟨S4x32, .f32⟩
  | 34 => ⟨S4x32, .f32⟩
  | 35 => ⟨S4x32, .f32⟩
  | 36 => ⟨S4x32, .f32⟩
  | 37 => ⟨S4x32, .f32⟩
  | 38 => ⟨S4x32, .f32⟩
  | 39 => ⟨S4x32, .f32⟩
  | 40 => ⟨S4x32, .f32⟩
  | 41 => ⟨S4x32, .f32⟩
  | 42 => ⟨S4x32, .f32⟩
  | 43 => ⟨S4x32, .f32⟩
  | 44 => ⟨S4x32, .f32⟩
  | 45 => ⟨S4x32, .f32⟩
  | 46 => ⟨S4x32, .f32⟩
  | 47 => ⟨S4x32x3x3, .f32⟩
  | 48 => ⟨S4x32x3x3, .f32⟩
  | 49 => ⟨S4x32x3x3, .f32⟩
  | 50 => ⟨S4x32x3x3, .f32⟩
  | 51 => ⟨S4x32x3x3, .f32⟩
  | 52 => ⟨S4x32x3x3, .f32⟩
  | 53 => ⟨S4x32x3x3, .f32⟩
  | 54 => ⟨S4x32x3x3, .f32⟩
  | 55 => ⟨S4x32x3x3, .f32⟩
  | 56 => ⟨S4x32x3x3, .f32⟩
  | 57 => ⟨S4x32x1x1, .f32⟩
  | 58 => ⟨S4x32, .f32⟩
  | 59 => ⟨S4x32x1x1, .f32⟩
  | 60 => ⟨S4x32, .f32⟩
  | 61 => ⟨S4x32x1x1, .f32⟩
  | 62 => ⟨S4x32, .f32⟩
  | 63 => ⟨S4x32, .i1⟩
  | 64 => ⟨S4x32, .f32⟩
  | 65 => ⟨S4x32, .f32⟩
  | 66 => ⟨S4x32, .f32⟩
  | 67 => ⟨S4x32, .f32⟩
  | 68 => ⟨S4x32, .i1⟩
  | 69 => ⟨S4x32, .f32⟩
  | 70 => ⟨S4x32, .f32⟩
  | 71 => ⟨S4x32, .f32⟩
  | 72 => ⟨S4x32, .f32⟩
  | 73 => ⟨S4x32, .f32⟩
  | 74 => ⟨S4x32, .f32⟩
  | 75 => ⟨S4x32, .f32⟩
  | 76 => ⟨S4x32, .f32⟩
  | 77 => ⟨S4x32, .f32⟩
  | 78 => ⟨S4x32, .f32⟩
  | 79 => ⟨S4x32, .f32⟩
  | 80 => ⟨S4x32, .f32⟩
  | 81 => ⟨S4x32, .f32⟩
  | 82 => ⟨S4x32, .f32⟩
  | 83 => ⟨S4x32x3x3, .f32⟩
  | 84 => ⟨S4x32x3x3, .f32⟩
  | 85 => ⟨S4x32x3x3, .f32⟩
  | 86 => ⟨S4x32x3x3, .f32⟩
  | 87 => ⟨S4x32x3x3, .f32⟩
  | 88 => ⟨S4x32x3x3, .f32⟩
  | 89 => ⟨S4x32x3x3, .f32⟩
  | 90 => ⟨S4x32x3x3, .f32⟩
  | 91 => ⟨S4x32x3x3, .f32⟩
  | 92 => ⟨S4x32x3x3, .f32⟩
  | 93 => ⟨S4x32x1x1, .f32⟩
  | 94 => ⟨S4x32, .f32⟩
  | 95 => ⟨S4x32x1x1, .f32⟩
  | 96 => ⟨S4x32, .f32⟩
  | 97 => ⟨S4x32x1x1, .f32⟩
  | 98 => ⟨S4x32, .f32⟩
  | 99 => ⟨S4x32, .i1⟩
  | 100 => ⟨S4x32, .f32⟩
  | 101 => ⟨S4x32, .f32⟩
  | 102 => ⟨S4x32, .f32⟩
  | 103 => ⟨S4x32, .f32⟩
  | 104 => ⟨S4x32, .i1⟩
  | 105 => ⟨S4x32, .f32⟩
  | 106 => ⟨S4x32, .f32⟩
  | 107 => ⟨S4x32, .f32⟩
  | 108 => ⟨S4x32, .f32⟩
  | 109 => ⟨S4x32, .f32⟩
  | 110 => ⟨S4x32, .f32⟩
  | 111 => ⟨S4x32, .f32⟩
  | 112 => ⟨S4x32, .f32⟩
  | 113 => ⟨S4x32, .f32⟩
  | 114 => ⟨S4x32, .f32⟩
  | 115 => ⟨S4x32, .f32⟩
  | 116 => ⟨S4x32, .f32⟩
  | 117 => ⟨S4x32, .f32⟩
  | 118 => ⟨S4x32, .f32⟩
  | 119 => ⟨S4x32x3x3, .f32⟩
  | 120 => ⟨S4x32x3x3, .f32⟩
  | 121 => ⟨S4x32x3x3, .f32⟩
  | 122 => ⟨S4x32x3x3, .f32⟩
  | 123 => ⟨S4x32x3x3, .f32⟩
  | 124 => ⟨S4x32x3x3, .f32⟩
  | 125 => ⟨S4x32x3x3, .f32⟩
  | 126 => ⟨S4x32x3x3, .f32⟩
  | 127 => ⟨S4x32x3x3, .f32⟩
  | _ => ⟨S4x50000x3, .f32⟩

abbrev hbmTy0_6 (i : Nat) : BufTy := match i % 128 with
  | 0 => ⟨S4x32x3x3, .f32⟩
  | 1 => ⟨S4x32x1x1, .f32⟩
  | 2 => ⟨S4x32, .f32⟩
  | 3 => ⟨S4x32x1x1, .f32⟩
  | 4 => ⟨S4x32, .f32⟩
  | 5 => ⟨S4x32x1x1, .f32⟩
  | 6 => ⟨S4x32, .f32⟩
  | 7 => ⟨S4x32, .i1⟩
  | 8 => ⟨S4x32, .f32⟩
  | 9 => ⟨S4x32, .f32⟩
  | 10 => ⟨S4x32, .f32⟩
  | 11 => ⟨S4x32, .f32⟩
  | 12 => ⟨S4x32, .i1⟩
  | 13 => ⟨S4x32, .f32⟩
  | 14 => ⟨S4x32, .f32⟩
  | 15 => ⟨S4x32, .f32⟩
  | 16 => ⟨S4x32, .f32⟩
  | 17 => ⟨S4x32, .f32⟩
  | 18 => ⟨S4x32, .f32⟩
  | 19 => ⟨S4x32, .f32⟩
  | 20 => ⟨S4x32, .f32⟩
  | 21 => ⟨S4x32, .f32⟩
  | 22 => ⟨S4x32, .f32⟩
  | 23 => ⟨S4x32, .f32⟩
  | 24 => ⟨S4x32, .f32⟩
  | 25 => ⟨S4x32, .f32⟩
  | 26 => ⟨S4x32, .f32⟩
  | 27 => ⟨S4x32x3x3, .f32⟩
  | 28 => ⟨S4x32x3x3, .f32⟩
  | 29 => ⟨S4x32x3x3, .f32⟩
  | 30 => ⟨S4x32x3x3, .f32⟩
  | 31 => ⟨S4x32x3x3, .f32⟩
  | 32 => ⟨S4x32x3x3, .f32⟩
  | 33 => ⟨S4x32x3x3, .f32⟩
  | 34 => ⟨S4x32x3x3, .f32⟩
  | 35 => ⟨S4x32x3x3, .f32⟩
  | 36 => ⟨S4x32x3x3, .f32⟩
  | 37 => ⟨S4x32x1x1, .f32⟩
  | 38 => ⟨S4x32, .f32⟩
  | 39 => ⟨S4x32x1x1, .f32⟩
  | 40 => ⟨S4x32, .f32⟩
  | 41 => ⟨S4x32x1x1, .f32⟩
  | 42 => ⟨S4x32, .f32⟩
  | 43 => ⟨S4x32, .i1⟩
  | 44 => ⟨S4x32, .f32⟩
  | 45 => ⟨S4x32, .f32⟩
  | 46 => ⟨S4x32, .f32⟩
  | 47 => ⟨S4x32, .f32⟩
  | 48 => ⟨S4x32, .i1⟩
  | 49 => ⟨S4x32, .f32⟩
  | 50 => ⟨S4x32, .f32⟩
  | 51 => ⟨S4x32, .f32⟩
  | 52 => ⟨S4x32, .f32⟩
  | 53 => ⟨S4x32, .f32⟩
  | 54 => ⟨S4x32, .f32⟩
  | 55 => ⟨S4x32, .f32⟩
  | 56 => ⟨S4x32, .f32⟩
  | 57 => ⟨S4x32, .f32⟩
  | 58 => ⟨S4x32, .f32⟩
  | 59 => ⟨S4x32, .f32⟩
  | 60 => ⟨S4x32, .f32⟩
  | 61 => ⟨S4x32, .f32⟩
  | 62 => ⟨S4x32, .f32⟩
  | 63 => ⟨S4x32x3x3, .f32⟩
  | 64 => ⟨S4x32x3x3, .f32⟩
  | 65 => ⟨S4x32x3x3, .f32⟩
  | 66 => ⟨S4x32x3x3, .f32⟩
  | 67 => ⟨S4x32x3x3, .f32⟩
  | 68 => ⟨S4x32x3x3, .f32⟩
  | 69 => ⟨S4x32x3x3, .f32⟩
  | 70 => ⟨S4x32x3x3, .f32⟩
  | 71 => ⟨S4x32x3x3, .f32⟩
  | 72 => ⟨S4x32x3x3, .f32⟩
  | 73 => ⟨S4x32x1x1, .f32⟩
  | 74 => ⟨S4x32, .f32⟩
  | 75 => ⟨S4x32x1x1, .f32⟩
  | 76 => ⟨S4x32, .f32⟩
  | 77 => ⟨S4x32x1x1, .f32⟩
  | 78 => ⟨S4x32, .f32⟩
  | 79 => ⟨S4x32, .i1⟩
  | 80 => ⟨S4x32, .f32⟩
  | 81 => ⟨S4x32, .f32⟩
  | 82 => ⟨S4x32, .f32⟩
  | 83 => ⟨S4x32, .f32⟩
  | 84 => ⟨S4x32, .i1⟩
  | 85 => ⟨S4x32, .f32⟩
  | 86 => ⟨S4x32, .f32⟩
  | 87 => ⟨S4x32, .f32⟩
  | 88 => ⟨S4x32, .f32⟩
  | 89 => ⟨S4x32, .f32⟩
  | 90 => ⟨S4x32, .f32⟩
  | 91 => ⟨S4x32, .f32⟩
  | 92 => ⟨S4x32, .f32⟩
  | 93 => ⟨S4x32, .f32⟩
  | 94 => ⟨S4x32, .f32⟩
  | 95 => ⟨S4x32, .f32⟩
  | 96 => ⟨S4x32, .f32⟩
  | 97 => ⟨S4x32, .f32⟩
  | 98 => ⟨S4x32, .f32⟩
  | 99 => ⟨S4x32x3x3, .f32⟩
  | 100 => ⟨S4x32x3x3, .f32⟩
  | 101 => ⟨S4x32x3x3, .f32⟩
  | 102 => ⟨S4x32x3x3, .f32⟩
  | 103 => ⟨S4x32x3x3, .f32⟩
  | 104 => ⟨S4x32x3x3, .f32⟩
  | 105 => ⟨S4x32x3x3, .f32⟩
  | 106 => ⟨S4x32x3x3, .f32⟩
  | 107 => ⟨S4x32x3x3, .f32⟩
  | 108 => ⟨S4x32x3x3, .f32⟩
  | 109 => ⟨S4x32x1x1, .f32⟩
  | 110 => ⟨S4x32, .f32⟩
  | 111 => ⟨S4x32x1x1, .f32⟩
  | 112 => ⟨S4x32, .f32⟩
  | 113 => ⟨S4x32x1x1, .f32⟩
  | 114 => ⟨S4x32, .f32⟩
  | 115 => ⟨S4x32, .i1⟩
  | 116 => ⟨S4x32, .f32⟩
  | 117 => ⟨S4x32, .f32⟩
  | 118 => ⟨S4x32, .f32⟩
  | 119 => ⟨S4x32, .f32⟩
  | 120 => ⟨S4x32, .i1⟩
  | 121 => ⟨S4x32, .f32⟩
  | 122 => ⟨S4x32, .f32⟩
  | 123 => ⟨S4x32, .f32⟩
  | 124 => ⟨S4x32, .f32⟩
  | 125 => ⟨S4x32, .f32⟩
  | 126 => ⟨S4x32, .f32⟩
  | 127 => ⟨S4x32, .f32⟩
  | _ => ⟨S4x50000x3, .f32⟩

abbrev hbmTy0_7 (i : Nat) : BufTy := match i % 128 with
  | 0 => ⟨S4x32, .f32⟩
  | 1 => ⟨S4x32, .f32⟩
  | 2 => ⟨S4x32, .f32⟩
  | 3 => ⟨S4x32, .f32⟩
  | 4 => ⟨S4x32, .f32⟩
  | 5 => ⟨S4x32, .f32⟩
  | 6 => ⟨S4x32, .f32⟩
  | 7 => ⟨S4x32x3x3, .f32⟩
  | 8 => ⟨S4x32x3x3, .f32⟩
  | 9 => ⟨S4x32x3x3, .f32⟩
  | 10 => ⟨S4x32x3x3, .f32⟩
  | 11 => ⟨S4x32x3x3, .f32⟩
  | 12 => ⟨S4x32x3x3, .f32⟩
  | 13 => ⟨S4x32x3x3, .f32⟩
  | 14 => ⟨S4x32x3x3, .f32⟩
  | 15 => ⟨S4x32x3x3, .f32⟩
  | 16 => ⟨S4x32x3x3, .f32⟩
  | 17 => ⟨S4x32x1x1, .f32⟩
  | 18 => ⟨S4x32, .f32⟩
  | 19 => ⟨S4x32x1x1, .f32⟩
  | 20 => ⟨S4x32, .f32⟩
  | 21 => ⟨S4x32x1x1, .f32⟩
  | 22 => ⟨S4x32, .f32⟩
  | 23 => ⟨S4x32x1, .f32⟩
  | 24 => ⟨S4x32x1, .f32⟩
  | 25 => ⟨S4x32x1, .f32⟩
  | 26 => ⟨S4x32x3, .f32⟩
  | 27 => ⟨S4x32x3x1, .f32⟩
  | 28 => ⟨S4x32x1x3, .f32⟩
  | 29 => ⟨S4x32x3x3, .f32⟩
  | 30 => ⟨S4x32x3x3, .f32⟩
  | 31 => ⟨S4x32x3x3, .i1⟩
  | 32 => ⟨S4x32x3x3, .f32⟩
  | 33 => ⟨S4x32x3x3, .f32⟩
  | 34 => ⟨S4x32x3x3, .i1⟩
  | 35 => ⟨S3x3, .i1⟩
  | 36 => ⟨S1x1x3x3, .i1⟩
  | 37 => ⟨S4x32x3x3, .i1⟩
  | 38 => ⟨S4x32x3x3, .i1⟩
  | 39 => ⟨S4x32x3x3, .i1⟩
  | 40 => ⟨S4x32x3x3, .f32⟩
  | 41 => ⟨S_, .f32⟩
  | 42 => ⟨S4x32x3, .f32⟩
  | 43 => ⟨S4x32x3x1, .f32⟩
  | 44 => ⟨S3x3, .f32⟩
  | 45 => ⟨S1x1x3x3, .f32⟩
  | 46 => ⟨S4x32x3x3, .f32⟩
  | 47 => ⟨S4x32x3x3, .f32⟩
  | 48 => ⟨S4x32x3x3, .i1⟩
  | 49 => ⟨S4x32x3x3, .f32⟩
  | 50 => ⟨S4x32x3x3, .f32⟩
  | 51 => ⟨S4x32x1x3, .f32⟩
  | 52 => ⟨S4x32x3, .f32⟩
  | 53 => ⟨S4x32x3, .f32⟩
  | 54 => ⟨S_, .f32⟩
  | 55 => ⟨S4x32, .f32⟩
  | 56 => ⟨S_, .f32⟩
  | 57 => ⟨S4x32, .f32⟩
  | 58 => ⟨S4x32, .i1⟩
  | 59 => ⟨S4x32x1, .i1⟩
  | 60 => ⟨S4x32x3, .f32⟩
  | 61 => ⟨S4x32x3, .i1⟩
  | 62 => ⟨S4x32x3, .f32⟩
  | 63 => ⟨S4x32x3, .f32⟩
  | 64 => ⟨S_, .f32⟩
  | 65 => ⟨S4x32, .f32⟩
  | 66 => ⟨S4x32, .f32⟩
  | 67 => ⟨S4x1x32, .i1⟩
  | 68 => ⟨S4x50000x32, .i1⟩
  | 69 => ⟨S4x50000x32, .i1⟩
  | 70 => ⟨S4x1x3, .f32⟩
  | 71 => ⟨S4x50000x3, .f32⟩
  | 72 => ⟨S4x50000x3, .f32⟩
  | 73 => ⟨S_, .f32⟩
  | 74 => ⟨S4x50000, .f32⟩
  | 75 => ⟨S4x1, .f32⟩
  | 76 => ⟨S4x50000, .f32⟩
  | 77 => ⟨S4x50000, .f32⟩
  | 78 => ⟨S4x50000x3, .f32⟩
  | 79 => ⟨S4x50000x3, .f32⟩
  | 80 => ⟨S4x50000x3, .f32⟩
  | 81 => ⟨S4x50000x1, .i1⟩
  | 82 => ⟨S4x50000, .i1⟩
  | 83 => ⟨S4x50000x3, .i1⟩
  | 84 => ⟨S4x50000x3, .f32⟩
  | 85 => ⟨S4x1x3, .f32⟩
  | 86 => ⟨S4x50000x3, .f32⟩
  | 87 => ⟨S4x50000x3, .f32⟩
  | 88 => ⟨S_, .f32⟩
  | 89 => ⟨S4x50000, .f32⟩
  | 90 => ⟨S4x1, .f32⟩
  | 91 => ⟨S4x50000, .f32⟩
  | 92 => ⟨S4x50000, .f32⟩
  | 93 => ⟨S4x50000x3, .f32⟩
  | 94 => ⟨S4x50000x3, .f32⟩
  | 95 => ⟨S4x50000x3, .f32⟩
  | 96 => ⟨S4x50000x1, .i1⟩
  | 97 => ⟨S4x50000, .i1⟩
  | 98 => ⟨S4x50000x3, .i1⟩
  | 99 => ⟨S4x50000x3, .f32⟩
  | 100 => ⟨S4x1x3, .f32⟩
  | 101 => ⟨S4x50000x3, .f32⟩
  | 102 => ⟨S4x50000x3, .f32⟩
  | 103 => ⟨S_, .f32⟩
  | 104 => ⟨S4x50000, .f32⟩
  | 105 => ⟨S4x1, .f32⟩
  | 106 => ⟨S4x50000, .f32⟩
  | 107 => ⟨S4x50000, .f32⟩
  | 108 => ⟨S4x50000x3, .f32⟩
  | 109 => ⟨S4x50000x3, .f32⟩
  | 110 => ⟨S4x50000x3, .f32⟩
  | 111 => ⟨S4x50000x1, .i1⟩
  | 112 => ⟨S4x50000, .i1⟩
  | 113 => ⟨S4x50000x3, .i1⟩
  | 114 => ⟨S4x50000x3, .f32⟩
  | 115 => ⟨S4x1x3, .f32⟩
  | 116 => ⟨S4x50000x3, .f32⟩
  | 117 => ⟨S4x50000x3, .f32⟩
  | 118 => ⟨S_, .f32⟩
  | 119 => ⟨S4x50000, .f32⟩
  | 120 => ⟨S4x1, .f32⟩
  | 121 => ⟨S4x50000, .f32⟩
  | 122 => ⟨S4x50000, .f32⟩
  | 123 => ⟨S4x50000x3, .f32⟩
  | 124 => ⟨S4x50000x3, .f32⟩
  | 125 => ⟨S4x50000x3, .f32⟩
  | 126 => ⟨S4x50000x1, .i1⟩
  | 127 => ⟨S4x50000, .i1⟩
  | _ => ⟨S4x50000x3, .f32⟩

abbrev hbmTy0_8 (i : Nat) : BufTy := match i % 128 with
  | 0 => ⟨S4x50000x3, .i1⟩
  | 1 => ⟨S4x50000x3, .f32⟩
  | 2 => ⟨S4x1x3, .f32⟩
  | 3 => ⟨S4x50000x3, .f32⟩
  | 4 => ⟨S4x50000x3, .f32⟩
  | 5 => ⟨S_, .f32⟩
  | 6 => ⟨S4x50000, .f32⟩
  | 7 => ⟨S4x1, .f32⟩
  | 8 => ⟨S4x50000, .f32⟩
  | 9 => ⟨S4x50000, .f32⟩
  | 10 => ⟨S4x50000x3, .f32⟩
  | 11 => ⟨S4x50000x3, .f32⟩
  | 12 => ⟨S4x50000x3, .f32⟩
  | 13 => ⟨S4x50000x1, .i1⟩
  | 14 => ⟨S4x50000, .i1⟩
  | 15 => ⟨S4x50000x3, .i1⟩
  | 16 => ⟨S4x50000x3, .f32⟩
  | 17 => ⟨S4x1x3, .f32⟩
  | 18 => ⟨S4x50000x3, .f32⟩
  | 19 => ⟨S4x50000x3, .f32⟩
  | 20 => ⟨S_, .f32⟩
  | 21 => ⟨S4x50000, .f32⟩
  | 22 => ⟨S4x1, .f32⟩
  | 23 => ⟨S4x50000, .f32⟩
  | 24 => ⟨S4x50000, .f32⟩
  | 25 => ⟨S4x50000x3, .f32⟩
  | 26 => ⟨S4x50000x3, .f32⟩
  | 27 => ⟨S4x50000x3, .f32⟩
  | 28 => ⟨S4x50000x1, .i1⟩
  | 29 => ⟨S4x50000, .i1⟩
  | 30 => ⟨S4x50000x3, .i1⟩
  | 31 => ⟨S4x50000x3, .f32⟩
  | 32 => ⟨S4x1x3, .f32⟩
  | 33 => ⟨S4x50000x3, .f32⟩
  | 34 => ⟨S4x50000x3, .f32⟩
  | 35 => ⟨S_, .f32⟩
  | 36 => ⟨S4x50000, .f32⟩
  | 37 => ⟨S4x1, .f32⟩
  | 38 => ⟨S4x50000, .f32⟩
  | 39 => ⟨S4x50000, .f32⟩
  | 40 => ⟨S4x50000x3, .f32⟩
  | 41 => ⟨S4x50000x3, .f32⟩
  | 42 => ⟨S4x50000x3, .f32⟩
  | 43 => ⟨S4x50000x1, .i1⟩
  | 44 => ⟨S4x50000, .i1⟩
  | 45 => ⟨S4x50000x3, .i1⟩
  | 46 => ⟨S4x50000x3, .f32⟩
  | 47 => ⟨S4x1x3, .f32⟩
  | 48 => ⟨S4x50000x3, .f32⟩
  | 49 => ⟨S4x50000x3, .f32⟩
  | 50 => ⟨S_, .f32⟩
  | 51 => ⟨S4x50000, .f32⟩
  | 52 => ⟨S4x1, .f32⟩
  | 53 => ⟨S4x50000, .f32⟩
  | 54 => ⟨S4x50000, .f32⟩
  | 55 => ⟨S4x50000x3, .f32⟩
  | 56 => ⟨S4x50000x3, .f32⟩
  | 57 => ⟨S4x50000x3, .f32⟩
  | 58 => ⟨S4x50000x1, .i1⟩
  | 59 => ⟨S4x50000, .i1⟩
  | 60 => ⟨S4x50000x3, .i1⟩
  | 61 => ⟨S4x50000x3, .f32⟩
  | 62 => ⟨S4x1x3, .f32⟩
  | 63 => ⟨S4x50000x3, .f32⟩
  | 64 => ⟨S4x50000x3, .f32⟩
  | 65 => ⟨S_, .f32⟩
  | 66 => ⟨S4x50000, .f32⟩
  | 67 => ⟨S4x1, .f32⟩
  | 68 => ⟨S4x50000, .f32⟩
  | 69 => ⟨S4x50000, .f32⟩
  | 70 => ⟨S4x50000x3, .f32⟩
  | 71 => ⟨S4x50000x3, .f32⟩
  | 72 => ⟨S4x50000x3, .f32⟩
  | 73 => ⟨S4x50000x1, .i1⟩
  | 74 => ⟨S4x50000, .i1⟩
  | 75 => ⟨S4x50000x3, .i1⟩
  | 76 => ⟨S4x50000x3, .f32⟩
  | 77 => ⟨S4x1x3, .f32⟩
  | 78 => ⟨S4x50000x3, .f32⟩
  | 79 => ⟨S4x50000x3, .f32⟩
  | 80 => ⟨S_, .f32⟩
  | 81 => ⟨S4x50000, .f32⟩
  | 82 => ⟨S4x1, .f32⟩
  | 83 => ⟨S4x50000, .f32⟩
  | 84 => ⟨S4x50000, .f32⟩
  | 85 => ⟨S4x50000x3, .f32⟩
  | 86 => ⟨S4x50000x3, .f32⟩
  | 87 => ⟨S4x50000x3, .f32⟩
  | 88 => ⟨S4x50000x1, .i1⟩
  | 89 => ⟨S4x50000, .i1⟩
  | 90 => ⟨S4x50000x3, .i1⟩
  | 91 => ⟨S4x50000x3, .f32⟩
  | 92 => ⟨S4x1x3, .f32⟩
  | 93 => ⟨S4x50000x3, .f32⟩
  | 94 => ⟨S4x50000x3, .f32⟩
  | 95 => ⟨S_, .f32⟩
  | 96 => ⟨S4x50000, .f32⟩
  | 97 => ⟨S4x1, .f32⟩
  | 98 => ⟨S4x50000, .f32⟩
  | 99 => ⟨S4x50000, .f32⟩
  | 100 => ⟨S4x50000x3, .f32⟩
  | 101 => ⟨S4x50000x3, .f32⟩
  | 102 => ⟨S4x50000x3, .f32⟩
  | 103 => ⟨S4x50000x1, .i1⟩
  | 104 => ⟨S4x50000, .i1⟩
  | 105 => ⟨S4x50000x3, .i1⟩
  | 106 => ⟨S4x50000x3, .f32⟩
  | 107 => ⟨S4x1x3, .f32⟩
  | 108 => ⟨S4x50000x3, .f32⟩
  | 109 => ⟨S4x50000x3, .f32⟩
  | 110 => ⟨S_, .f32⟩
  | 111 => ⟨S4x50000, .f32⟩
  | 112 => ⟨S4x1, .f32⟩
  | 113 => ⟨S4x50000, .f32⟩
  | 114 => ⟨S4x50000, .f32⟩
  | 115 => ⟨S4x50000x3, .f32⟩
  | 116 => ⟨S4x50000x3, .f32⟩
  | 117 => ⟨S4x50000x3, .f32⟩
  | 118 => ⟨S4x50000x1, .i1⟩
  | 119 => ⟨S4x50000, .i1⟩
  | 120 => ⟨S4x50000x3, .i1⟩
  | 121 => ⟨S4x50000x3, .f32⟩
  | 122 => ⟨S4x1x3, .f32⟩
  | 123 => ⟨S4x50000x3, .f32⟩
  | 124 => ⟨S4x50000x3, .f32⟩
  | 125 => ⟨S_, .f32⟩
  | 126 => ⟨S4x50000, .f32⟩
  | 127 => ⟨S4x1, .f32⟩
  | _ => ⟨S4x50000x3, .f32⟩

abbrev hbmTy0_9 (i : Nat) : BufTy := match i % 128 with
  | 0 => ⟨S4x50000, .f32⟩
  | 1 => ⟨S4x50000, .f32⟩
  | 2 => ⟨S4x50000x3, .f32⟩
  | 3 => ⟨S4x50000x3, .f32⟩
  | 4 => ⟨S4x50000x3, .f32⟩
  | 5 => ⟨S4x50000x1, .i1⟩
  | 6 => ⟨S4x50000, .i1⟩
  | 7 => ⟨S4x50000x3, .i1⟩
  | 8 => ⟨S4x50000x3, .f32⟩
  | 9 => ⟨S4x1x3, .f32⟩
  | 10 => ⟨S4x50000x3, .f32⟩
  | 11 => ⟨S4x50000x3, .f32⟩
  | 12 => ⟨S_, .f32⟩
  | 13 => ⟨S4x50000, .f32⟩
  | 14 => ⟨S4x1, .f32⟩
  | 15 => ⟨S4x50000, .f32⟩
  | 16 => ⟨S4x50000, .f32⟩
  | 17 => ⟨S4x50000x3, .f32⟩
  | 18 => ⟨S4x50000x3, .f32⟩
  | 19 => ⟨S4x50000x3, .f32⟩
  | 20 => ⟨S4x50000x1, .i1⟩
  | 21 => ⟨S4x50000, .i1⟩
  | 22 => ⟨S4x50000x3, .i1⟩
  | 23 => ⟨S4x50000x3, .f32⟩
  | 24 => ⟨S4x1x3, .f32⟩
  | 25 => ⟨S4x50000x3, .f32⟩
  | 26 => ⟨S4x50000x3, .f32⟩
  | 27 => ⟨S_, .f32⟩
  | 28 => ⟨S4x50000, .f32⟩
  | 29 => ⟨S4x1, .f32⟩
  | 30 => ⟨S4x50000, .f32⟩
  | 31 => ⟨S4x50000, .f32⟩
  | 32 => ⟨S4x50000x3, .f32⟩
  | 33 => ⟨S4x50000x3, .f32⟩
  | 34 => ⟨S4x50000x3, .f32⟩
  | 35 => ⟨S4x50000x1, .i1⟩
  | 36 => ⟨S4x50000, .i1⟩
  | 37 => ⟨S4x50000x3, .i1⟩
  | 38 => ⟨S4x50000x3, .f32⟩
  | 39 => ⟨S4x1x3, .f32⟩
  | 40 => ⟨S4x50000x3, .f32⟩
  | 41 => ⟨S4x50000x3, .f32⟩
  | 42 => ⟨S_, .f32⟩
  | 43 => ⟨S4x50000, .f32⟩
  | 44 => ⟨S4x1, .f32⟩
  | 45 => ⟨S4x50000, .f32⟩
  | 46 => ⟨S4x50000, .f32⟩
  | 47 => ⟨S4x50000x3, .f32⟩
  | 48 => ⟨S4x50000x3, .f32⟩
  | 49 => ⟨S4x50000x3, .f32⟩
  | 50 => ⟨S4x50000x1, .i1⟩
  | 51 => ⟨S4x50000, .i1⟩
  | 52 => ⟨S4x50000x3, .i1⟩
  | 53 => ⟨S4x50000x3, .f32⟩
  | 54 => ⟨S4x1x3, .f32⟩
  | 55 => ⟨S4x50000x3, .f32⟩
  | 56 => ⟨S4x50000x3, .f32⟩
  | 57 => ⟨S_, .f32⟩
  | 58 => ⟨S4x50000, .f32⟩
  | 59 => ⟨S4x1, .f32⟩
  | 60 => ⟨S4x50000, .f32⟩
  | 61 => ⟨S4x50000, .f32⟩
  | 62 => ⟨S4x50000x3, .f32⟩
  | 63 => ⟨S4x50000x3, .f32⟩
  | 64 => ⟨S4x50000x3, .f32⟩
  | 65 => ⟨S4x50000x1, .i1⟩
  | 66 => ⟨S4x50000, .i1⟩
  | 67 => ⟨S4x50000x3, .i1⟩
  | 68 => ⟨S4x50000x3, .f32⟩
  | 69 => ⟨S4x1x3, .f32⟩
  | 70 => ⟨S4x50000x3, .f32⟩
  | 71 => ⟨S4x50000x3, .f32⟩
  | 72 => ⟨S_, .f32⟩
  | 73 => ⟨S4x50000, .f32⟩
  | 74 => ⟨S4x1, .f32⟩
  | 75 => ⟨S4x50000, .f32⟩
  | 76 => ⟨S4x50000, .f32⟩
  | 77 => ⟨S4x50000x3, .f32⟩
  | 78 => ⟨S4x50000x3, .f32⟩
  | 79 => ⟨S4x50000x3, .f32⟩
  | 80 => ⟨S4x50000x1, .i1⟩
  | 81 => ⟨S4x50000, .i1⟩
  | 82 => ⟨S4x50000x3, .i1⟩
  | 83 => ⟨S4x50000x3, .f32⟩
  | 84 => ⟨S4x1x3, .f32⟩
  | 85 => ⟨S4x50000x3, .f32⟩
  | 86 => ⟨S4x50000x3, .f32⟩
  | 87 => ⟨S_, .f32⟩
  | 88 => ⟨S4x50000, .f32⟩
  | 89 => ⟨S4x1, .f32⟩
  | 90 => ⟨S4x50000, .f32⟩
  | 91 => ⟨S4x50000, .f32⟩
  | 92 => ⟨S4x50000x3, .f32⟩
  | 93 => ⟨S4x50000x3, .f32⟩
  | 94 => ⟨S4x50000x3, .f32⟩
  | 95 => ⟨S4x50000x1, .i1⟩
  | 96 => ⟨S4x50000, .i1⟩
  | 97 => ⟨S4x50000x3, .i1⟩
  | 98 => ⟨S4x50000x3, .f32⟩
  | 99 => ⟨S4x1x3, .f32⟩
  | 100 => ⟨S4x50000x3, .f32⟩
  | 101 => ⟨S4x50000x3, .f32⟩
  | 102 => ⟨S_, .f32⟩
  | 103 => ⟨S4x50000, .f32⟩
  | 104 => ⟨S4x1, .f32⟩
  | 105 => ⟨S4x50000, .f32⟩
  | 106 => ⟨S4x50000, .f32⟩
  | 107 => ⟨S4x50000x3, .f32⟩
  | 108 => ⟨S4x50000x3, .f32⟩
  | 109 => ⟨S4x50000x3, .f32⟩
  | 110 => ⟨S4x50000x1, .i1⟩
  | 111 => ⟨S4x50000, .i1⟩
  | 112 => ⟨S4x50000x3, .i1⟩
  | 113 => ⟨S4x50000x3, .f32⟩
  | 114 => ⟨S4x1x3, .f32⟩
  | 115 => ⟨S4x50000x3, .f32⟩
  | 116 => ⟨S4x50000x3, .f32⟩
  | 117 => ⟨S_, .f32⟩
  | 118 => ⟨S4x50000, .f32⟩
  | 119 => ⟨S4x1, .f32⟩
  | 120 => ⟨S4x50000, .f32⟩
  | 121 => ⟨S4x50000, .f32⟩
  | 122 => ⟨S4x50000x3, .f32⟩
  | 123 => ⟨S4x50000x3, .f32⟩
  | 124 => ⟨S4x50000x3, .f32⟩
  | 125 => ⟨S4x50000x1, .i1⟩
  | 126 => ⟨S4x50000, .i1⟩
  | 127 => ⟨S4x50000x3, .i1⟩
  | _ => ⟨S4x50000x3, .f32⟩

abbrev hbmTy0_10 (i : Nat) : BufTy := match i % 128 with
  | 0 => ⟨S4x50000x3, .f32⟩
  | 1 => ⟨S4x1x3, .f32⟩
  | 2 => ⟨S4x50000x3, .f32⟩
  | 3 => ⟨S4x50000x3, .f32⟩
  | 4 => ⟨S_, .f32⟩
  | 5 => ⟨S4x50000, .f32⟩
  | 6 => ⟨S4x1, .f32⟩
  | 7 => ⟨S4x50000, .f32⟩
  | 8 => ⟨S4x50000, .f32⟩
  | 9 => ⟨S4x50000x3, .f32⟩
  | 10 => ⟨S4x50000x3, .f32⟩
  | 11 => ⟨S4x50000x3, .f32⟩
  | 12 => ⟨S4x50000x1, .i1⟩
  | 13 => ⟨S4x50000, .i1⟩
  | 14 => ⟨S4x50000x3, .i1⟩
  | 15 => ⟨S4x50000x3, .f32⟩
  | 16 => ⟨S4x1x3, .f32⟩
  | 17 => ⟨S4x50000x3, .f32⟩
  | 18 => ⟨S4x50000x3, .f32⟩
  | 19 => ⟨S_, .f32⟩
  | 20 => ⟨S4x50000, .f32⟩
  | 21 => ⟨S4x1, .f32⟩
  | 22 => ⟨S4x50000, .f32⟩
  | 23 => ⟨S4x50000, .f32⟩
  | 24 => ⟨S4x50000x3, .f32⟩
  | 25 => ⟨S4x50000x3, .f32⟩
  | 26 => ⟨S4x50000x3, .f32⟩
  | 27 => ⟨S4x50000x1, .i1⟩
  | 28 => ⟨S4x50000, .i1⟩
  | 29 => ⟨S4x50000x3, .i1⟩
  | 30 => ⟨S4x50000x3, .f32⟩
  | 31 => ⟨S4x1x3, .f32⟩
  | 32 => ⟨S4x50000x3, .f32⟩
  | 33 => ⟨S4x50000x3, .f32⟩
  | 34 => ⟨S_, .f32⟩
  | 35 => ⟨S4x50000, .f32⟩
  | 36 => ⟨S4x1, .f32⟩
  | 37 => ⟨S4x50000, .f32⟩
  | 38 => ⟨S4x50000, .f32⟩
  | 39 => ⟨S4x50000x3, .f32⟩
  | 40 => ⟨S4x50000x3, .f32⟩
  | 41 => ⟨S4x50000x3, .f32⟩
  | 42 => ⟨S4x50000x1, .i1⟩
  | 43 => ⟨S4x50000, .i1⟩
  | 44 => ⟨S4x50000x3, .i1⟩
  | 45 => ⟨S4x50000x3, .f32⟩
  | 46 => ⟨S4x1x3, .f32⟩
  | 47 => ⟨S4x50000x3, .f32⟩
  | 48 => ⟨S4x50000x3, .f32⟩
  | 49 => ⟨S_, .f32⟩
  | 50 => ⟨S4x50000, .f32⟩
  | 51 => ⟨S4x1, .f32⟩
  | 52 => ⟨S4x50000, .f32⟩
  | 53 => ⟨S4x50000, .f32⟩
  | 54 => ⟨S4x50000x3, .f32⟩
  | 55 => ⟨S4x50000x3, .f32⟩
  | 56 => ⟨S4x50000x3, .f32⟩
  | 57 => ⟨S4x50000x1, .i1⟩
  | 58 => ⟨S4x50000, .i1⟩
  | 59 => ⟨S4x50000x3, .i1⟩
  | 60 => ⟨S4x50000x3, .f32⟩
  | 61 => ⟨S4x1x3, .f32⟩
  | 62 => ⟨S4x50000x3, .f32⟩
  | 63 => ⟨S4x50000x3, .f32⟩
  | 64 => ⟨S_, .f32⟩
  | 65 => ⟨S4x50000, .f32⟩
  | 66 => ⟨S4x1, .f32⟩
  | 67 => ⟨S4x50000, .f32⟩
  | 68 => ⟨S4x50000, .f32⟩
  | 69 => ⟨S4x50000x3, .f32⟩
  | 70 => ⟨S4x50000x3, .f32⟩
  | 71 => ⟨S4x50000x3, .f32⟩
  | 72 => ⟨S4x50000x1, .i1⟩
  | 73 => ⟨S4x50000, .i1⟩
  | 74 => ⟨S4x50000x3, .i1⟩
  | 75 => ⟨S4x50000x3, .f32⟩
  | 76 => ⟨S4x1x3, .f32⟩
  | 77 => ⟨S4x50000x3, .f32⟩
  | 78 => ⟨S4x50000x3, .f32⟩
  | 79 => ⟨S_, .f32⟩
  | 80 => ⟨S4x50000, .f32⟩
  | 81 => ⟨S4x1, .f32⟩
  | 82 => ⟨S4x50000, .f32⟩
  | 83 => ⟨S4x50000, .f32⟩
  | 84 => ⟨S4x50000x3, .f32⟩
  | 85 => ⟨S4x50000x3, .f32⟩
  | 86 => ⟨S4x50000x3, .f32⟩
  | 87 => ⟨S4x50000x1, .i1⟩
  | 88 => ⟨S4x50000, .i1⟩
  | 89 => ⟨S4x50000x3, .i1⟩
  | 90 => ⟨S4x50000x3, .f32⟩
  | 91 => ⟨S4x1x3, .f32⟩
  | 92 => ⟨S4x50000x3, .f32⟩
  | 93 => ⟨S4x50000x3, .f32⟩
  | 94 => ⟨S_, .f32⟩
  | 95 => ⟨S4x50000, .f32⟩
  | 96 => ⟨S4x1, .f32⟩
  | 97 => ⟨S4x50000, .f32⟩
  | 98 => ⟨S4x50000, .f32⟩
  | 99 => ⟨S4x50000x3, .f32⟩
  | 100 => ⟨S4x50000x3, .f32⟩
  | 101 => ⟨S4x50000x3, .f32⟩
  | 102 => ⟨S4x50000x1, .i1⟩
  | 103 => ⟨S4x50000, .i1⟩
  | 104 => ⟨S4x50000x3, .i1⟩
  | 105 => ⟨S4x50000x3, .f32⟩
  | 106 => ⟨S4x1x3, .f32⟩
  | 107 => ⟨S4x50000x3, .f32⟩
  | 108 => ⟨S4x50000x3, .f32⟩
  | 109 => ⟨S_, .f32⟩
  | 110 => ⟨S4x50000, .f32⟩
  | 111 => ⟨S4x1, .f32⟩
  | 112 => ⟨S4x50000, .f32⟩
  | 113 => ⟨S4x50000, .f32⟩
  | 114 => ⟨S4x50000x3, .f32⟩
  | 115 => ⟨S4x50000x3, .f32⟩
  | 116 => ⟨S4x50000x3, .f32⟩
  | 117 => ⟨S4x50000x1, .i1⟩
  | 118 => ⟨S4x50000, .i1⟩
  | 119 => ⟨S4x50000x3, .i1⟩
  | 120 => ⟨S4x50000x3, .f32⟩
  | 121 => ⟨S4x1x3, .f32⟩
  | 122 => ⟨S4x50000x3, .f32⟩
  | 123 => ⟨S4x50000x3, .f32⟩
  | 124 => ⟨S_, .f32⟩
  | 125 => ⟨S4x50000, .f32⟩
  | 126 => ⟨S4x1, .f32⟩
  | 127 => ⟨S4x50000, .f32⟩
  | _ => ⟨S4x50000x3, .f32⟩

abbrev hbmTy0_11 (i : Nat) : BufTy := match i % 128 with
  | 0 => ⟨S4x50000, .f32⟩
  | 1 => ⟨S4x50000x3, .f32⟩
  | 2 => ⟨S4x50000x3, .f32⟩
  | 3 => ⟨S4x50000x3, .f32⟩
  | 4 => ⟨S4x50000x1, .i1⟩
  | 5 => ⟨S4x50000, .i1⟩
  | 6 => ⟨S4x50000x3, .i1⟩
  | 7 => ⟨S4x50000x3, .f32⟩
  | 8 => ⟨S4x1x3, .f32⟩
  | 9 => ⟨S4x50000x3, .f32⟩
  | 10 => ⟨S4x50000x3, .f32⟩
  | 11 => ⟨S_, .f32⟩
  | 12 => ⟨S4x50000, .f32⟩
  | 13 => ⟨S4x1, .f32⟩
  | 14 => ⟨S4x50000, .f32⟩
  | 15 => ⟨S4x50000, .f32⟩
  | 16 => ⟨S4x50000x3, .f32⟩
  | 17 => ⟨S4x50000x3, .f32⟩
  | 18 => ⟨S4x50000x3, .f32⟩
  | 19 => ⟨S4x50000x1, .i1⟩
  | 20 => ⟨S4x50000, .i1⟩
  | 21 => ⟨S4x50000x3, .i1⟩
  | 22 => ⟨S4x50000x3, .f32⟩
  | 23 => ⟨S4x1x3, .f32⟩
  | 24 => ⟨S4x50000x3, .f32⟩
  | 25 => ⟨S4x50000x3, .f32⟩
  | 26 => ⟨S_, .f32⟩
  | 27 => ⟨S4x50000, .f32⟩
  | 28 => ⟨S4x1, .f32⟩
  | 29 => ⟨S4x50000, .f32⟩
  | 30 => ⟨S4x50000, .f32⟩
  | 31 => ⟨S4x50000x3, .f32⟩
  | 32 => ⟨S4x50000x3, .f32⟩
  | 33 => ⟨S4x50000x3, .f32⟩
  | 34 => ⟨S4x50000x1, .i1⟩
  | 35 => ⟨S4x50000, .i1⟩
  | 36 => ⟨S4x50000x3, .i1⟩
  | 37 => ⟨S4x50000x3, .f32⟩
  | 38 => ⟨S4x50000x3, .f32⟩
  | _ => ⟨S4x50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4x50000x3, .f32⟩

abbrev bufTy : (tb : Table) → Fin (tcTables nBuf tb) → BufTy
  | .hbm, ⟨i, _⟩ => hbmTy i
  | _, _ => ⟨S4x50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_call1_v0 : Ref sig .tc := ⟨.hbm, 92, rfl⟩
abbrev main_call1_v1 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_cst_14 : Ref sig .tc := ⟨.hbm, 103, rfl⟩
abbrev main_v80 : Ref sig .tc := ⟨.hbm, 104, rfl⟩
abbrev main_c_15 : Ref sig .tc := ⟨.hbm, 105, rfl⟩
abbrev main_v81 : Ref sig .tc := ⟨.hbm, 106, rfl⟩
abbrev main_v82 : Ref sig .tc := ⟨.hbm, 107, rfl⟩
abbrev main_c_16 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_17 : Ref sig .tc := ⟨.hbm, 112, rfl⟩
abbrev main_v86 : Ref sig .tc := ⟨.hbm, 113, rfl⟩
abbrev main_v87 : Ref sig .tc := ⟨.hbm, 114, rfl⟩
abbrev main_c_18 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_19 : Ref sig .tc := ⟨.hbm, 122, rfl⟩
abbrev main_v94 : Ref sig .tc := ⟨.hbm, 123, rfl⟩
abbrev main_v95 : Ref sig .tc := ⟨.hbm, 124, rfl⟩
abbrev main_c_20 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_21 : Ref sig .tc := ⟨.hbm, 131, rfl⟩
abbrev main_v101 : Ref sig .tc := ⟨.hbm, 132, rfl⟩
abbrev main_v102 : Ref sig .tc := ⟨.hbm, 133, rfl⟩
abbrev main_c_22 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_23 : Ref sig .tc := ⟨.hbm, 141, rfl⟩
abbrev main_v109 : Ref sig .tc := ⟨.hbm, 142, rfl⟩
abbrev main_v110 : Ref sig .tc := ⟨.hbm, 143, rfl⟩
abbrev main_c_24 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_25 : Ref sig .tc := ⟨.hbm, 150, rfl⟩
abbrev main_v116 : Ref sig .tc := ⟨.hbm, 151, rfl⟩
abbrev main_v117 : Ref sig .tc := ⟨.hbm, 152, rfl⟩
abbrev main_c_26 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_27 : Ref sig .tc := ⟨.hbm, 157, rfl⟩
abbrev main_v121 : Ref sig .tc := ⟨.hbm, 158, rfl⟩
abbrev main_v122 : Ref sig .tc := ⟨.hbm, 159, rfl⟩
abbrev main_c_28 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_c_29 : Ref sig .tc := ⟨.hbm, 167, rfl⟩
abbrev main_v129 : Ref sig .tc := ⟨.hbm, 168, rfl⟩
abbrev main_v130 : Ref sig .tc := ⟨.hbm, 169, rfl⟩
abbrev main_c_30 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_c_31 : Ref sig .tc := ⟨.hbm, 176, rfl⟩
abbrev main_v136 : Ref sig .tc := ⟨.hbm, 177, rfl⟩
abbrev main_v137 : Ref sig .tc := ⟨.hbm, 178, rfl⟩
abbrev main_c_32 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_c_33 : Ref sig .tc := ⟨.hbm, 186, rfl⟩
abbrev main_v144 : Ref sig .tc := ⟨.hbm, 187, rfl⟩
abbrev main_v145 : Ref sig .tc := ⟨.hbm, 188, rfl⟩
abbrev main_c_34 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_c_35 : Ref sig .tc := ⟨.hbm, 195, rfl⟩
abbrev main_v151 : Ref sig .tc := ⟨.hbm, 196, rfl⟩
abbrev main_v152 : Ref sig .tc := ⟨.hbm, 197, rfl⟩
abbrev main_c_36 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_37 : Ref sig .tc := ⟨.hbm, 202, rfl⟩
abbrev main_v156 : Ref sig .tc := ⟨.hbm, 203, rfl⟩
abbrev main_v157 : Ref sig .tc := ⟨.hbm, 204, rfl⟩
abbrev main_c_38 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_c_39 : Ref sig .tc := ⟨.hbm, 212, rfl⟩
abbrev main_v164 : Ref sig .tc := ⟨.hbm, 213, rfl⟩
abbrev main_v165 : Ref sig .tc := ⟨.hbm, 214, rfl⟩
abbrev main_c_40 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_c_41 : Ref sig .tc := ⟨.hbm, 221, rfl⟩
abbrev main_v171 : Ref sig .tc := ⟨.hbm, 222, rfl⟩
abbrev main_v172 : Ref sig .tc := ⟨.hbm, 223, rfl⟩
abbrev main_c_42 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_c_43 : Ref sig .tc := ⟨.hbm, 231, rfl⟩
abbrev main_v179 : Ref sig .tc := ⟨.hbm, 232, rfl⟩
abbrev main_v180 : Ref sig .tc := ⟨.hbm, 233, rfl⟩
abbrev main_c_44 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_c_45 : Ref sig .tc := ⟨.hbm, 240, rfl⟩
abbrev main_v186 : Ref sig .tc := ⟨.hbm, 241, rfl⟩
abbrev main_v187 : Ref sig .tc := ⟨.hbm, 242, rfl⟩
abbrev main_c_46 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_c_47 : Ref sig .tc := ⟨.hbm, 247, rfl⟩
abbrev main_v191 : Ref sig .tc := ⟨.hbm, 248, rfl⟩
abbrev main_v192 : Ref sig .tc := ⟨.hbm, 249, rfl⟩
abbrev main_c_48 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_c_49 : Ref sig .tc := ⟨.hbm, 254, rfl⟩
abbrev main_v196 : Ref sig .tc := ⟨.hbm, 255, rfl⟩
abbrev main_v197 : Ref sig .tc := ⟨.hbm, 256, rfl⟩
abbrev main_c_50 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_v348 : Ref sig .tc := ⟨.hbm, 408, rfl⟩
abbrev main_v349 : Ref sig .tc := ⟨.hbm, 409, rfl⟩
abbrev main_v350 : Ref sig .tc := ⟨.hbm, 410, rfl⟩
abbrev main_v351 : Ref sig .tc := ⟨.hbm, 411, rfl⟩
abbrev main_v352 : Ref sig .tc := ⟨.hbm, 412, rfl⟩
abbrev main_v353 : Ref sig .tc := ⟨.hbm, 413, rfl⟩
abbrev main_v354 : Ref sig .tc := ⟨.hbm, 414, rfl⟩
abbrev main_v355 : Ref sig .tc := ⟨.hbm, 415, rfl⟩
abbrev main_v356 : Ref sig .tc := ⟨.hbm, 416, rfl⟩
abbrev main_v357 : Ref sig .tc := ⟨.hbm, 417, rfl⟩
abbrev main_v358 : Ref sig .tc := ⟨.hbm, 418, rfl⟩
abbrev main_v359 : Ref sig .tc := ⟨.hbm, 419, rfl⟩
abbrev main_v360 : Ref sig .tc := ⟨.hbm, 420, rfl⟩
abbrev main_v361 : Ref sig .tc := ⟨.hbm, 421, rfl⟩
abbrev main_v362 : Ref sig .tc := ⟨.hbm, 422, rfl⟩
abbrev main_v363 : Ref sig .tc := ⟨.hbm, 423, rfl⟩
abbrev main_v364 : Ref sig .tc := ⟨.hbm, 424, rfl⟩
abbrev main_v365 : Ref sig .tc := ⟨.hbm, 425, rfl⟩
abbrev main_v366 : Ref sig .tc := ⟨.hbm, 426, rfl⟩
abbrev main_v367 : Ref sig .tc := ⟨.hbm, 427, rfl⟩
abbrev main_v368 : Ref sig .tc := ⟨.hbm, 428, rfl⟩
abbrev main_v369 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_v379 : Ref sig .tc := ⟨.hbm, 439, rfl⟩
abbrev main_v380 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_v384 : Ref sig .tc := ⟨.hbm, 444, rfl⟩
abbrev main_v385 : Ref sig .tc := ⟨.hbm, 445, rfl⟩
abbrev main_v386 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_v393 : Ref sig .tc := ⟨.hbm, 453, rfl⟩
abbrev main_v394 : Ref sig .tc := ⟨.hbm, 454, rfl⟩
abbrev main_v395 : Ref sig .tc := ⟨.hbm, 455, rfl⟩
abbrev main_v396 : Ref sig .tc := ⟨.hbm, 456, rfl⟩
abbrev main_v397 : Ref sig .tc := ⟨.hbm, 457, rfl⟩
abbrev main_v398 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_v403 : Ref sig .tc := ⟨.hbm, 463, rfl⟩
abbrev main_v404 : Ref sig .tc := ⟨.hbm, 464, rfl⟩
abbrev main_v405 : Ref sig .tc := ⟨.hbm, 465, rfl⟩
abbrev main_v406 : Ref sig .tc := ⟨.hbm, 466, rfl⟩
abbrev main_v407 : Ref sig .tc := ⟨.hbm, 467, rfl⟩
abbrev main_v408 : Ref sig .tc := ⟨.hbm, 468, rfl⟩
abbrev main_v409 : Ref sig .tc := ⟨.hbm, 469, rfl⟩
abbrev main_v410 : Ref sig .tc := ⟨.hbm, 470, rfl⟩
abbrev main_v411 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_v415 : Ref sig .tc := ⟨.hbm, 475, rfl⟩
abbrev main_v416 : Ref sig .tc := ⟨.hbm, 476, rfl⟩
abbrev main_v417 : Ref sig .tc := ⟨.hbm, 477, rfl⟩
abbrev main_v418 : Ref sig .tc := ⟨.hbm, 478, rfl⟩
abbrev main_v419 : Ref sig .tc := ⟨.hbm, 479, rfl⟩
abbrev main_v420 : Ref sig .tc := ⟨.hbm, 480, rfl⟩
abbrev main_v421 : Ref sig .tc := ⟨.hbm, 481, rfl⟩
abbrev main_v422 : Ref sig .tc := ⟨.hbm, 482, rfl⟩
abbrev main_v423 : Ref sig .tc := ⟨.hbm, 483, rfl⟩
abbrev main_v424 : Ref sig .tc := ⟨.hbm, 484, rfl⟩
abbrev main_v425 : Ref sig .tc := ⟨.hbm, 485, rfl⟩
abbrev main_v426 : Ref sig .tc := ⟨.hbm, 486, rfl⟩
abbrev main_v427 : Ref sig .tc := ⟨.hbm, 487, rfl⟩
abbrev main_v428 : Ref sig .tc := ⟨.hbm, 488, rfl⟩
abbrev main_v429 : Ref sig .tc := ⟨.hbm, 489, rfl⟩
abbrev main_v430 : Ref sig .tc := ⟨.hbm, 490, rfl⟩
abbrev main_v431 : Ref sig .tc := ⟨.hbm, 491, rfl⟩
abbrev main_v432 : Ref sig .tc := ⟨.hbm, 492, rfl⟩
abbrev main_v433 : Ref sig .tc := ⟨.hbm, 493, rfl⟩
abbrev main_v434 : Ref sig .tc := ⟨.hbm, 494, rfl⟩
abbrev main_v435 : Ref sig .tc := ⟨.hbm, 495, rfl⟩
abbrev main_v436 : Ref sig .tc := ⟨.hbm, 496, rfl⟩
abbrev main_v437 : Ref sig .tc := ⟨.hbm, 497, rfl⟩
abbrev main_v438 : Ref sig .tc := ⟨.hbm, 498, rfl⟩
abbrev main_v439 : Ref sig .tc := ⟨.hbm, 499, rfl⟩
abbrev main_v440 : Ref sig .tc := ⟨.hbm, 500, rfl⟩
abbrev main_v441 : Ref sig .tc := ⟨.hbm, 501, rfl⟩
abbrev main_v442 : Ref sig .tc := ⟨.hbm, 502, rfl⟩
abbrev main_v443 : Ref sig .tc := ⟨.hbm, 503, rfl⟩
abbrev main_v444 : Ref sig .tc := ⟨.hbm, 504, rfl⟩
abbrev main_v445 : Ref sig .tc := ⟨.hbm, 505, rfl⟩
abbrev main_v446 : Ref sig .tc := ⟨.hbm, 506, rfl⟩
abbrev main_v447 : Ref sig .tc := ⟨.hbm, 507, rfl⟩
abbrev main_v448 : Ref sig .tc := ⟨.hbm, 508, rfl⟩
abbrev main_v449 : Ref sig .tc := ⟨.hbm, 509, rfl⟩
abbrev main_v450 : Ref sig .tc := ⟨.hbm, 510, rfl⟩
abbrev main_v451 : Ref sig .tc := ⟨.hbm, 511, rfl⟩
abbrev main_v452 : Ref sig .tc := ⟨.hbm, 512, rfl⟩
abbrev main_v453 : Ref sig .tc := ⟨.hbm, 513, rfl⟩
abbrev main_v454 : Ref sig .tc := ⟨.hbm, 514, rfl⟩
abbrev main_v455 : Ref sig .tc := ⟨.hbm, 515, rfl⟩
abbrev main_v456 : Ref sig .tc := ⟨.hbm, 516, rfl⟩
abbrev main_v457 : Ref sig .tc := ⟨.hbm, 517, rfl⟩
abbrev main_v458 : Ref sig .tc := ⟨.hbm, 518, rfl⟩
abbrev main_v459 : Ref sig .tc := ⟨.hbm, 519, rfl⟩
abbrev main_v460 : Ref sig .tc := ⟨.hbm, 520, rfl⟩
abbrev main_v461 : Ref sig .tc := ⟨.hbm, 521, rfl⟩
abbrev main_v462 : Ref sig .tc := ⟨.hbm, 522, rfl⟩
abbrev main_v463 : Ref sig .tc := ⟨.hbm, 523, rfl⟩
abbrev main_v464 : Ref sig .tc := ⟨.hbm, 524, rfl⟩
abbrev main_v465 : Ref sig .tc := ⟨.hbm, 525, rfl⟩
abbrev main_v466 : Ref sig .tc := ⟨.hbm, 526, rfl⟩
abbrev main_v467 : Ref sig .tc := ⟨.hbm, 527, rfl⟩
abbrev main_v468 : Ref sig .tc := ⟨.hbm, 528, rfl⟩
abbrev main_v469 : Ref sig .tc := ⟨.hbm, 529, rfl⟩
abbrev main_v470 : Ref sig .tc := ⟨.hbm, 530, rfl⟩
abbrev main_v471 : Ref sig .tc := ⟨.hbm, 531, rfl⟩
abbrev main_v472 : Ref sig .tc := ⟨.hbm, 532, rfl⟩
abbrev main_v473 : Ref sig .tc := ⟨.hbm, 533, rfl⟩
abbrev main_v474 : Ref sig .tc := ⟨.hbm, 534, rfl⟩
abbrev main_v475 : Ref sig .tc := ⟨.hbm, 535, rfl⟩
abbrev main_v476 : Ref sig .tc := ⟨.hbm, 536, rfl⟩
abbrev main_v477 : Ref sig .tc := ⟨.hbm, 537, rfl⟩
abbrev main_v478 : Ref sig .tc := ⟨.hbm, 538, rfl⟩
abbrev main_v479 : Ref sig .tc := ⟨.hbm, 539, rfl⟩
abbrev main_v480 : Ref sig .tc := ⟨.hbm, 540, rfl⟩
abbrev main_v481 : Ref sig .tc := ⟨.hbm, 541, rfl⟩
abbrev main_v482 : Ref sig .tc := ⟨.hbm, 542, rfl⟩
abbrev main_v483 : Ref sig .tc := ⟨.hbm, 543, rfl⟩
abbrev main_v484 : Ref sig .tc := ⟨.hbm, 544, rfl⟩
abbrev main_v485 : Ref sig .tc := ⟨.hbm, 545, rfl⟩
abbrev main_v486 : Ref sig .tc := ⟨.hbm, 546, rfl⟩
abbrev main_v487 : Ref sig .tc := ⟨.hbm, 547, rfl⟩
abbrev main_v488 : Ref sig .tc := ⟨.hbm, 548, rfl⟩
abbrev main_v489 : Ref sig .tc := ⟨.hbm, 549, rfl⟩
abbrev main_v490 : Ref sig .tc := ⟨.hbm, 550, rfl⟩
abbrev main_v491 : Ref sig .tc := ⟨.hbm, 551, rfl⟩
abbrev main_v492 : Ref sig .tc := ⟨.hbm, 552, rfl⟩
abbrev main_v493 : Ref sig .tc := ⟨.hbm, 553, rfl⟩
abbrev main_v494 : Ref sig .tc := ⟨.hbm, 554, rfl⟩
abbrev main_v495 : Ref sig .tc := ⟨.hbm, 555, rfl⟩
abbrev main_v496 : Ref sig .tc := ⟨.hbm, 556, rfl⟩
abbrev main_v497 : Ref sig .tc := ⟨.hbm, 557, rfl⟩
abbrev main_v498 : Ref sig .tc := ⟨.hbm, 558, rfl⟩
abbrev main_v499 : Ref sig .tc := ⟨.hbm, 559, rfl⟩
abbrev main_v500 : Ref sig .tc := ⟨.hbm, 560, rfl⟩
abbrev main_v501 : Ref sig .tc := ⟨.hbm, 561, rfl⟩
abbrev main_v502 : Ref sig .tc := ⟨.hbm, 562, rfl⟩
abbrev main_v503 : Ref sig .tc := ⟨.hbm, 563, rfl⟩
abbrev main_v504 : Ref sig .tc := ⟨.hbm, 564, rfl⟩
abbrev main_v505 : Ref sig .tc := ⟨.hbm, 565, rfl⟩
abbrev main_v506 : Ref sig .tc := ⟨.hbm, 566, rfl⟩
abbrev main_v507 : Ref sig .tc := ⟨.hbm, 567, rfl⟩
abbrev main_v508 : Ref sig .tc := ⟨.hbm, 568, rfl⟩
abbrev main_v509 : Ref sig .tc := ⟨.hbm, 569, rfl⟩
abbrev main_v510 : Ref sig .tc := ⟨.hbm, 570, rfl⟩
abbrev main_v511 : Ref sig .tc := ⟨.hbm, 571, rfl⟩
abbrev main_v512 : Ref sig .tc := ⟨.hbm, 572, rfl⟩
abbrev main_v513 : Ref sig .tc := ⟨.hbm, 573, rfl⟩
abbrev main_v514 : Ref sig .tc := ⟨.hbm, 574, rfl⟩
abbrev main_v515 : Ref sig .tc := ⟨.hbm, 575, rfl⟩
abbrev main_v516 : Ref sig .tc := ⟨.hbm, 576, rfl⟩
abbrev main_v517 : Ref sig .tc := ⟨.hbm, 577, rfl⟩
abbrev main_v518 : Ref sig .tc := ⟨.hbm, 578, rfl⟩
abbrev main_v519 : Ref sig .tc := ⟨.hbm, 579, rfl⟩
abbrev main_v520 : Ref sig .tc := ⟨.hbm, 580, rfl⟩
abbrev main_v521 : Ref sig .tc := ⟨.hbm, 581, rfl⟩
abbrev main_v522 : Ref sig .tc := ⟨.hbm, 582, rfl⟩
abbrev main_v523 : Ref sig .tc := ⟨.hbm, 583, rfl⟩
abbrev main_v524 : Ref sig .tc := ⟨.hbm, 584, rfl⟩
abbrev main_v525 : Ref sig .tc := ⟨.hbm, 585, rfl⟩
abbrev main_v526 : Ref sig .tc := ⟨.hbm, 586, rfl⟩
abbrev main_v527 : Ref sig .tc := ⟨.hbm, 587, rfl⟩
abbrev main_v528 : Ref sig .tc := ⟨.hbm, 588, rfl⟩
abbrev main_v529 : Ref sig .tc := ⟨.hbm, 589, rfl⟩
abbrev main_v530 : Ref sig .tc := ⟨.hbm, 590, rfl⟩
abbrev main_v531 : Ref sig .tc := ⟨.hbm, 591, rfl⟩
abbrev main_v532 : Ref sig .tc := ⟨.hbm, 592, rfl⟩
abbrev main_v533 : Ref sig .tc := ⟨.hbm, 593, rfl⟩
abbrev main_v534 : Ref sig .tc := ⟨.hbm, 594, rfl⟩
abbrev main_v535 : Ref sig .tc := ⟨.hbm, 595, rfl⟩
abbrev main_v536 : Ref sig .tc := ⟨.hbm, 596, rfl⟩
abbrev main_v537 : Ref sig .tc := ⟨.hbm, 597, rfl⟩
abbrev main_v538 : Ref sig .tc := ⟨.hbm, 598, rfl⟩
abbrev main_v539 : Ref sig .tc := ⟨.hbm, 599, rfl⟩
abbrev main_v540 : Ref sig .tc := ⟨.hbm, 600, rfl⟩
abbrev main_v541 : Ref sig .tc := ⟨.hbm, 601, rfl⟩
abbrev main_v542 : Ref sig .tc := ⟨.hbm, 602, rfl⟩
abbrev main_v543 : Ref sig .tc := ⟨.hbm, 603, rfl⟩
abbrev main_v544 : Ref sig .tc := ⟨.hbm, 604, rfl⟩
abbrev main_v545 : Ref sig .tc := ⟨.hbm, 605, rfl⟩
abbrev main_v546 : Ref sig .tc := ⟨.hbm, 606, rfl⟩
abbrev main_v547 : Ref sig .tc := ⟨.hbm, 607, rfl⟩
abbrev main_v548 : Ref sig .tc := ⟨.hbm, 608, rfl⟩
abbrev main_v549 : Ref sig .tc := ⟨.hbm, 609, rfl⟩
abbrev main_v550 : Ref sig .tc := ⟨.hbm, 610, rfl⟩
abbrev main_v551 : Ref sig .tc := ⟨.hbm, 611, rfl⟩
abbrev main_v552 : Ref sig .tc := ⟨.hbm, 612, rfl⟩
abbrev main_v553 : Ref sig .tc := ⟨.hbm, 613, rfl⟩
abbrev main_v554 : Ref sig .tc := ⟨.hbm, 614, rfl⟩
abbrev main_v555 : Ref sig .tc := ⟨.hbm, 615, rfl⟩
abbrev main_v556 : Ref sig .tc := ⟨.hbm, 616, rfl⟩
abbrev main_v557 : Ref sig .tc := ⟨.hbm, 617, rfl⟩
abbrev main_v558 : Ref sig .tc := ⟨.hbm, 618, rfl⟩
abbrev main_v559 : Ref sig .tc := ⟨.hbm, 619, rfl⟩
abbrev main_v560 : Ref sig .tc := ⟨.hbm, 620, rfl⟩
abbrev main_v561 : Ref sig .tc := ⟨.hbm, 621, rfl⟩
abbrev main_v562 : Ref sig .tc := ⟨.hbm, 622, rfl⟩
abbrev main_v563 : Ref sig .tc := ⟨.hbm, 623, rfl⟩
abbrev main_v564 : Ref sig .tc := ⟨.hbm, 624, rfl⟩
abbrev main_v565 : Ref sig .tc := ⟨.hbm, 625, rfl⟩
abbrev main_v566 : Ref sig .tc := ⟨.hbm, 626, rfl⟩
abbrev main_v567 : Ref sig .tc := ⟨.hbm, 627, rfl⟩
abbrev main_v568 : Ref sig .tc := ⟨.hbm, 628, rfl⟩
abbrev main_v569 : Ref sig .tc := ⟨.hbm, 629, rfl⟩
abbrev main_v570 : Ref sig .tc := ⟨.hbm, 630, rfl⟩
abbrev main_v571 : Ref sig .tc := ⟨.hbm, 631, rfl⟩
abbrev main_v572 : Ref sig .tc := ⟨.hbm, 632, rfl⟩
abbrev main_v573 : Ref sig .tc := ⟨.hbm, 633, rfl⟩
abbrev main_v574 : Ref sig .tc := ⟨.hbm, 634, rfl⟩
abbrev main_v575 : Ref sig .tc := ⟨.hbm, 635, rfl⟩
abbrev main_v576 : Ref sig .tc := ⟨.hbm, 636, rfl⟩
abbrev main_v577 : Ref sig .tc := ⟨.hbm, 637, rfl⟩
abbrev main_v578 : Ref sig .tc := ⟨.hbm, 638, rfl⟩
abbrev main_v579 : Ref sig .tc := ⟨.hbm, 639, rfl⟩
abbrev main_v580 : Ref sig .tc := ⟨.hbm, 640, rfl⟩
abbrev main_v581 : Ref sig .tc := ⟨.hbm, 641, rfl⟩
abbrev main_v582 : Ref sig .tc := ⟨.hbm, 642, rfl⟩
abbrev main_v583 : Ref sig .tc := ⟨.hbm, 643, rfl⟩
abbrev main_v584 : Ref sig .tc := ⟨.hbm, 644, rfl⟩
abbrev main_v585 : Ref sig .tc := ⟨.hbm, 645, rfl⟩
abbrev main_v586 : Ref sig .tc := ⟨.hbm, 646, rfl⟩
abbrev main_v587 : Ref sig .tc := ⟨.hbm, 647, rfl⟩
abbrev main_v588 : Ref sig .tc := ⟨.hbm, 648, rfl⟩
abbrev main_v589 : Ref sig .tc := ⟨.hbm, 649, rfl⟩
abbrev main_v590 : Ref sig .tc := ⟨.hbm, 650, rfl⟩
abbrev main_v591 : Ref sig .tc := ⟨.hbm, 651, rfl⟩
abbrev main_v592 : Ref sig .tc := ⟨.hbm, 652, rfl⟩
abbrev main_v593 : Ref sig .tc := ⟨.hbm, 653, rfl⟩
abbrev main_v594 : Ref sig .tc := ⟨.hbm, 654, rfl⟩
abbrev main_v595 : Ref sig .tc := ⟨.hbm, 655, rfl⟩
abbrev main_v596 : Ref sig .tc := ⟨.hbm, 656, rfl⟩
abbrev main_v597 : Ref sig .tc := ⟨.hbm, 657, rfl⟩
abbrev main_v598 : Ref sig .tc := ⟨.hbm, 658, rfl⟩
abbrev main_v599 : Ref sig .tc := ⟨.hbm, 659, rfl⟩
abbrev main_v600 : Ref sig .tc := ⟨.hbm, 660, rfl⟩
abbrev main_v601 : Ref sig .tc := ⟨.hbm, 661, rfl⟩
abbrev main_v602 : Ref sig .tc := ⟨.hbm, 662, rfl⟩
abbrev main_v603 : Ref sig .tc := ⟨.hbm, 663, rfl⟩
abbrev main_v604 : Ref sig .tc := ⟨.hbm, 664, rfl⟩
abbrev main_v605 : Ref sig .tc := ⟨.hbm, 665, rfl⟩
abbrev main_v606 : Ref sig .tc := ⟨.hbm, 666, rfl⟩
abbrev main_v607 : Ref sig .tc := ⟨.hbm, 667, rfl⟩
abbrev main_v608 : Ref sig .tc := ⟨.hbm, 668, rfl⟩
abbrev main_v609 : Ref sig .tc := ⟨.hbm, 669, rfl⟩
abbrev main_v610 : Ref sig .tc := ⟨.hbm, 670, rfl⟩
abbrev main_v611 : Ref sig .tc := ⟨.hbm, 671, rfl⟩
abbrev main_v612 : Ref sig .tc := ⟨.hbm, 672, rfl⟩
abbrev main_v613 : Ref sig .tc := ⟨.hbm, 673, rfl⟩
abbrev main_v614 : Ref sig .tc := ⟨.hbm, 674, rfl⟩
abbrev main_v615 : Ref sig .tc := ⟨.hbm, 675, rfl⟩
abbrev main_v616 : Ref sig .tc := ⟨.hbm, 676, rfl⟩
abbrev main_v617 : Ref sig .tc := ⟨.hbm, 677, rfl⟩
abbrev main_v618 : Ref sig .tc := ⟨.hbm, 678, rfl⟩
abbrev main_v619 : Ref sig .tc := ⟨.hbm, 679, rfl⟩
abbrev main_v620 : Ref sig .tc := ⟨.hbm, 680, rfl⟩
abbrev main_v621 : Ref sig .tc := ⟨.hbm, 681, rfl⟩
abbrev main_v622 : Ref sig .tc := ⟨.hbm, 682, rfl⟩
abbrev main_v623 : Ref sig .tc := ⟨.hbm, 683, rfl⟩
abbrev main_v624 : Ref sig .tc := ⟨.hbm, 684, rfl⟩
abbrev main_v625 : Ref sig .tc := ⟨.hbm, 685, rfl⟩
abbrev main_v626 : Ref sig .tc := ⟨.hbm, 686, rfl⟩
abbrev main_v627 : Ref sig .tc := ⟨.hbm, 687, rfl⟩
abbrev main_v628 : Ref sig .tc := ⟨.hbm, 688, rfl⟩
abbrev main_v629 : Ref sig .tc := ⟨.hbm, 689, rfl⟩
abbrev main_v630 : Ref sig .tc := ⟨.hbm, 690, rfl⟩
abbrev main_v631 : Ref sig .tc := ⟨.hbm, 691, rfl⟩
abbrev main_v632 : Ref sig .tc := ⟨.hbm, 692, rfl⟩
abbrev main_v633 : Ref sig .tc := ⟨.hbm, 693, rfl⟩
abbrev main_v634 : Ref sig .tc := ⟨.hbm, 694, rfl⟩
abbrev main_v635 : Ref sig .tc := ⟨.hbm, 695, rfl⟩
abbrev main_v636 : Ref sig .tc := ⟨.hbm, 696, rfl⟩
abbrev main_v637 : Ref sig .tc := ⟨.hbm, 697, rfl⟩
abbrev main_v638 : Ref sig .tc := ⟨.hbm, 698, rfl⟩
abbrev main_v639 : Ref sig .tc := ⟨.hbm, 699, rfl⟩
abbrev main_v640 : Ref sig .tc := ⟨.hbm, 700, rfl⟩
abbrev main_v641 : Ref sig .tc := ⟨.hbm, 701, rfl⟩
abbrev main_v642 : Ref sig .tc := ⟨.hbm, 702, rfl⟩
abbrev main_v643 : Ref sig .tc := ⟨.hbm, 703, rfl⟩
abbrev main_v644 : Ref sig .tc := ⟨.hbm, 704, rfl⟩
abbrev main_v645 : Ref sig .tc := ⟨.hbm, 705, rfl⟩
abbrev main_v646 : Ref sig .tc := ⟨.hbm, 706, rfl⟩
abbrev main_v647 : Ref sig .tc := ⟨.hbm, 707, rfl⟩
abbrev main_v648 : Ref sig .tc := ⟨.hbm, 708, rfl⟩
abbrev main_v649 : Ref sig .tc := ⟨.hbm, 709, rfl⟩
abbrev main_v650 : Ref sig .tc := ⟨.hbm, 710, rfl⟩
abbrev main_v651 : Ref sig .tc := ⟨.hbm, 711, rfl⟩
abbrev main_v652 : Ref sig .tc := ⟨.hbm, 712, rfl⟩
abbrev main_v653 : Ref sig .tc := ⟨.hbm, 713, rfl⟩
abbrev main_v654 : Ref sig .tc := ⟨.hbm, 714, rfl⟩
abbrev main_v655 : Ref sig .tc := ⟨.hbm, 715, rfl⟩
abbrev main_v656 : Ref sig .tc := ⟨.hbm, 716, rfl⟩
abbrev main_v657 : Ref sig .tc := ⟨.hbm, 717, rfl⟩
abbrev main_v658 : Ref sig .tc := ⟨.hbm, 718, rfl⟩
abbrev main_v659 : Ref sig .tc := ⟨.hbm, 719, rfl⟩
abbrev main_v660 : Ref sig .tc := ⟨.hbm, 720, rfl⟩
abbrev main_v661 : Ref sig .tc := ⟨.hbm, 721, rfl⟩
abbrev main_v662 : Ref sig .tc := ⟨.hbm, 722, rfl⟩
abbrev main_v663 : Ref sig .tc := ⟨.hbm, 723, rfl⟩
abbrev main_v664 : Ref sig .tc := ⟨.hbm, 724, rfl⟩
abbrev main_v665 : Ref sig .tc := ⟨.hbm, 725, rfl⟩
abbrev main_v666 : Ref sig .tc := ⟨.hbm, 726, rfl⟩
abbrev main_v667 : Ref sig .tc := ⟨.hbm, 727, rfl⟩
abbrev main_v668 : Ref sig .tc := ⟨.hbm, 728, rfl⟩
abbrev main_v669 : Ref sig .tc := ⟨.hbm, 729, rfl⟩
abbrev main_v670 : Ref sig .tc := ⟨.hbm, 730, rfl⟩
abbrev main_v671 : Ref sig .tc := ⟨.hbm, 731, rfl⟩
abbrev main_v672 : Ref sig .tc := ⟨.hbm, 732, rfl⟩
abbrev main_v673 : Ref sig .tc := ⟨.hbm, 733, rfl⟩
abbrev main_v674 : Ref sig .tc := ⟨.hbm, 734, rfl⟩
abbrev main_v675 : Ref sig .tc := ⟨.hbm, 735, rfl⟩
abbrev main_v676 : Ref sig .tc := ⟨.hbm, 736, rfl⟩
abbrev main_v677 : Ref sig .tc := ⟨.hbm, 737, rfl⟩
abbrev main_v678 : Ref sig .tc := ⟨.hbm, 738, rfl⟩
abbrev main_v679 : Ref sig .tc := ⟨.hbm, 739, rfl⟩
abbrev main_v680 : Ref sig .tc := ⟨.hbm, 740, rfl⟩
abbrev main_v681 : Ref sig .tc := ⟨.hbm, 741, rfl⟩
abbrev main_v682 : Ref sig .tc := ⟨.hbm, 742, rfl⟩
abbrev main_v683 : Ref sig .tc := ⟨.hbm, 743, rfl⟩
abbrev main_v684 : Ref sig .tc := ⟨.hbm, 744, rfl⟩
abbrev main_v685 : Ref sig .tc := ⟨.hbm, 745, rfl⟩
abbrev main_v686 : Ref sig .tc := ⟨.hbm, 746, rfl⟩
abbrev main_v687 : Ref sig .tc := ⟨.hbm, 747, rfl⟩
abbrev main_v688 : Ref sig .tc := ⟨.hbm, 748, rfl⟩
abbrev main_v689 : Ref sig .tc := ⟨.hbm, 749, rfl⟩
abbrev main_v690 : Ref sig .tc := ⟨.hbm, 750, rfl⟩
abbrev main_v691 : Ref sig .tc := ⟨.hbm, 751, rfl⟩
abbrev main_v692 : Ref sig .tc := ⟨.hbm, 752, rfl⟩
abbrev main_v693 : Ref sig .tc := ⟨.hbm, 753, rfl⟩
abbrev main_v694 : Ref sig .tc := ⟨.hbm, 754, rfl⟩
abbrev main_v695 : Ref sig .tc := ⟨.hbm, 755, rfl⟩
abbrev main_v696 : Ref sig .tc := ⟨.hbm, 756, rfl⟩
abbrev main_v697 : Ref sig .tc := ⟨.hbm, 757, rfl⟩
abbrev main_v698 : Ref sig .tc := ⟨.hbm, 758, rfl⟩
abbrev main_v699 : Ref sig .tc := ⟨.hbm, 759, rfl⟩
abbrev main_v700 : Ref sig .tc := ⟨.hbm, 760, rfl⟩
abbrev main_v701 : Ref sig .tc := ⟨.hbm, 761, rfl⟩
abbrev main_v702 : Ref sig .tc := ⟨.hbm, 762, rfl⟩
abbrev main_v703 : Ref sig .tc := ⟨.hbm, 763, rfl⟩
abbrev main_v704 : Ref sig .tc := ⟨.hbm, 764, rfl⟩
abbrev main_v705 : Ref sig .tc := ⟨.hbm, 765, rfl⟩
abbrev main_v706 : Ref sig .tc := ⟨.hbm, 766, rfl⟩
abbrev main_v707 : Ref sig .tc := ⟨.hbm, 767, rfl⟩
abbrev main_v708 : Ref sig .tc := ⟨.hbm, 768, rfl⟩
abbrev main_v709 : Ref sig .tc := ⟨.hbm, 769, rfl⟩
abbrev main_v710 : Ref sig .tc := ⟨.hbm, 770, rfl⟩
abbrev main_v711 : Ref sig .tc := ⟨.hbm, 771, rfl⟩
abbrev main_v712 : Ref sig .tc := ⟨.hbm, 772, rfl⟩
abbrev main_v713 : Ref sig .tc := ⟨.hbm, 773, rfl⟩
abbrev main_v714 : Ref sig .tc := ⟨.hbm, 774, rfl⟩
abbrev main_v715 : Ref sig .tc := ⟨.hbm, 775, rfl⟩
abbrev main_v716 : Ref sig .tc := ⟨.hbm, 776, rfl⟩
abbrev main_v717 : Ref sig .tc := ⟨.hbm, 777, rfl⟩
abbrev main_v718 : Ref sig .tc := ⟨.hbm, 778, rfl⟩
abbrev main_v719 : Ref sig .tc := ⟨.hbm, 779, rfl⟩
abbrev main_v720 : Ref sig .tc := ⟨.hbm, 780, rfl⟩
abbrev main_v721 : Ref sig .tc := ⟨.hbm, 781, rfl⟩
abbrev main_v722 : Ref sig .tc := ⟨.hbm, 782, rfl⟩
abbrev main_v723 : Ref sig .tc := ⟨.hbm, 783, rfl⟩
abbrev main_v724 : Ref sig .tc := ⟨.hbm, 784, rfl⟩
abbrev main_v725 : Ref sig .tc := ⟨.hbm, 785, rfl⟩
abbrev main_v726 : Ref sig .tc := ⟨.hbm, 786, rfl⟩
abbrev main_v727 : Ref sig .tc := ⟨.hbm, 787, rfl⟩
abbrev main_v728 : Ref sig .tc := ⟨.hbm, 788, rfl⟩
abbrev main_v729 : Ref sig .tc := ⟨.hbm, 789, rfl⟩
abbrev main_v730 : Ref sig .tc := ⟨.hbm, 790, rfl⟩
abbrev main_v731 : Ref sig .tc := ⟨.hbm, 791, rfl⟩
abbrev main_v732 : Ref sig .tc := ⟨.hbm, 792, rfl⟩
abbrev main_v733 : Ref sig .tc := ⟨.hbm, 793, rfl⟩
abbrev main_v734 : Ref sig .tc := ⟨.hbm, 794, rfl⟩
abbrev main_v735 : Ref sig .tc := ⟨.hbm, 795, rfl⟩
abbrev main_v736 : Ref sig .tc := ⟨.hbm, 796, rfl⟩
abbrev main_v737 : Ref sig .tc := ⟨.hbm, 797, rfl⟩
abbrev main_v738 : Ref sig .tc := ⟨.hbm, 798, rfl⟩
abbrev main_v739 : Ref sig .tc := ⟨.hbm, 799, rfl⟩
abbrev main_v740 : Ref sig .tc := ⟨.hbm, 800, rfl⟩
abbrev main_v741 : Ref sig .tc := ⟨.hbm, 801, rfl⟩
abbrev main_v742 : Ref sig .tc := ⟨.hbm, 802, rfl⟩
abbrev main_v743 : Ref sig .tc := ⟨.hbm, 803, rfl⟩
abbrev main_v744 : Ref sig .tc := ⟨.hbm, 804, rfl⟩
abbrev main_v745 : Ref sig .tc := ⟨.hbm, 805, rfl⟩
abbrev main_v746 : Ref sig .tc := ⟨.hbm, 806, rfl⟩
abbrev main_v747 : Ref sig .tc := ⟨.hbm, 807, rfl⟩
abbrev main_v748 : Ref sig .tc := ⟨.hbm, 808, rfl⟩
abbrev main_v749 : Ref sig .tc := ⟨.hbm, 809, rfl⟩
abbrev main_v750 : Ref sig .tc := ⟨.hbm, 810, rfl⟩
abbrev main_v751 : Ref sig .tc := ⟨.hbm, 811, rfl⟩
abbrev main_v752 : Ref sig .tc := ⟨.hbm, 812, rfl⟩
abbrev main_v753 : Ref sig .tc := ⟨.hbm, 813, rfl⟩
abbrev main_v754 : Ref sig .tc := ⟨.hbm, 814, rfl⟩
abbrev main_v755 : Ref sig .tc := ⟨.hbm, 815, rfl⟩
abbrev main_v756 : Ref sig .tc := ⟨.hbm, 816, rfl⟩
abbrev main_v757 : Ref sig .tc := ⟨.hbm, 817, rfl⟩
abbrev main_v758 : Ref sig .tc := ⟨.hbm, 818, rfl⟩
abbrev main_v759 : Ref sig .tc := ⟨.hbm, 819, rfl⟩
abbrev main_v760 : Ref sig .tc := ⟨.hbm, 820, rfl⟩
abbrev main_v761 : Ref sig .tc := ⟨.hbm, 821, rfl⟩
abbrev main_v762 : Ref sig .tc := ⟨.hbm, 822, rfl⟩
abbrev main_v763 : Ref sig .tc := ⟨.hbm, 823, rfl⟩
abbrev main_v764 : Ref sig .tc := ⟨.hbm, 824, rfl⟩
abbrev main_v765 : Ref sig .tc := ⟨.hbm, 825, rfl⟩
abbrev main_v766 : Ref sig .tc := ⟨.hbm, 826, rfl⟩
abbrev main_v767 : Ref sig .tc := ⟨.hbm, 827, rfl⟩
abbrev main_v768 : Ref sig .tc := ⟨.hbm, 828, rfl⟩
abbrev main_v769 : Ref sig .tc := ⟨.hbm, 829, rfl⟩
abbrev main_v770 : Ref sig .tc := ⟨.hbm, 830, rfl⟩
abbrev main_v771 : Ref sig .tc := ⟨.hbm, 831, rfl⟩
abbrev main_v772 : Ref sig .tc := ⟨.hbm, 832, rfl⟩
abbrev main_v773 : Ref sig .tc := ⟨.hbm, 833, rfl⟩
abbrev main_v774 : Ref sig .tc := ⟨.hbm, 834, rfl⟩
abbrev main_v775 : Ref sig .tc := ⟨.hbm, 835, rfl⟩
abbrev main_v776 : Ref sig .tc := ⟨.hbm, 836, rfl⟩
abbrev main_v777 : Ref sig .tc := ⟨.hbm, 837, rfl⟩
abbrev main_v778 : Ref sig .tc := ⟨.hbm, 838, rfl⟩
abbrev main_v779 : Ref sig .tc := ⟨.hbm, 839, rfl⟩
abbrev main_v780 : Ref sig .tc := ⟨.hbm, 840, rfl⟩
abbrev main_v781 : Ref sig .tc := ⟨.hbm, 841, rfl⟩
abbrev main_v782 : Ref sig .tc := ⟨.hbm, 842, rfl⟩
abbrev main_v783 : Ref sig .tc := ⟨.hbm, 843, rfl⟩
abbrev main_v784 : Ref sig .tc := ⟨.hbm, 844, rfl⟩
abbrev main_v785 : Ref sig .tc := ⟨.hbm, 845, rfl⟩
abbrev main_v786 : Ref sig .tc := ⟨.hbm, 846, rfl⟩
abbrev main_v787 : Ref sig .tc := ⟨.hbm, 847, rfl⟩
abbrev main_v788 : Ref sig .tc := ⟨.hbm, 848, rfl⟩
abbrev main_v789 : Ref sig .tc := ⟨.hbm, 849, rfl⟩
abbrev main_v790 : Ref sig .tc := ⟨.hbm, 850, rfl⟩
abbrev main_v791 : Ref sig .tc := ⟨.hbm, 851, rfl⟩
abbrev main_v792 : Ref sig .tc := ⟨.hbm, 852, rfl⟩
abbrev main_v793 : Ref sig .tc := ⟨.hbm, 853, rfl⟩
abbrev main_v794 : Ref sig .tc := ⟨.hbm, 854, rfl⟩
abbrev main_v795 : Ref sig .tc := ⟨.hbm, 855, rfl⟩
abbrev main_v796 : Ref sig .tc := ⟨.hbm, 856, rfl⟩
abbrev main_v797 : Ref sig .tc := ⟨.hbm, 857, rfl⟩
abbrev main_v798 : Ref sig .tc := ⟨.hbm, 858, rfl⟩
abbrev main_v799 : Ref sig .tc := ⟨.hbm, 859, rfl⟩
abbrev main_v800 : Ref sig .tc := ⟨.hbm, 860, rfl⟩
abbrev main_v801 : Ref sig .tc := ⟨.hbm, 861, rfl⟩
abbrev main_v802 : Ref sig .tc := ⟨.hbm, 862, rfl⟩
abbrev main_v803 : Ref sig .tc := ⟨.hbm, 863, rfl⟩
abbrev main_v804 : Ref sig .tc := ⟨.hbm, 864, rfl⟩
abbrev main_v805 : Ref sig .tc := ⟨.hbm, 865, rfl⟩
abbrev main_v806 : Ref sig .tc := ⟨.hbm, 866, rfl⟩
abbrev main_v807 : Ref sig .tc := ⟨.hbm, 867, rfl⟩
abbrev main_v808 : Ref sig .tc := ⟨.hbm, 868, rfl⟩
abbrev main_v809 : Ref sig .tc := ⟨.hbm, 869, rfl⟩
abbrev main_v810 : Ref sig .tc := ⟨.hbm, 870, rfl⟩
abbrev main_v811 : Ref sig .tc := ⟨.hbm, 871, rfl⟩
abbrev main_v812 : Ref sig .tc := ⟨.hbm, 872, rfl⟩
abbrev main_v813 : Ref sig .tc := ⟨.hbm, 873, rfl⟩
abbrev main_v814 : Ref sig .tc := ⟨.hbm, 874, rfl⟩
abbrev main_v815 : Ref sig .tc := ⟨.hbm, 875, rfl⟩
abbrev main_v816 : Ref sig .tc := ⟨.hbm, 876, rfl⟩
abbrev main_v817 : Ref sig .tc := ⟨.hbm, 877, rfl⟩
abbrev main_v818 : Ref sig .tc := ⟨.hbm, 878, rfl⟩
abbrev main_v819 : Ref sig .tc := ⟨.hbm, 879, rfl⟩
abbrev main_v820 : Ref sig .tc := ⟨.hbm, 880, rfl⟩
abbrev main_v821 : Ref sig .tc := ⟨.hbm, 881, rfl⟩
abbrev main_v822 : Ref sig .tc := ⟨.hbm, 882, rfl⟩
abbrev main_v823 : Ref sig .tc := ⟨.hbm, 883, rfl⟩
abbrev main_v824 : Ref sig .tc := ⟨.hbm, 884, rfl⟩
abbrev main_v825 : Ref sig .tc := ⟨.hbm, 885, rfl⟩
abbrev main_v826 : Ref sig .tc := ⟨.hbm, 886, rfl⟩
abbrev main_v827 : Ref sig .tc := ⟨.hbm, 887, rfl⟩
abbrev main_v828 : Ref sig .tc := ⟨.hbm, 888, rfl⟩
abbrev main_v829 : Ref sig .tc := ⟨.hbm, 889, rfl⟩
abbrev main_v830 : Ref sig .tc := ⟨.hbm, 890, rfl⟩
abbrev main_v831 : Ref sig .tc := ⟨.hbm, 891, rfl⟩
abbrev main_v832 : Ref sig .tc := ⟨.hbm, 892, rfl⟩
abbrev main_v833 : Ref sig .tc := ⟨.hbm, 893, rfl⟩
abbrev main_v834 : Ref sig .tc := ⟨.hbm, 894, rfl⟩
abbrev main_v835 : Ref sig .tc := ⟨.hbm, 895, rfl⟩
abbrev main_v836 : Ref sig .tc := ⟨.hbm, 896, rfl⟩
abbrev main_v837 : Ref sig .tc := ⟨.hbm, 897, rfl⟩
abbrev main_v838 : Ref sig .tc := ⟨.hbm, 898, rfl⟩
abbrev main_v839 : Ref sig .tc := ⟨.hbm, 899, rfl⟩
abbrev main_v840 : Ref sig .tc := ⟨.hbm, 900, rfl⟩
abbrev main_v841 : Ref sig .tc := ⟨.hbm, 901, rfl⟩
abbrev main_v842 : Ref sig .tc := ⟨.hbm, 902, rfl⟩
abbrev main_v843 : Ref sig .tc := ⟨.hbm, 903, rfl⟩
abbrev main_v844 : Ref sig .tc := ⟨.hbm, 904, rfl⟩
abbrev main_v845 : Ref sig .tc := ⟨.hbm, 905, rfl⟩
abbrev main_v846 : Ref sig .tc := ⟨.hbm, 906, rfl⟩
abbrev main_v847 : Ref sig .tc := ⟨.hbm, 907, rfl⟩
abbrev main_v848 : Ref sig .tc := ⟨.hbm, 908, rfl⟩
abbrev main_v849 : Ref sig .tc := ⟨.hbm, 909, rfl⟩
abbrev main_v850 : Ref sig .tc := ⟨.hbm, 910, rfl⟩
abbrev main_v851 : Ref sig .tc := ⟨.hbm, 911, rfl⟩
abbrev main_v852 : Ref sig .tc := ⟨.hbm, 912, rfl⟩
abbrev main_v853 : Ref sig .tc := ⟨.hbm, 913, rfl⟩
abbrev main_v854 : Ref sig .tc := ⟨.hbm, 914, rfl⟩
abbrev main_v855 : Ref sig .tc := ⟨.hbm, 915, rfl⟩
abbrev main_v856 : Ref sig .tc := ⟨.hbm, 916, rfl⟩
abbrev main_v857 : Ref sig .tc := ⟨.hbm, 917, rfl⟩
abbrev main_v858 : Ref sig .tc := ⟨.hbm, 918, rfl⟩
abbrev main_v859 : Ref sig .tc := ⟨.hbm, 919, rfl⟩
abbrev main_v860 : Ref sig .tc := ⟨.hbm, 920, rfl⟩
abbrev main_v861 : Ref sig .tc := ⟨.hbm, 921, rfl⟩
abbrev main_v862 : Ref sig .tc := ⟨.hbm, 922, rfl⟩
abbrev main_v863 : Ref sig .tc := ⟨.hbm, 923, rfl⟩
abbrev main_v864 : Ref sig .tc := ⟨.hbm, 924, rfl⟩
abbrev main_v865 : Ref sig .tc := ⟨.hbm, 925, rfl⟩
abbrev main_v866 : Ref sig .tc := ⟨.hbm, 926, rfl⟩
abbrev main_v867 : Ref sig .tc := ⟨.hbm, 927, rfl⟩
abbrev main_v868 : Ref sig .tc := ⟨.hbm, 928, rfl⟩
abbrev main_v869 : Ref sig .tc := ⟨.hbm, 929, rfl⟩
abbrev main_v870 : Ref sig .tc := ⟨.hbm, 930, rfl⟩
abbrev main_v871 : Ref sig .tc := ⟨.hbm, 931, rfl⟩
abbrev main_v872 : Ref sig .tc := ⟨.hbm, 932, rfl⟩
abbrev main_v873 : Ref sig .tc := ⟨.hbm, 933, rfl⟩
abbrev main_v874 : Ref sig .tc := ⟨.hbm, 934, rfl⟩
abbrev main_v875 : Ref sig .tc := ⟨.hbm, 935, rfl⟩
abbrev main_v876 : Ref sig .tc := ⟨.hbm, 936, rfl⟩
abbrev main_cst_51 : Ref sig .tc := ⟨.hbm, 937, rfl⟩
abbrev main_v877 : Ref sig .tc := ⟨.hbm, 938, rfl⟩
abbrev main_v878 : Ref sig .tc := ⟨.hbm, 939, rfl⟩
abbrev main_v879 : Ref sig .tc := ⟨.hbm, 940, rfl⟩
abbrev main_v880 : Ref sig .tc := ⟨.hbm, 941, rfl⟩
abbrev main_v881 : Ref sig .tc := ⟨.hbm, 942, rfl⟩
abbrev main_v882 : Ref sig .tc := ⟨.hbm, 943, rfl⟩
abbrev main_v883 : Ref sig .tc := ⟨.hbm, 944, rfl⟩
abbrev main_v884 : Ref sig .tc := ⟨.hbm, 945, rfl⟩
abbrev main_v885 : Ref sig .tc := ⟨.hbm, 946, rfl⟩
abbrev main_v886 : Ref sig .tc := ⟨.hbm, 947, rfl⟩
abbrev main_v887 : Ref sig .tc := ⟨.hbm, 948, rfl⟩
abbrev main_v888 : Ref sig .tc := ⟨.hbm, 949, rfl⟩
abbrev main_cst_52 : Ref sig .tc := ⟨.hbm, 950, rfl⟩
abbrev main_v889 : Ref sig .tc := ⟨.hbm, 951, rfl⟩
abbrev main_cst_53 : Ref sig .tc := ⟨.hbm, 952, rfl⟩
abbrev main_v890 : Ref sig .tc := ⟨.hbm, 953, rfl⟩
abbrev main_v891 : Ref sig .tc := ⟨.hbm, 954, rfl⟩
abbrev main_v892 : Ref sig .tc := ⟨.hbm, 955, rfl⟩
abbrev main_v893 : Ref sig .tc := ⟨.hbm, 956, rfl⟩
abbrev main_call2_v0 : Ref sig .tc := ⟨.hbm, 957, rfl⟩
abbrev main_v894 : Ref sig .tc := ⟨.hbm, 958, rfl⟩
abbrev main_v895 : Ref sig .tc := ⟨.hbm, 959, rfl⟩
abbrev main_cst_54 : Ref sig .tc := ⟨.hbm, 960, rfl⟩
abbrev main_v896 : Ref sig .tc := ⟨.hbm, 961, rfl⟩
abbrev main_v897 : Ref sig .tc := ⟨.hbm, 962, rfl⟩
abbrev main_v898 : Ref sig .tc := ⟨.hbm, 963, rfl⟩
abbrev main_v899 : Ref sig .tc := ⟨.hbm, 964, rfl⟩
abbrev main_v900 : Ref sig .tc := ⟨.hbm, 965, rfl⟩
abbrev main_v901 : Ref sig .tc := ⟨.hbm, 966, rfl⟩
abbrev main_v902 : Ref sig .tc := ⟨.hbm, 967, rfl⟩
abbrev main_v903 : Ref sig .tc := ⟨.hbm, 968, rfl⟩
abbrev main_cst_55 : Ref sig .tc := ⟨.hbm, 969, rfl⟩
abbrev main_v904 : Ref sig .tc := ⟨.hbm, 970, rfl⟩
abbrev main_v905 : Ref sig .tc := ⟨.hbm, 971, rfl⟩
abbrev main_v906 : Ref sig .tc := ⟨.hbm, 972, rfl⟩
abbrev main_v907 : Ref sig .tc := ⟨.hbm, 973, rfl⟩
abbrev main_v908 : Ref sig .tc := ⟨.hbm, 974, rfl⟩
abbrev main_v909 : Ref sig .tc := ⟨.hbm, 975, rfl⟩
abbrev main_v910 : Ref sig .tc := ⟨.hbm, 976, rfl⟩
abbrev main_v911 : Ref sig .tc := ⟨.hbm, 977, rfl⟩
abbrev main_v912 : Ref sig .tc := ⟨.hbm, 978, rfl⟩
abbrev main_v913 : Ref sig .tc := ⟨.hbm, 979, rfl⟩
abbrev main_v914 : Ref sig .tc := ⟨.hbm, 980, rfl⟩
abbrev main_v915 : Ref sig .tc := ⟨.hbm, 981, rfl⟩
abbrev main_v916 : Ref sig .tc := ⟨.hbm, 982, rfl⟩
abbrev main_v917 : Ref sig .tc := ⟨.hbm, 983, rfl⟩
abbrev main_cst_56 : Ref sig .tc := ⟨.hbm, 984, rfl⟩
abbrev main_v918 : Ref sig .tc := ⟨.hbm, 985, rfl⟩
abbrev main_v919 : Ref sig .tc := ⟨.hbm, 986, rfl⟩
abbrev main_v920 : Ref sig .tc := ⟨.hbm, 987, rfl⟩
abbrev main_v921 : Ref sig .tc := ⟨.hbm, 988, rfl⟩
abbrev main_v922 : Ref sig .tc := ⟨.hbm, 989, rfl⟩
abbrev main_v923 : Ref sig .tc := ⟨.hbm, 990, rfl⟩
abbrev main_v924 : Ref sig .tc := ⟨.hbm, 991, rfl⟩
abbrev main_v925 : Ref sig .tc := ⟨.hbm, 992, rfl⟩
abbrev main_v926 : Ref sig .tc := ⟨.hbm, 993, rfl⟩
abbrev main_v927 : Ref sig .tc := ⟨.hbm, 994, rfl⟩
abbrev main_v928 : Ref sig .tc := ⟨.hbm, 995, rfl⟩
abbrev main_v929 : Ref sig .tc := ⟨.hbm, 996, rfl⟩
abbrev main_v930 : Ref sig .tc := ⟨.hbm, 997, rfl⟩
abbrev main_v931 : Ref sig .tc := ⟨.hbm, 998, rfl⟩
abbrev main_cst_57 : Ref sig .tc := ⟨.hbm, 999, rfl⟩
abbrev main_v932 : Ref sig .tc := ⟨.hbm, 1000, rfl⟩
abbrev main_v933 : Ref sig .tc := ⟨.hbm, 1001, rfl⟩
abbrev main_v934 : Ref sig .tc := ⟨.hbm, 1002, rfl⟩
abbrev main_v935 : Ref sig .tc := ⟨.hbm, 1003, rfl⟩
abbrev main_v936 : Ref sig .tc := ⟨.hbm, 1004, rfl⟩
abbrev main_v937 : Ref sig .tc := ⟨.hbm, 1005, rfl⟩
abbrev main_v938 : Ref sig .tc := ⟨.hbm, 1006, rfl⟩
abbrev main_v939 : Ref sig .tc := ⟨.hbm, 1007, rfl⟩
abbrev main_v940 : Ref sig .tc := ⟨.hbm, 1008, rfl⟩
abbrev main_v941 : Ref sig .tc := ⟨.hbm, 1009, rfl⟩
abbrev main_v942 : Ref sig .tc := ⟨.hbm, 1010, rfl⟩
abbrev main_v943 : Ref sig .tc := ⟨.hbm, 1011, rfl⟩
abbrev main_v944 : Ref sig .tc := ⟨.hbm, 1012, rfl⟩
abbrev main_v945 : Ref sig .tc := ⟨.hbm, 1013, rfl⟩
abbrev main_cst_58 : Ref sig .tc := ⟨.hbm, 1014, rfl⟩
abbrev main_v946 : Ref sig .tc := ⟨.hbm, 1015, rfl⟩
abbrev main_v947 : Ref sig .tc := ⟨.hbm, 1016, rfl⟩
abbrev main_v948 : Ref sig .tc := ⟨.hbm, 1017, rfl⟩
abbrev main_v949 : Ref sig .tc := ⟨.hbm, 1018, rfl⟩
abbrev main_v950 : Ref sig .tc := ⟨.hbm, 1019, rfl⟩
abbrev main_v951 : Ref sig .tc := ⟨.hbm, 1020, rfl⟩
abbrev main_v952 : Ref sig .tc := ⟨.hbm, 1021, rfl⟩
abbrev main_v953 : Ref sig .tc := ⟨.hbm, 1022, rfl⟩
abbrev main_v954 : Ref sig .tc := ⟨.hbm, 1023, rfl⟩
abbrev main_v955 : Ref sig .tc := ⟨.hbm, 1024, rfl⟩
abbrev main_v956 : Ref sig .tc := ⟨.hbm, 1025, rfl⟩
abbrev main_v957 : Ref sig .tc := ⟨.hbm, 1026, rfl⟩
abbrev main_v958 : Ref sig .tc := ⟨.hbm, 1027, rfl⟩
abbrev main_v959 : Ref sig .tc := ⟨.hbm, 1028, rfl⟩
abbrev main_cst_59 : Ref sig .tc := ⟨.hbm, 1029, rfl⟩
abbrev main_v960 : Ref sig .tc := ⟨.hbm, 1030, rfl⟩
abbrev main_v961 : Ref sig .tc := ⟨.hbm, 1031, rfl⟩
abbrev main_v962 : Ref sig .tc := ⟨.hbm, 1032, rfl⟩
abbrev main_v963 : Ref sig .tc := ⟨.hbm, 1033, rfl⟩
abbrev main_v964 : Ref sig .tc := ⟨.hbm, 1034, rfl⟩
abbrev main_v965 : Ref sig .tc := ⟨.hbm, 1035, rfl⟩
abbrev main_v966 : Ref sig .tc := ⟨.hbm, 1036, rfl⟩
abbrev main_v967 : Ref sig .tc := ⟨.hbm, 1037, rfl⟩
abbrev main_v968 : Ref sig .tc := ⟨.hbm, 1038, rfl⟩
abbrev main_v969 : Ref sig .tc := ⟨.hbm, 1039, rfl⟩
abbrev main_v970 : Ref sig .tc := ⟨.hbm, 1040, rfl⟩
abbrev main_v971 : Ref sig .tc := ⟨.hbm, 1041, rfl⟩
abbrev main_v972 : Ref sig .tc := ⟨.hbm, 1042, rfl⟩
abbrev main_v973 : Ref sig .tc := ⟨.hbm, 1043, rfl⟩
abbrev main_cst_60 : Ref sig .tc := ⟨.hbm, 1044, rfl⟩
abbrev main_v974 : Ref sig .tc := ⟨.hbm, 1045, rfl⟩
abbrev main_v975 : Ref sig .tc := ⟨.hbm, 1046, rfl⟩
abbrev main_v976 : Ref sig .tc := ⟨.hbm, 1047, rfl⟩
abbrev main_v977 : Ref sig .tc := ⟨.hbm, 1048, rfl⟩
abbrev main_v978 : Ref sig .tc := ⟨.hbm, 1049, rfl⟩
abbrev main_v979 : Ref sig .tc := ⟨.hbm, 1050, rfl⟩
abbrev main_v980 : Ref sig .tc := ⟨.hbm, 1051, rfl⟩
abbrev main_v981 : Ref sig .tc := ⟨.hbm, 1052, rfl⟩
abbrev main_v982 : Ref sig .tc := ⟨.hbm, 1053, rfl⟩
abbrev main_v983 : Ref sig .tc := ⟨.hbm, 1054, rfl⟩
abbrev main_v984 : Ref sig .tc := ⟨.hbm, 1055, rfl⟩
abbrev main_v985 : Ref sig .tc := ⟨.hbm, 1056, rfl⟩
abbrev main_v986 : Ref sig .tc := ⟨.hbm, 1057, rfl⟩
abbrev main_v987 : Ref sig .tc := ⟨.hbm, 1058, rfl⟩
abbrev main_cst_61 : Ref sig .tc := ⟨.hbm, 1059, rfl⟩
abbrev main_v988 : Ref sig .tc := ⟨.hbm, 1060, rfl⟩
abbrev main_v989 : Ref sig .tc := ⟨.hbm, 1061, rfl⟩
abbrev main_v990 : Ref sig .tc := ⟨.hbm, 1062, rfl⟩
abbrev main_v991 : Ref sig .tc := ⟨.hbm, 1063, rfl⟩
abbrev main_v992 : Ref sig .tc := ⟨.hbm, 1064, rfl⟩
abbrev main_v993 : Ref sig .tc := ⟨.hbm, 1065, rfl⟩
abbrev main_v994 : Ref sig .tc := ⟨.hbm, 1066, rfl⟩
abbrev main_v995 : Ref sig .tc := ⟨.hbm, 1067, rfl⟩
abbrev main_v996 : Ref sig .tc := ⟨.hbm, 1068, rfl⟩
abbrev main_v997 : Ref sig .tc := ⟨.hbm, 1069, rfl⟩
abbrev main_v998 : Ref sig .tc := ⟨.hbm, 1070, rfl⟩
abbrev main_v999 : Ref sig .tc := ⟨.hbm, 1071, rfl⟩
abbrev main_v1000 : Ref sig .tc := ⟨.hbm, 1072, rfl⟩
abbrev main_v1001 : Ref sig .tc := ⟨.hbm, 1073, rfl⟩
abbrev main_cst_62 : Ref sig .tc := ⟨.hbm, 1074, rfl⟩
abbrev main_v1002 : Ref sig .tc := ⟨.hbm, 1075, rfl⟩
abbrev main_v1003 : Ref sig .tc := ⟨.hbm, 1076, rfl⟩
abbrev main_v1004 : Ref sig .tc := ⟨.hbm, 1077, rfl⟩
abbrev main_v1005 : Ref sig .tc := ⟨.hbm, 1078, rfl⟩
abbrev main_v1006 : Ref sig .tc := ⟨.hbm, 1079, rfl⟩
abbrev main_v1007 : Ref sig .tc := ⟨.hbm, 1080, rfl⟩
abbrev main_v1008 : Ref sig .tc := ⟨.hbm, 1081, rfl⟩
abbrev main_v1009 : Ref sig .tc := ⟨.hbm, 1082, rfl⟩
abbrev main_v1010 : Ref sig .tc := ⟨.hbm, 1083, rfl⟩
abbrev main_v1011 : Ref sig .tc := ⟨.hbm, 1084, rfl⟩
abbrev main_v1012 : Ref sig .tc := ⟨.hbm, 1085, rfl⟩
abbrev main_v1013 : Ref sig .tc := ⟨.hbm, 1086, rfl⟩
abbrev main_v1014 : Ref sig .tc := ⟨.hbm, 1087, rfl⟩
abbrev main_v1015 : Ref sig .tc := ⟨.hbm, 1088, rfl⟩
abbrev main_cst_63 : Ref sig .tc := ⟨.hbm, 1089, rfl⟩
abbrev main_v1016 : Ref sig .tc := ⟨.hbm, 1090, rfl⟩
abbrev main_v1017 : Ref sig .tc := ⟨.hbm, 1091, rfl⟩
abbrev main_v1018 : Ref sig .tc := ⟨.hbm, 1092, rfl⟩
abbrev main_v1019 : Ref sig .tc := ⟨.hbm, 1093, rfl⟩
abbrev main_v1020 : Ref sig .tc := ⟨.hbm, 1094, rfl⟩
abbrev main_v1021 : Ref sig .tc := ⟨.hbm, 1095, rfl⟩
abbrev main_v1022 : Ref sig .tc := ⟨.hbm, 1096, rfl⟩
abbrev main_v1023 : Ref sig .tc := ⟨.hbm, 1097, rfl⟩
abbrev main_v1024 : Ref sig .tc := ⟨.hbm, 1098, rfl⟩
abbrev main_v1025 : Ref sig .tc := ⟨.hbm, 1099, rfl⟩
abbrev main_v1026 : Ref sig .tc := ⟨.hbm, 1100, rfl⟩
abbrev main_v1027 : Ref sig .tc := ⟨.hbm, 1101, rfl⟩
abbrev main_v1028 : Ref sig .tc := ⟨.hbm, 1102, rfl⟩
abbrev main_v1029 : Ref sig .tc := ⟨.hbm, 1103, rfl⟩
abbrev main_cst_64 : Ref sig .tc := ⟨.hbm, 1104, rfl⟩
abbrev main_v1030 : Ref sig .tc := ⟨.hbm, 1105, rfl⟩
abbrev main_v1031 : Ref sig .tc := ⟨.hbm, 1106, rfl⟩
abbrev main_v1032 : Ref sig .tc := ⟨.hbm, 1107, rfl⟩
abbrev main_v1033 : Ref sig .tc := ⟨.hbm, 1108, rfl⟩
abbrev main_v1034 : Ref sig .tc := ⟨.hbm, 1109, rfl⟩
abbrev main_v1035 : Ref sig .tc := ⟨.hbm, 1110, rfl⟩
abbrev main_v1036 : Ref sig .tc := ⟨.hbm, 1111, rfl⟩
abbrev main_v1037 : Ref sig .tc := ⟨.hbm, 1112, rfl⟩
abbrev main_v1038 : Ref sig .tc := ⟨.hbm, 1113, rfl⟩
abbrev main_v1039 : Ref sig .tc := ⟨.hbm, 1114, rfl⟩
abbrev main_v1040 : Ref sig .tc := ⟨.hbm, 1115, rfl⟩
abbrev main_v1041 : Ref sig .tc := ⟨.hbm, 1116, rfl⟩
abbrev main_v1042 : Ref sig .tc := ⟨.hbm, 1117, rfl⟩
abbrev main_v1043 : Ref sig .tc := ⟨.hbm, 1118, rfl⟩
abbrev main_cst_65 : Ref sig .tc := ⟨.hbm, 1119, rfl⟩
abbrev main_v1044 : Ref sig .tc := ⟨.hbm, 1120, rfl⟩
abbrev main_v1045 : Ref sig .tc := ⟨.hbm, 1121, rfl⟩
abbrev main_v1046 : Ref sig .tc := ⟨.hbm, 1122, rfl⟩
abbrev main_v1047 : Ref sig .tc := ⟨.hbm, 1123, rfl⟩
abbrev main_v1048 : Ref sig .tc := ⟨.hbm, 1124, rfl⟩
abbrev main_v1049 : Ref sig .tc := ⟨.hbm, 1125, rfl⟩
abbrev main_v1050 : Ref sig .tc := ⟨.hbm, 1126, rfl⟩
abbrev main_v1051 : Ref sig .tc := ⟨.hbm, 1127, rfl⟩
abbrev main_v1052 : Ref sig .tc := ⟨.hbm, 1128, rfl⟩
abbrev main_v1053 : Ref sig .tc := ⟨.hbm, 1129, rfl⟩
abbrev main_v1054 : Ref sig .tc := ⟨.hbm, 1130, rfl⟩
abbrev main_v1055 : Ref sig .tc := ⟨.hbm, 1131, rfl⟩
abbrev main_v1056 : Ref sig .tc := ⟨.hbm, 1132, rfl⟩
abbrev main_v1057 : Ref sig .tc := ⟨.hbm, 1133, rfl⟩
abbrev main_cst_66 : Ref sig .tc := ⟨.hbm, 1134, rfl⟩
abbrev main_v1058 : Ref sig .tc := ⟨.hbm, 1135, rfl⟩
abbrev main_v1059 : Ref sig .tc := ⟨.hbm, 1136, rfl⟩
abbrev main_v1060 : Ref sig .tc := ⟨.hbm, 1137, rfl⟩
abbrev main_v1061 : Ref sig .tc := ⟨.hbm, 1138, rfl⟩
abbrev main_v1062 : Ref sig .tc := ⟨.hbm, 1139, rfl⟩
abbrev main_v1063 : Ref sig .tc := ⟨.hbm, 1140, rfl⟩
abbrev main_v1064 : Ref sig .tc := ⟨.hbm, 1141, rfl⟩
abbrev main_v1065 : Ref sig .tc := ⟨.hbm, 1142, rfl⟩
abbrev main_v1066 : Ref sig .tc := ⟨.hbm, 1143, rfl⟩
abbrev main_v1067 : Ref sig .tc := ⟨.hbm, 1144, rfl⟩
abbrev main_v1068 : Ref sig .tc := ⟨.hbm, 1145, rfl⟩
abbrev main_v1069 : Ref sig .tc := ⟨.hbm, 1146, rfl⟩
abbrev main_v1070 : Ref sig .tc := ⟨.hbm, 1147, rfl⟩
abbrev main_v1071 : Ref sig .tc := ⟨.hbm, 1148, rfl⟩
abbrev main_cst_67 : Ref sig .tc := ⟨.hbm, 1149, rfl⟩
abbrev main_v1072 : Ref sig .tc := ⟨.hbm, 1150, rfl⟩
abbrev main_v1073 : Ref sig .tc := ⟨.hbm, 1151, rfl⟩
abbrev main_v1074 : Ref sig .tc := ⟨.hbm, 1152, rfl⟩
abbrev main_v1075 : Ref sig .tc := ⟨.hbm, 1153, rfl⟩
abbrev main_v1076 : Ref sig .tc := ⟨.hbm, 1154, rfl⟩
abbrev main_v1077 : Ref sig .tc := ⟨.hbm, 1155, rfl⟩
abbrev main_v1078 : Ref sig .tc := ⟨.hbm, 1156, rfl⟩
abbrev main_v1079 : Ref sig .tc := ⟨.hbm, 1157, rfl⟩
abbrev main_v1080 : Ref sig .tc := ⟨.hbm, 1158, rfl⟩
abbrev main_v1081 : Ref sig .tc := ⟨.hbm, 1159, rfl⟩
abbrev main_v1082 : Ref sig .tc := ⟨.hbm, 1160, rfl⟩
abbrev main_v1083 : Ref sig .tc := ⟨.hbm, 1161, rfl⟩
abbrev main_v1084 : Ref sig .tc := ⟨.hbm, 1162, rfl⟩
abbrev main_v1085 : Ref sig .tc := ⟨.hbm, 1163, rfl⟩
abbrev main_cst_68 : Ref sig .tc := ⟨.hbm, 1164, rfl⟩
abbrev main_v1086 : Ref sig .tc := ⟨.hbm, 1165, rfl⟩
abbrev main_v1087 : Ref sig .tc := ⟨.hbm, 1166, rfl⟩
abbrev main_v1088 : Ref sig .tc := ⟨.hbm, 1167, rfl⟩
abbrev main_v1089 : Ref sig .tc := ⟨.hbm, 1168, rfl⟩
abbrev main_v1090 : Ref sig .tc := ⟨.hbm, 1169, rfl⟩
abbrev main_v1091 : Ref sig .tc := ⟨.hbm, 1170, rfl⟩
abbrev main_v1092 : Ref sig .tc := ⟨.hbm, 1171, rfl⟩
abbrev main_v1093 : Ref sig .tc := ⟨.hbm, 1172, rfl⟩
abbrev main_v1094 : Ref sig .tc := ⟨.hbm, 1173, rfl⟩
abbrev main_v1095 : Ref sig .tc := ⟨.hbm, 1174, rfl⟩
abbrev main_v1096 : Ref sig .tc := ⟨.hbm, 1175, rfl⟩
abbrev main_v1097 : Ref sig .tc := ⟨.hbm, 1176, rfl⟩
abbrev main_v1098 : Ref sig .tc := ⟨.hbm, 1177, rfl⟩
abbrev main_v1099 : Ref sig .tc := ⟨.hbm, 1178, rfl⟩
abbrev main_cst_69 : Ref sig .tc := ⟨.hbm, 1179, rfl⟩
abbrev main_v1100 : Ref sig .tc := ⟨.hbm, 1180, rfl⟩
abbrev main_v1101 : Ref sig .tc := ⟨.hbm, 1181, rfl⟩
abbrev main_v1102 : Ref sig .tc := ⟨.hbm, 1182, rfl⟩
abbrev main_v1103 : Ref sig .tc := ⟨.hbm, 1183, rfl⟩
abbrev main_v1104 : Ref sig .tc := ⟨.hbm, 1184, rfl⟩
abbrev main_v1105 : Ref sig .tc := ⟨.hbm, 1185, rfl⟩
abbrev main_v1106 : Ref sig .tc := ⟨.hbm, 1186, rfl⟩
abbrev main_v1107 : Ref sig .tc := ⟨.hbm, 1187, rfl⟩
abbrev main_v1108 : Ref sig .tc := ⟨.hbm, 1188, rfl⟩
abbrev main_v1109 : Ref sig .tc := ⟨.hbm, 1189, rfl⟩
abbrev main_v1110 : Ref sig .tc := ⟨.hbm, 1190, rfl⟩
abbrev main_v1111 : Ref sig .tc := ⟨.hbm, 1191, rfl⟩
abbrev main_v1112 : Ref sig .tc := ⟨.hbm, 1192, rfl⟩
abbrev main_v1113 : Ref sig .tc := ⟨.hbm, 1193, rfl⟩
abbrev main_cst_70 : Ref sig .tc := ⟨.hbm, 1194, rfl⟩
abbrev main_v1114 : Ref sig .tc := ⟨.hbm, 1195, rfl⟩
abbrev main_v1115 : Ref sig .tc := ⟨.hbm, 1196, rfl⟩
abbrev main_v1116 : Ref sig .tc := ⟨.hbm, 1197, rfl⟩
abbrev main_v1117 : Ref sig .tc := ⟨.hbm, 1198, rfl⟩
abbrev main_v1118 : Ref sig .tc := ⟨.hbm, 1199, rfl⟩
abbrev main_v1119 : Ref sig .tc := ⟨.hbm, 1200, rfl⟩
abbrev main_v1120 : Ref sig .tc := ⟨.hbm, 1201, rfl⟩
abbrev main_v1121 : Ref sig .tc := ⟨.hbm, 1202, rfl⟩
abbrev main_v1122 : Ref sig .tc := ⟨.hbm, 1203, rfl⟩
abbrev main_v1123 : Ref sig .tc := ⟨.hbm, 1204, rfl⟩
abbrev main_v1124 : Ref sig .tc := ⟨.hbm, 1205, rfl⟩
abbrev main_v1125 : Ref sig .tc := ⟨.hbm, 1206, rfl⟩
abbrev main_v1126 : Ref sig .tc := ⟨.hbm, 1207, rfl⟩
abbrev main_v1127 : Ref sig .tc := ⟨.hbm, 1208, rfl⟩
abbrev main_cst_71 : Ref sig .tc := ⟨.hbm, 1209, rfl⟩
abbrev main_v1128 : Ref sig .tc := ⟨.hbm, 1210, rfl⟩
abbrev main_v1129 : Ref sig .tc := ⟨.hbm, 1211, rfl⟩
abbrev main_v1130 : Ref sig .tc := ⟨.hbm, 1212, rfl⟩
abbrev main_v1131 : Ref sig .tc := ⟨.hbm, 1213, rfl⟩
abbrev main_v1132 : Ref sig .tc := ⟨.hbm, 1214, rfl⟩
abbrev main_v1133 : Ref sig .tc := ⟨.hbm, 1215, rfl⟩
abbrev main_v1134 : Ref sig .tc := ⟨.hbm, 1216, rfl⟩
abbrev main_v1135 : Ref sig .tc := ⟨.hbm, 1217, rfl⟩
abbrev main_v1136 : Ref sig .tc := ⟨.hbm, 1218, rfl⟩
abbrev main_v1137 : Ref sig .tc := ⟨.hbm, 1219, rfl⟩
abbrev main_v1138 : Ref sig .tc := ⟨.hbm, 1220, rfl⟩
abbrev main_v1139 : Ref sig .tc := ⟨.hbm, 1221, rfl⟩
abbrev main_v1140 : Ref sig .tc := ⟨.hbm, 1222, rfl⟩
abbrev main_v1141 : Ref sig .tc := ⟨.hbm, 1223, rfl⟩
abbrev main_cst_72 : Ref sig .tc := ⟨.hbm, 1224, rfl⟩
abbrev main_v1142 : Ref sig .tc := ⟨.hbm, 1225, rfl⟩
abbrev main_v1143 : Ref sig .tc := ⟨.hbm, 1226, rfl⟩
abbrev main_v1144 : Ref sig .tc := ⟨.hbm, 1227, rfl⟩
abbrev main_v1145 : Ref sig .tc := ⟨.hbm, 1228, rfl⟩
abbrev main_v1146 : Ref sig .tc := ⟨.hbm, 1229, rfl⟩
abbrev main_v1147 : Ref sig .tc := ⟨.hbm, 1230, rfl⟩
abbrev main_v1148 : Ref sig .tc := ⟨.hbm, 1231, rfl⟩
abbrev main_v1149 : Ref sig .tc := ⟨.hbm, 1232, rfl⟩
abbrev main_v1150 : Ref sig .tc := ⟨.hbm, 1233, rfl⟩
abbrev main_v1151 : Ref sig .tc := ⟨.hbm, 1234, rfl⟩
abbrev main_v1152 : Ref sig .tc := ⟨.hbm, 1235, rfl⟩
abbrev main_v1153 : Ref sig .tc := ⟨.hbm, 1236, rfl⟩
abbrev main_v1154 : Ref sig .tc := ⟨.hbm, 1237, rfl⟩
abbrev main_v1155 : Ref sig .tc := ⟨.hbm, 1238, rfl⟩
abbrev main_cst_73 : Ref sig .tc := ⟨.hbm, 1239, rfl⟩
abbrev main_v1156 : Ref sig .tc := ⟨.hbm, 1240, rfl⟩
abbrev main_v1157 : Ref sig .tc := ⟨.hbm, 1241, rfl⟩
abbrev main_v1158 : Ref sig .tc := ⟨.hbm, 1242, rfl⟩
abbrev main_v1159 : Ref sig .tc := ⟨.hbm, 1243, rfl⟩
abbrev main_v1160 : Ref sig .tc := ⟨.hbm, 1244, rfl⟩
abbrev main_v1161 : Ref sig .tc := ⟨.hbm, 1245, rfl⟩
abbrev main_v1162 : Ref sig .tc := ⟨.hbm, 1246, rfl⟩
abbrev main_v1163 : Ref sig .tc := ⟨.hbm, 1247, rfl⟩
abbrev main_v1164 : Ref sig .tc := ⟨.hbm, 1248, rfl⟩
abbrev main_v1165 : Ref sig .tc := ⟨.hbm, 1249, rfl⟩
abbrev main_v1166 : Ref sig .tc := ⟨.hbm, 1250, rfl⟩
abbrev main_v1167 : Ref sig .tc := ⟨.hbm, 1251, rfl⟩
abbrev main_v1168 : Ref sig .tc := ⟨.hbm, 1252, rfl⟩
abbrev main_v1169 : Ref sig .tc := ⟨.hbm, 1253, rfl⟩
abbrev main_cst_74 : Ref sig .tc := ⟨.hbm, 1254, rfl⟩
abbrev main_v1170 : Ref sig .tc := ⟨.hbm, 1255, rfl⟩
abbrev main_v1171 : Ref sig .tc := ⟨.hbm, 1256, rfl⟩
abbrev main_v1172 : Ref sig .tc := ⟨.hbm, 1257, rfl⟩
abbrev main_v1173 : Ref sig .tc := ⟨.hbm, 1258, rfl⟩
abbrev main_v1174 : Ref sig .tc := ⟨.hbm, 1259, rfl⟩
abbrev main_v1175 : Ref sig .tc := ⟨.hbm, 1260, rfl⟩
abbrev main_v1176 : Ref sig .tc := ⟨.hbm, 1261, rfl⟩
abbrev main_v1177 : Ref sig .tc := ⟨.hbm, 1262, rfl⟩
abbrev main_v1178 : Ref sig .tc := ⟨.hbm, 1263, rfl⟩
abbrev main_v1179 : Ref sig .tc := ⟨.hbm, 1264, rfl⟩
abbrev main_v1180 : Ref sig .tc := ⟨.hbm, 1265, rfl⟩
abbrev main_v1181 : Ref sig .tc := ⟨.hbm, 1266, rfl⟩
abbrev main_v1182 : Ref sig .tc := ⟨.hbm, 1267, rfl⟩
abbrev main_v1183 : Ref sig .tc := ⟨.hbm, 1268, rfl⟩
abbrev main_cst_75 : Ref sig .tc := ⟨.hbm, 1269, rfl⟩
abbrev main_v1184 : Ref sig .tc := ⟨.hbm, 1270, rfl⟩
abbrev main_v1185 : Ref sig .tc := ⟨.hbm, 1271, rfl⟩
abbrev main_v1186 : Ref sig .tc := ⟨.hbm, 1272, rfl⟩
abbrev main_v1187 : Ref sig .tc := ⟨.hbm, 1273, rfl⟩
abbrev main_v1188 : Ref sig .tc := ⟨.hbm, 1274, rfl⟩
abbrev main_v1189 : Ref sig .tc := ⟨.hbm, 1275, rfl⟩
abbrev main_v1190 : Ref sig .tc := ⟨.hbm, 1276, rfl⟩
abbrev main_v1191 : Ref sig .tc := ⟨.hbm, 1277, rfl⟩
abbrev main_v1192 : Ref sig .tc := ⟨.hbm, 1278, rfl⟩
abbrev main_v1193 : Ref sig .tc := ⟨.hbm, 1279, rfl⟩
abbrev main_v1194 : Ref sig .tc := ⟨.hbm, 1280, rfl⟩
abbrev main_v1195 : Ref sig .tc := ⟨.hbm, 1281, rfl⟩
abbrev main_v1196 : Ref sig .tc := ⟨.hbm, 1282, rfl⟩
abbrev main_v1197 : Ref sig .tc := ⟨.hbm, 1283, rfl⟩
abbrev main_cst_76 : Ref sig .tc := ⟨.hbm, 1284, rfl⟩
abbrev main_v1198 : Ref sig .tc := ⟨.hbm, 1285, rfl⟩
abbrev main_v1199 : Ref sig .tc := ⟨.hbm, 1286, rfl⟩
abbrev main_v1200 : Ref sig .tc := ⟨.hbm, 1287, rfl⟩
abbrev main_v1201 : Ref sig .tc := ⟨.hbm, 1288, rfl⟩
abbrev main_v1202 : Ref sig .tc := ⟨.hbm, 1289, rfl⟩
abbrev main_v1203 : Ref sig .tc := ⟨.hbm, 1290, rfl⟩
abbrev main_v1204 : Ref sig .tc := ⟨.hbm, 1291, rfl⟩
abbrev main_v1205 : Ref sig .tc := ⟨.hbm, 1292, rfl⟩
abbrev main_v1206 : Ref sig .tc := ⟨.hbm, 1293, rfl⟩
abbrev main_v1207 : Ref sig .tc := ⟨.hbm, 1294, rfl⟩
abbrev main_v1208 : Ref sig .tc := ⟨.hbm, 1295, rfl⟩
abbrev main_v1209 : Ref sig .tc := ⟨.hbm, 1296, rfl⟩
abbrev main_v1210 : Ref sig .tc := ⟨.hbm, 1297, rfl⟩
abbrev main_v1211 : Ref sig .tc := ⟨.hbm, 1298, rfl⟩
abbrev main_cst_77 : Ref sig .tc := ⟨.hbm, 1299, rfl⟩
abbrev main_v1212 : Ref sig .tc := ⟨.hbm, 1300, rfl⟩
abbrev main_v1213 : Ref sig .tc := ⟨.hbm, 1301, rfl⟩
abbrev main_v1214 : Ref sig .tc := ⟨.hbm, 1302, rfl⟩
abbrev main_v1215 : Ref sig .tc := ⟨.hbm, 1303, rfl⟩
abbrev main_v1216 : Ref sig .tc := ⟨.hbm, 1304, rfl⟩
abbrev main_v1217 : Ref sig .tc := ⟨.hbm, 1305, rfl⟩
abbrev main_v1218 : Ref sig .tc := ⟨.hbm, 1306, rfl⟩
abbrev main_v1219 : Ref sig .tc := ⟨.hbm, 1307, rfl⟩
abbrev main_v1220 : Ref sig .tc := ⟨.hbm, 1308, rfl⟩
abbrev main_v1221 : Ref sig .tc := ⟨.hbm, 1309, rfl⟩
abbrev main_v1222 : Ref sig .tc := ⟨.hbm, 1310, rfl⟩
abbrev main_v1223 : Ref sig .tc := ⟨.hbm, 1311, rfl⟩
abbrev main_v1224 : Ref sig .tc := ⟨.hbm, 1312, rfl⟩
abbrev main_v1225 : Ref sig .tc := ⟨.hbm, 1313, rfl⟩
abbrev main_cst_78 : Ref sig .tc := ⟨.hbm, 1314, rfl⟩
abbrev main_v1226 : Ref sig .tc := ⟨.hbm, 1315, rfl⟩
abbrev main_v1227 : Ref sig .tc := ⟨.hbm, 1316, rfl⟩
abbrev main_v1228 : Ref sig .tc := ⟨.hbm, 1317, rfl⟩
abbrev main_v1229 : Ref sig .tc := ⟨.hbm, 1318, rfl⟩
abbrev main_v1230 : Ref sig .tc := ⟨.hbm, 1319, rfl⟩
abbrev main_v1231 : Ref sig .tc := ⟨.hbm, 1320, rfl⟩
abbrev main_v1232 : Ref sig .tc := ⟨.hbm, 1321, rfl⟩
abbrev main_v1233 : Ref sig .tc := ⟨.hbm, 1322, rfl⟩
abbrev main_v1234 : Ref sig .tc := ⟨.hbm, 1323, rfl⟩
abbrev main_v1235 : Ref sig .tc := ⟨.hbm, 1324, rfl⟩
abbrev main_v1236 : Ref sig .tc := ⟨.hbm, 1325, rfl⟩
abbrev main_v1237 : Ref sig .tc := ⟨.hbm, 1326, rfl⟩
abbrev main_v1238 : Ref sig .tc := ⟨.hbm, 1327, rfl⟩
abbrev main_v1239 : Ref sig .tc := ⟨.hbm, 1328, rfl⟩
abbrev main_cst_79 : Ref sig .tc := ⟨.hbm, 1329, rfl⟩
abbrev main_v1240 : Ref sig .tc := ⟨.hbm, 1330, rfl⟩
abbrev main_v1241 : Ref sig .tc := ⟨.hbm, 1331, rfl⟩
abbrev main_v1242 : Ref sig .tc := ⟨.hbm, 1332, rfl⟩
abbrev main_v1243 : Ref sig .tc := ⟨.hbm, 1333, rfl⟩
abbrev main_v1244 : Ref sig .tc := ⟨.hbm, 1334, rfl⟩
abbrev main_v1245 : Ref sig .tc := ⟨.hbm, 1335, rfl⟩
abbrev main_v1246 : Ref sig .tc := ⟨.hbm, 1336, rfl⟩
abbrev main_v1247 : Ref sig .tc := ⟨.hbm, 1337, rfl⟩
abbrev main_v1248 : Ref sig .tc := ⟨.hbm, 1338, rfl⟩
abbrev main_v1249 : Ref sig .tc := ⟨.hbm, 1339, rfl⟩
abbrev main_v1250 : Ref sig .tc := ⟨.hbm, 1340, rfl⟩
abbrev main_v1251 : Ref sig .tc := ⟨.hbm, 1341, rfl⟩
abbrev main_v1252 : Ref sig .tc := ⟨.hbm, 1342, rfl⟩
abbrev main_v1253 : Ref sig .tc := ⟨.hbm, 1343, rfl⟩
abbrev main_cst_80 : Ref sig .tc := ⟨.hbm, 1344, rfl⟩
abbrev main_v1254 : Ref sig .tc := ⟨.hbm, 1345, rfl⟩
abbrev main_v1255 : Ref sig .tc := ⟨.hbm, 1346, rfl⟩
abbrev main_v1256 : Ref sig .tc := ⟨.hbm, 1347, rfl⟩
abbrev main_v1257 : Ref sig .tc := ⟨.hbm, 1348, rfl⟩
abbrev main_v1258 : Ref sig .tc := ⟨.hbm, 1349, rfl⟩
abbrev main_v1259 : Ref sig .tc := ⟨.hbm, 1350, rfl⟩
abbrev main_v1260 : Ref sig .tc := ⟨.hbm, 1351, rfl⟩
abbrev main_v1261 : Ref sig .tc := ⟨.hbm, 1352, rfl⟩
abbrev main_v1262 : Ref sig .tc := ⟨.hbm, 1353, rfl⟩
abbrev main_v1263 : Ref sig .tc := ⟨.hbm, 1354, rfl⟩
abbrev main_v1264 : Ref sig .tc := ⟨.hbm, 1355, rfl⟩
abbrev main_v1265 : Ref sig .tc := ⟨.hbm, 1356, rfl⟩
abbrev main_v1266 : Ref sig .tc := ⟨.hbm, 1357, rfl⟩
abbrev main_v1267 : Ref sig .tc := ⟨.hbm, 1358, rfl⟩
abbrev main_cst_81 : Ref sig .tc := ⟨.hbm, 1359, rfl⟩
abbrev main_v1268 : Ref sig .tc := ⟨.hbm, 1360, rfl⟩
abbrev main_v1269 : Ref sig .tc := ⟨.hbm, 1361, rfl⟩
abbrev main_v1270 : Ref sig .tc := ⟨.hbm, 1362, rfl⟩
abbrev main_v1271 : Ref sig .tc := ⟨.hbm, 1363, rfl⟩
abbrev main_v1272 : Ref sig .tc := ⟨.hbm, 1364, rfl⟩
abbrev main_v1273 : Ref sig .tc := ⟨.hbm, 1365, rfl⟩
abbrev main_v1274 : Ref sig .tc := ⟨.hbm, 1366, rfl⟩
abbrev main_v1275 : Ref sig .tc := ⟨.hbm, 1367, rfl⟩
abbrev main_v1276 : Ref sig .tc := ⟨.hbm, 1368, rfl⟩
abbrev main_v1277 : Ref sig .tc := ⟨.hbm, 1369, rfl⟩
abbrev main_v1278 : Ref sig .tc := ⟨.hbm, 1370, rfl⟩
abbrev main_v1279 : Ref sig .tc := ⟨.hbm, 1371, rfl⟩
abbrev main_v1280 : Ref sig .tc := ⟨.hbm, 1372, rfl⟩
abbrev main_v1281 : Ref sig .tc := ⟨.hbm, 1373, rfl⟩
abbrev main_cst_82 : Ref sig .tc := ⟨.hbm, 1374, rfl⟩
abbrev main_v1282 : Ref sig .tc := ⟨.hbm, 1375, rfl⟩
abbrev main_v1283 : Ref sig .tc := ⟨.hbm, 1376, rfl⟩
abbrev main_v1284 : Ref sig .tc := ⟨.hbm, 1377, rfl⟩
abbrev main_v1285 : Ref sig .tc := ⟨.hbm, 1378, rfl⟩
abbrev main_v1286 : Ref sig .tc := ⟨.hbm, 1379, rfl⟩
abbrev main_v1287 : Ref sig .tc := ⟨.hbm, 1380, rfl⟩
abbrev main_v1288 : Ref sig .tc := ⟨.hbm, 1381, rfl⟩
abbrev main_v1289 : Ref sig .tc := ⟨.hbm, 1382, rfl⟩
abbrev main_v1290 : Ref sig .tc := ⟨.hbm, 1383, rfl⟩
abbrev main_v1291 : Ref sig .tc := ⟨.hbm, 1384, rfl⟩
abbrev main_v1292 : Ref sig .tc := ⟨.hbm, 1385, rfl⟩
abbrev main_v1293 : Ref sig .tc := ⟨.hbm, 1386, rfl⟩
abbrev main_v1294 : Ref sig .tc := ⟨.hbm, 1387, rfl⟩
abbrev main_v1295 : Ref sig .tc := ⟨.hbm, 1388, rfl⟩
abbrev main_cst_83 : Ref sig .tc := ⟨.hbm, 1389, rfl⟩
abbrev main_v1296 : Ref sig .tc := ⟨.hbm, 1390, rfl⟩
abbrev main_v1297 : Ref sig .tc := ⟨.hbm, 1391, rfl⟩
abbrev main_v1298 : Ref sig .tc := ⟨.hbm, 1392, rfl⟩
abbrev main_v1299 : Ref sig .tc := ⟨.hbm, 1393, rfl⟩
abbrev main_v1300 : Ref sig .tc := ⟨.hbm, 1394, rfl⟩
abbrev main_v1301 : Ref sig .tc := ⟨.hbm, 1395, rfl⟩
abbrev main_v1302 : Ref sig .tc := ⟨.hbm, 1396, rfl⟩
abbrev main_v1303 : Ref sig .tc := ⟨.hbm, 1397, rfl⟩
abbrev main_v1304 : Ref sig .tc := ⟨.hbm, 1398, rfl⟩
abbrev main_v1305 : Ref sig .tc := ⟨.hbm, 1399, rfl⟩
abbrev main_v1306 : Ref sig .tc := ⟨.hbm, 1400, rfl⟩
abbrev main_v1307 : Ref sig .tc := ⟨.hbm, 1401, rfl⟩
abbrev main_v1308 : Ref sig .tc := ⟨.hbm, 1402, rfl⟩
abbrev main_v1309 : Ref sig .tc := ⟨.hbm, 1403, rfl⟩
abbrev main_cst_84 : Ref sig .tc := ⟨.hbm, 1404, rfl⟩
abbrev main_v1310 : Ref sig .tc := ⟨.hbm, 1405, rfl⟩
abbrev main_v1311 : Ref sig .tc := ⟨.hbm, 1406, rfl⟩
abbrev main_v1312 : Ref sig .tc := ⟨.hbm, 1407, rfl⟩
abbrev main_v1313 : Ref sig .tc := ⟨.hbm, 1408, rfl⟩
abbrev main_v1314 : Ref sig .tc := ⟨.hbm, 1409, rfl⟩
abbrev main_v1315 : Ref sig .tc := ⟨.hbm, 1410, rfl⟩
abbrev main_v1316 : Ref sig .tc := ⟨.hbm, 1411, rfl⟩
abbrev main_v1317 : Ref sig .tc := ⟨.hbm, 1412, rfl⟩
abbrev main_v1318 : Ref sig .tc := ⟨.hbm, 1413, rfl⟩
abbrev main_v1319 : Ref sig .tc := ⟨.hbm, 1414, rfl⟩
abbrev main_v1320 : Ref sig .tc := ⟨.hbm, 1415, rfl⟩
abbrev main_v1321 : Ref sig .tc := ⟨.hbm, 1416, rfl⟩
abbrev main_v1322 : Ref sig .tc := ⟨.hbm, 1417, rfl⟩
abbrev main_v1323 : Ref sig .tc := ⟨.hbm, 1418, rfl⟩
abbrev main_cst_85 : Ref sig .tc := ⟨.hbm, 1419, rfl⟩
abbrev main_v1324 : Ref sig .tc := ⟨.hbm, 1420, rfl⟩
abbrev main_v1325 : Ref sig .tc := ⟨.hbm, 1421, rfl⟩
abbrev main_v1326 : Ref sig .tc := ⟨.hbm, 1422, rfl⟩
abbrev main_v1327 : Ref sig .tc := ⟨.hbm, 1423, rfl⟩
abbrev main_v1328 : Ref sig .tc := ⟨.hbm, 1424, rfl⟩
abbrev main_v1329 : Ref sig .tc := ⟨.hbm, 1425, rfl⟩
abbrev main_v1330 : Ref sig .tc := ⟨.hbm, 1426, rfl⟩
abbrev main_v1331 : Ref sig .tc := ⟨.hbm, 1427, rfl⟩
abbrev main_v1332 : Ref sig .tc := ⟨.hbm, 1428, rfl⟩
abbrev main_v1333 : Ref sig .tc := ⟨.hbm, 1429, rfl⟩
abbrev main_v1334 : Ref sig .tc := ⟨.hbm, 1430, rfl⟩
abbrev main_v1335 : Ref sig .tc := ⟨.hbm, 1431, rfl⟩
abbrev main_v1336 : Ref sig .tc := ⟨.hbm, 1432, rfl⟩
abbrev main_v1337 : Ref sig .tc := ⟨.hbm, 1433, rfl⟩
abbrev main_cst_86 : Ref sig .tc := ⟨.hbm, 1434, rfl⟩
abbrev main_v1338 : Ref sig .tc := ⟨.hbm, 1435, rfl⟩
abbrev main_v1339 : Ref sig .tc := ⟨.hbm, 1436, rfl⟩
abbrev main_v1340 : Ref sig .tc := ⟨.hbm, 1437, rfl⟩
abbrev main_v1341 : Ref sig .tc := ⟨.hbm, 1438, rfl⟩
abbrev main_v1342 : Ref sig .tc := ⟨.hbm, 1439, rfl⟩
abbrev main_v1343 : Ref sig .tc := ⟨.hbm, 1440, rfl⟩
abbrev main_v1344 : Ref sig .tc := ⟨.hbm, 1441, rfl⟩
abbrev main_v1345 : Ref sig .tc := ⟨.hbm, 1442, rfl⟩
abbrev main_v1346 : Ref sig .tc := ⟨.hbm, 1443, rfl⟩
abbrev main_v1347 : Ref sig .tc := ⟨.hbm, 1444, rfl⟩
abbrev main_v1348 : Ref sig .tc := ⟨.hbm, 1445, rfl⟩
abbrev main_v1349 : Ref sig .tc := ⟨.hbm, 1446, rfl⟩

abbrev nD : Nat := 1
abbrev τ : Topo := Topo.v7x

variable {F : FTy → Type} [FloatOps F]
-- ==== Proof.HostLines.lean ====
/- What the host's lines around the two calls write, as functions of what they read. -/
module

public import proofs.«01_k».proof.Proof.Gen.KernelIdeal.Frame
public import Idealize.ShloMosaic.Lib.StableHlo.Run
public import Idealize.ShloMosaic.Lib.Tactic
public import Idealize.ShloMosaic.PureOps.Ideal

@[expose] public section

noncomputable section

namespace PlaneFit

open Cert.KernelIdeal Cert.KernelIdeal.Gen Idealize.ShloMosaic.TcCoe
open Idealize.ShloMosaic

/-- The points, coordinates first and lanes last, widened by zeros. -/
def widened (p : FVec Ideal S4x50000x3 .f32) : FVec Ideal S4x3x50048 .f32 :=
  pad S4x3x50048 ![0, 0, 0] ![0, 0, 48] ![0, 0, 0] (transpose S4x3x50000 [0, 2, 1] p transposes_S4x50000x3_S4x3x50000_0_2_1)
    (sitofp (F := Ideal) .f32 (constantI S_ 32 0#32)) pads_S4x3x50000_S4x3x50048_000_000_0480 h_S_

/-- The planes' normals. -/
def given (q : FVec Ideal S4x32x4 .f32) : FVec Ideal S4x32x3 .f32 :=
  extractStridedSlice S4x32x3 ![0, 0, 0] q slices_S4x32x4_S4x32x3_0_0_0

/-- The planes' distances. -/
def givenD (q : FVec Ideal S4x32x4 .f32) : FVec Ideal S4x32 .f32 :=
  shapeCast S4x32 (extractStridedSlice S4x32x1 ![0, 0, 3] q slices_S4x32x4_S4x32x1_0_0_3) shapeCasts_S4x32x1_S4x32

/-- The lengths of normals. -/
def lengths (n : FVec Ideal S4x32x3 .f32) : FVec Ideal S4x32 .f32 :=
  Host.sqrt (Host.reduceAdd (mulf n n) (constant (F := Ideal) S_ .f32 0x00000000#32) reducesTo_S4x32x3_S4x32_d2 h_S_)

/-- A plane's row: unit normal, distance, whether the plane is one at all, and zeros. -/
def planeRows (n : FVec Ideal S4x32x3 .f32) (d l : FVec Ideal S4x32 .f32) : FVec Ideal S4x32x128 .f32 :=
  concatenate S4x32x128 2
    [⟨S4x32x3, Host.divf n (broadcastInDim S4x32x3 ![0, 1, 2] bcast_S4x32x1_S4x32x3_0_1_2
        (broadcastInDim S4x32x1 ![0, 1] bcast_S4x32_S4x32x1_0_1
          (maximumf l (broadcastInDim S4x32 ![] bcast_S_S4x32 (constant (F := Ideal) S_ .f32 0x2B8CBCCC#32)))))⟩,
     ⟨S4x32x1, broadcastInDim S4x32x1 ![0, 1] bcast_S4x32_S4x32x1_0_1 d⟩,
     ⟨S4x32x1, broadcastInDim S4x32x1 ![0, 1] bcast_S4x32_S4x32x1_0_1
        (uitofp .f32 (cmpf .ogt l (broadcastInDim S4x32 ![] bcast_S_S4x32 (constant (F := Ideal) S_ .f32 0x358637BD#32))))⟩,
     ⟨S4x32x123, broadcastInDim S4x32x123 ![] bcast_S_S4x32x123 (constant (F := Ideal) S_ .f32 0x00000000#32)⟩]
    concatenates_S4x32x3_S4x32x1_S4x32x1_S4x32x123_S4x32x128_d2

/-- A result as the host lays it out: lanes before coordinates, the widening dropped. -/
def laidOut (r : FVec Ideal S4x24x6256 .f32) : FVec Ideal S4x50000x3 .f32 :=
  extractStridedSlice S4x50000x3 ![0, 0, 0]
    (transpose S4x50048x3 [0, 2, 1] (shapeCast S4x3x50048 r shapeCasts_S4x24x6256_S4x3x50048) transposes_S4x3x50048_S4x50048x3_0_2_1)
    slices_S4x50048x3_S4x50000x3_0_0_0

theorem four_pieces {a a' : FVec Ideal S4x32x3 .f32} {b b' e e' : FVec Ideal S4x32x1 .f32} {f f' : FVec Ideal S4x32x123 .f32}
    (ha : a = a') (hb : b = b') (he : e = e') (hf : f = f') :
    concatenate S4x32x128 2 [⟨S4x32x3, a⟩, ⟨S4x32x1, b⟩, ⟨S4x32x1, e⟩, ⟨S4x32x123, f⟩]
        concatenates_S4x32x3_S4x32x1_S4x32x1_S4x32x123_S4x32x128_d2
      = concatenate S4x32x128 2 [⟨S4x32x3, a'⟩, ⟨S4x32x1, b'⟩, ⟨S4x32x1, e'⟩, ⟨S4x32x123, f'⟩]
        concatenates_S4x32x3_S4x32x1_S4x32x1_S4x32x123_S4x32x128_d2 := by
  subst ha hb he hf
  rfl

variable (X : Valuation τ sig (Elt Ideal))

theorem lines_v0 : StableHlo.after hostOps0 X main_v0
    = transpose S4x3x50000 [0, 2, 1] (X main_arg0 : FVec Ideal S4x50000x3 .f32) transposes_S4x50000x3_S4x3x50000_0_2_1 := by
  after_results

theorem lines_c : StableHlo.after hostOps0 X main_c = constantI S_ 32 0#32 := by
  after_results

theorem lines_v1 : StableHlo.after hostOps0_1 X main_v1
    = pad S4x3x50048 ![0, 0, 0] ![0, 0, 48] ![0, 0, 0] (X main_v0 : FVec Ideal S4x3x50000 .f32)
        (sitofp (F := Ideal) .f32 (X main_c : IVec S_ 32) : FVec Ideal S_ .f32) pads_S4x3x50000_S4x3x50048_000_000_0480 h_S_ := by
  after_results
  rfl

theorem lines_v2 : StableHlo.after hostOps0_2 X main_v2 = given (X main_arg1 : FVec Ideal S4x32x4 .f32) := by
  after_results
  rfl

theorem lines_v4 : StableHlo.after hostOps0_2 X main_v4 = givenD (X main_arg1 : FVec Ideal S4x32x4 .f32) := by
  after_results
  rfl

theorem lines_v5 : StableHlo.after hostOps0_3 X main_v5 = lengths (X main_v2 : FVec Ideal S4x32x3 .f32) := by
  after_results
  rfl

theorem lines_v17 : StableHlo.after hostOps0_4 X main_v17
    = planeRows (X main_v2 : FVec Ideal S4x32x3 .f32) (X main_v4 : FVec Ideal S4x32 .f32) (X main_v5 : FVec Ideal S4x32 .f32) := by
  after_results_simp
  rfl

theorem lines_v19 : StableHlo.after hostOps1 X main_v19
    = shapeCast S4x64x6256 (X main_v18_1 : FVec Ideal S4x8x50048 .f32) shapeCasts_S4x8x50048_S4x64x6256 := by
  after_results
  rfl

theorem lines_v20 : StableHlo.after hostOps1 X main_v20
    = shapeCast S4x24x6256 (X main_v1 : FVec Ideal S4x3x50048 .f32) shapeCasts_S4x3x50048_S4x24x6256 := by
  after_results
  rfl

theorem lines_v24 : StableHlo.after hostOps2 X main_v24 = laidOut (X main_v21_0 : FVec Ideal S4x24x6256 .f32) := by
  after_results
  rfl

theorem lines_v27 : StableHlo.after hostOps2 X main_v27 = laidOut (X main_v21_1 : FVec Ideal S4x24x6256 .f32) := by
  after_results
  rfl

end PlaneFit

end
-- ==== Proof.Spec.lean ====
/- The mathematics of the plane fit and the plane sweep over the real numbers, for one batch: what both programs compute once
   every coordinate of every point is finite. Nothing here mentions a program. -/
module

public import Idealize.ShloMosaic.PureOps.Ideal.Laws

@[expose] public section

noncomputable section

namespace PlaneFit

/-- A real 3 × 3 matrix, by its entries. -/
abbrev Mat : Type := Fin 3 → Fin 3 → ℝ

/-- The tangent of the Jacobi rotation's angle, from the two diagonal entries and the off-diagonal one. -/
def slope (app aqq apq : ℝ) : ℝ :=
  let θ := (aqq - app) / (2 * (if apq = 0 then 1 else apq))
  (if θ < 0 then -1 else 1) / (|θ| + √(θ * θ + 1))

/-- The cosine of the rotation's angle: one when the off-diagonal entry is already zero. -/
def cosine (app aqq apq : ℝ) : ℝ :=
  if apq = 0 then 1 else 1 / √(slope app aqq apq * slope app aqq apq + 1)

/-- The sine of the rotation's angle: zero when the off-diagonal entry is already zero. -/
def sine (app aqq apq : ℝ) : ℝ :=
  if apq = 0 then 0 else slope app aqq apq * (1 / √(slope app aqq apq * slope app aqq apq + 1))

/-- One when the proposition holds, zero when not. -/
def ind (P : Prop) [Decidable P] : ℝ := if P then 1 else 0

/-- The rotation matrix with cosine `c` and sine `s` in the plane `(p, q)`. -/
def turn (p q : Fin 3) (c s : ℝ) : Mat := fun i j =>
  c * ind (i = p ∧ j = p ∨ i = q ∧ j = q) + s * (ind (i = p ∧ j = q) - ind (i = q ∧ j = p))
    + ind (i = j ∧ i ≠ p ∧ i ≠ q)

/-- The product of two matrices. -/
def prod (A B : Mat) : Mat := fun i j => ∑ k, A i k * B k j

/-- The rotation that clears the entry `(p, q)` of `A`. -/
def jac (p q : Fin 3) (A : Mat) : Mat :=
  turn p q (cosine (A p p) (A q q) (A p q)) (sine (A p p) (A q q) (A p q))

/-- One rotation in the plane `(p, q)`: the matrix `A` becomes `Jᵀ A J`, the vectors `V` become `V J`. -/
def rot (p q : Fin 3) (S : Mat × Mat) : Mat × Mat :=
  (prod (prod (fun i j => jac p q S.1 j i) S.1) (jac p q S.1), prod S.2 (jac p q S.1))

/-- The three rotations of a cyclic sweep. -/
def cycle (S : Mat × Mat) : Mat × Mat := rot 0 1 (rot 1 2 (rot 0 2 S))

/-- The identity matrix. -/
def one : Mat := fun i j => ind (i = j)

/-- Six sweeps from `A` and the identity. -/
def eigen (A : Mat) : Mat × Mat := cycle (cycle (cycle (cycle (cycle (cycle (A, one))))))

/-- The place of column `j` when the columns are put in descending order of `w` (equal values: the later column first). -/
def place (w : Fin 3 → ℝ) (j : Fin 3) : ℝ := ∑ i, ind (w j < w i ∨ w i = w j ∧ j < i)

/-- The third row of the vectors after the columns are put in order. -/
def thirdRow (S : Mat × Mat) (k : Fin 3) : ℝ :=
  ∑ j, S.2 2 j * ind (place (fun i => S.1 i i) j = ((k : ℕ) : ℝ))

section Moments

variable {N : ℕ} (p : Fin N → Fin 3 → ℝ) (μ : Fin N → Prop) [∀ n, Decidable (μ n)] (ε : ℝ)

/-- How many points are masked. -/
def cnt : ℝ := ∑ n, ind (μ n)

/-- The centroid of the masked points. -/
def cen (i : Fin 3) : ℝ := (∑ n, p n i * ind (μ n)) / max (cnt μ) 1

/-- The masked points about their centroid. -/
def centred (n : Fin N) (i : Fin 3) : ℝ := (p n i - cen p μ i) * ind (μ n)

/-- The regularised covariance of the masked points. -/
def cov : Mat := fun i j => (∑ n, centred p μ n i * centred p μ n j) / max 1 (cnt μ - 1) + ind (i = j) * ε

/-- The matrix decomposed: the covariance when at least three points are masked, else a fixed diagonal matrix. -/
def fitted : Mat := fun i j => if 3 ≤ cnt μ then cov p μ ε i j else ind (i = j) * (3 - ((i : ℕ) : ℝ))

/-- The refined normal. -/
def normal (k : Fin 3) : ℝ := thirdRow (eigen (fitted p μ ε)) k

/-- The refined offset. -/
def offset : ℝ := -∑ k, cen p μ k * normal p μ ε k

end Moments

/-- The projection of `x` onto the plane with normal `n` and offset `d`, when `b`; else `x`. -/
def project (b : Prop) [Decidable b] (n : Fin 3 → ℝ) (d : ℝ) (x : Fin 3 → ℝ) : Fin 3 → ℝ :=
  fun k => if b then x k - n k * (∑ i, x i * n i + d) else x k

/-- Turning the plane's normal and offset around does not change the projection. -/
theorem project_neg (b : Prop) [Decidable b] (n : Fin 3 → ℝ) (d : ℝ) (x : Fin 3 → ℝ) :
    project b (fun k => -n k) (-d) x = project b n d x := by
  funext k
  unfold project
  split
  · simp only [Fin.sum_univ_three]; ring
  · rfl

section Sweep

variable {N : ℕ} (p : Fin N → Fin 3 → ℝ) (μ : ℕ → Fin N → Prop) [∀ m n, Decidable (μ m n)] (ε : ℝ)

/-- Point `n` after the first `m` planes. -/
def swept : ℕ → Fin N → Fin 3 → ℝ
  | 0, n => p n
  | m + 1, n => project (3 ≤ cnt (μ m) ∧ μ m n) (normal p (μ m) ε) (offset p (μ m) ε) (swept m n)

end Sweep

/-! ### The same rotation entry by entry, on a symmetric matrix -/

/-- A symmetric matrix. -/
def Sym (A : Mat) : Prop := ∀ i j, A i j = A j i

/-- The rotated matrix is symmetric again. -/
theorem sym_rot (p q : Fin 3) (S : Mat × Mat) (h : Sym S.1) : Sym (rot p q S).1 := by
  intro i j
  simp only [rot, prod, Fin.sum_univ_three]
  rw [h 1 0, h 2 0, h 2 1]
  ring

/-- The entries of the rotated pair in the plane `(0, 2)`. -/
theorem rot_02 (S : Mat × Mat) (h : Sym S.1) :
    let c := cosine (S.1 0 0) (S.1 2 2) (S.1 0 2)
    let s := sine (S.1 0 0) (S.1 2 2) (S.1 0 2)
    let R := rot 0 2 S
    R.1 0 0 = c * c * S.1 0 0 - 2 * s * c * S.1 0 2 + s * s * S.1 2 2
    ∧ R.1 2 2 = s * s * S.1 0 0 + 2 * s * c * S.1 0 2 + c * c * S.1 2 2
    ∧ R.1 0 2 = (c * c - s * s) * S.1 0 2 + s * c * (S.1 0 0 - S.1 2 2)
    ∧ R.1 0 1 = c * S.1 0 1 - s * S.1 1 2
    ∧ R.1 1 2 = s * S.1 0 1 + c * S.1 1 2
    ∧ R.1 1 1 = S.1 1 1
    ∧ R.2 2 0 = c * S.2 2 0 - s * S.2 2 2
    ∧ R.2 2 2 = s * S.2 2 0 + c * S.2 2 2
    ∧ R.2 2 1 = S.2 2 1 := by
  intro c s R
  have hj : jac 0 2 S.1 = turn 0 2 c s := rfl
  clear_value c s
  refine ⟨?_, ?_, ?_, ?_, ?_, ?_, ?_, ?_, ?_⟩ <;>
    simp [R, rot, prod, hj, turn, ind, Fin.sum_univ_three, h 1 0, h 2 0, h 2 1] <;> ring

/-- The entries of the rotated pair in the plane `(1, 2)`. -/
theorem rot_12 (S : Mat × Mat) (h : Sym S.1) :
    let c := cosine (S.1 1 1) (S.1 2 2) (S.1 1 2)
    let s := sine (S.1 1 1) (S.1 2 2) (S.1 1 2)
    let R := rot 1 2 S
    R.1 1 1 = c * c * S.1 1 1 - 2 * s * c * S.1 1 2 + s * s * S.1 2 2
    ∧ R.1 2 2 = s * s * S.1 1 1 + 2 * s * c * S.1 1 2 + c * c * S.1 2 2
    ∧ R.1 1 2 = (c * c - s * s) * S.1 1 2 + s * c * (S.1 1 1 - S.1 2 2)
    ∧ R.1 0 1 = c * S.1 0 1 - s * S.1 0 2
    ∧ R.1 0 2 = s * S.1 0 1 + c * S.1 0 2
    ∧ R.1 0 0 = S.1 0 0
    ∧ R.2 2 1 = c * S.2 2 1 - s * S.2 2 2
    ∧ R.2 2 2 = s * S.2 2 1 + c * S.2 2 2
    ∧ R.2 2 0 = S.2 2 0 := by
  intro c s R
  have hj : jac 1 2 S.1 = turn 1 2 c s := rfl
  clear_value c s
  refine ⟨?_, ?_, ?_, ?_, ?_, ?_, ?_, ?_, ?_⟩ <;>
    simp [R, rot, prod, hj, turn, ind, Fin.sum_univ_three, h 1 0, h 2 0, h 2 1] <;> ring

/-- The entries of the rotated pair in the plane `(0, 1)`. -/
theorem rot_01 (S : Mat × Mat) (h : Sym S.1) :
    let c := cosine (S.1 0 0) (S.1 1 1) (S.1 0 1)
    let s := sine (S.1 0 0) (S.1 1 1) (S.1 0 1)
    let R := rot 0 1 S
    R.1 0 0 = c * c * S.1 0 0 - 2 * s * c * S.1 0 1 + s * s * S.1 1 1
    ∧ R.1 1 1 = s * s * S.1 0 0 + 2 * s * c * S.1 0 1 + c * c * S.1 1 1
    ∧ R.1 0 1 = (c * c - s * s) * S.1 0 1 + s * c * (S.1 0 0 - S.1 1 1)
    ∧ R.1 0 2 = c * S.1 0 2 - s * S.1 1 2
    ∧ R.1 1 2 = s * S.1 0 2 + c * S.1 1 2
    ∧ R.1 2 2 = S.1 2 2
    ∧ R.2 2 0 = c * S.2 2 0 - s * S.2 2 1
    ∧ R.2 2 1 = s * S.2 2 0 + c * S.2 2 1
    ∧ R.2 2 2 = S.2 2 2 := by
  intro c s R
  have hj : jac 0 1 S.1 = turn 0 1 c s := rfl
  clear_value c s
  refine ⟨?_, ?_, ?_, ?_, ?_, ?_, ?_, ?_, ?_⟩ <;>
    simp [R, rot, prod, hj, turn, ind, Fin.sum_univ_three, h 1 0, h 2 0, h 2 1] <;> ring

end PlaneFit

end
-- ==== Proof.Scalars.lean ====
/- The programs' scalar arithmetic on extended reals at real arguments: the Jacobi rotation's cosine and sine, the rotation entry by
   entry, and the exchanges that put the vectors in order, each the real number the mathematics says. -/
module

public import proofs.«01_k».proof.Proof.Spec
public import Idealize.ShloMosaic.Lib.IdealHost
public import Idealize.ShloMosaic.Lib.Pointwise.Select

@[expose] public section

noncomputable section

namespace PlaneFit

open Idealize.ShloMosaic

/-! ### The literals -/

theorem lit_zero : Ideal.ofBits .f32 0x00000000#32 = ((0 : ℝ) : EReal) := by
  simp [Ideal.ofBits, Ideal.ieee]
theorem lit_one : Ideal.ofBits .f32 0x3F800000#32 = ((1 : ℝ) : EReal) := by
  simp [Ideal.ofBits, Ideal.ieee, -EReal.coe_mul]; norm_num
theorem lit_minus : Ideal.ofBits .f32 0xBF800000#32 = ((-1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num

/-- The regularisation: the real number the literal 1e-6 is. -/
def eps : ℝ := (Ideal.ofBits .f32 0x358637BD#32).toReal
theorem lit_eps : Ideal.ofBits .f32 0x358637BD#32 = ((eps : ℝ) : EReal) := by
  unfold eps
  simp [Ideal.ofBits, Ideal.ieee, -EReal.coe_mul]

/-! ### Operations at real arguments -/

theorem div_real (a b : ℝ) (h : b ≠ 0) : Ideal.div (a : EReal) (b : EReal) = ((a / b : ℝ) : EReal) := by
  rw [Ideal.div_coe h, ← EReal.coe_mul]; congr 1; ring

theorem sqrt_real (a : ℝ) (h : 0 ≤ a) : Ideal.sqrt (a : EReal) = ((√a : ℝ) : EReal) := by
  rw [Ideal.sqrt_coe, if_neg (not_lt.mpr h)]

theorem abs_real (a : ℝ) : max (a : EReal) (-(a : EReal)) = ((|a| : ℝ) : EReal) := by
  rw [← EReal.coe_neg]
  rcases le_total 0 a with h | h
  · rw [abs_of_nonneg h, max_eq_left (EReal.coe_le_coe_iff.mpr (by linarith))]
  · rw [abs_of_nonpos h, max_eq_right (EReal.coe_le_coe_iff.mpr (by linarith))]

theorem select_eq {α : Type} (a b : ℝ) (x y : α) :
    Scalar.select (Ideal.cmp .oeq (a : EReal) (b : EReal)) x y = if a = b then x else y := by
  by_cases h : a = b <;> simp [Ideal.cmp, Scalar.select, EReal.coe_eq_coe_iff, h]

theorem select_lt {α : Type} (a b : ℝ) (x y : α) :
    Scalar.select (Ideal.cmp .olt (a : EReal) (b : EReal)) x y = if a < b then x else y := by
  by_cases h : a < b <;> simp [Ideal.cmp, Scalar.select, EReal.coe_lt_coe_iff, h]

theorem if_real (P : Prop) [Decidable P] (a b : ℝ) :
    (if P then (a : EReal) else (b : EReal)) = ((if P then a else b : ℝ) : EReal) := by
  split <;> rfl

/-! ### The rotation's cosine and sine -/

/-- The tangent as the programs compute it. -/
def eSlope (app aqq apq : EReal) : EReal :=
  let θ := Ideal.div (aqq - app) (Ideal.ofBits .f32 0x40000000#32
    * Scalar.select (Ideal.cmp .oeq apq (Ideal.ofBits .f32 0x00000000#32)) (Ideal.ofBits .f32 0x3F800000#32) apq)
  Ideal.div
    (Scalar.select (Ideal.cmp .olt θ (Ideal.ofBits .f32 0x00000000#32)) (Ideal.ofBits .f32 0xBF800000#32)
      (Ideal.ofBits .f32 0x3F800000#32))
    (max θ (-θ) + Ideal.sqrt (θ * θ + Ideal.ofBits .f32 0x3F800000#32))

/-- The cosine of that tangent. -/
def eRoot (app aqq apq : EReal) : EReal :=
  Ideal.div (Ideal.ofBits .f32 0x3F800000#32)
    (Ideal.sqrt (eSlope app aqq apq * eSlope app aqq apq + Ideal.ofBits .f32 0x3F800000#32))

/-- The cosine as the programs compute it. -/
def eCos (app aqq apq : EReal) : EReal :=
  Scalar.select (Ideal.cmp .oeq apq (Ideal.ofBits .f32 0x00000000#32)) (Ideal.ofBits .f32 0x3F800000#32) (eRoot app aqq apq)

/-- The sine as the programs compute it. -/
def eSin (app aqq apq : EReal) : EReal :=
  Scalar.select (Ideal.cmp .oeq apq (Ideal.ofBits .f32 0x00000000#32)) (Ideal.ofBits .f32 0x00000000#32)
    (eSlope app aqq apq * eRoot app aqq apq)

theorem eSlope_real (app aqq apq : ℝ) : eSlope app aqq apq = ((slope app aqq apq : ℝ) : EReal) := by
  have h2 : (2 * (if apq = 0 then 1 else apq) : ℝ) ≠ 0 := by split <;> simp_all
  have hθ : Ideal.div ((aqq : EReal) - app) (Ideal.ofBits .f32 0x40000000#32
      * Scalar.select (Ideal.cmp .oeq (apq : EReal) (Ideal.ofBits .f32 0x00000000#32)) (Ideal.ofBits .f32 0x3F800000#32) (apq : EReal))
      = (((aqq - app) / (2 * (if apq = 0 then 1 else apq)) : ℝ) : EReal) := by
    rw [lit_zero, lit_one, lit_two, select_eq, if_real, ← EReal.coe_mul, ← EReal.coe_sub, div_real _ _ h2]
  unfold eSlope slope
  rw [hθ]
  generalize (aqq - app) / (2 * (if apq = 0 then 1 else apq)) = θ
  have h0 : 0 < θ * θ + 1 := by nlinarith [mul_self_nonneg θ]
  have h1 : |θ| + √(θ * θ + 1) ≠ 0 := (add_pos_of_nonneg_of_pos (abs_nonneg θ) (Real.sqrt_pos.mpr h0)).ne'
  show Ideal.div _ _ = _
  rw [lit_zero, lit_one, lit_minus, select_lt, if_real, abs_real, ← EReal.coe_mul, ← EReal.coe_add, sqrt_real _ h0.le,
    ← EReal.coe_add, div_real _ _ h1]

theorem eRoot_real (app aqq apq : ℝ) :
    eRoot app aqq apq = ((1 / √(slope app aqq apq * slope app aqq apq + 1) : ℝ) : EReal) := by
  unfold eRoot
  rw [eSlope_real]
  generalize slope app aqq apq = t
  have h0 : 0 < t * t + 1 := by nlinarith [mul_self_nonneg t]
  have h1 : √(t * t + 1) ≠ 0 := (Real.sqrt_pos.mpr h0).ne'
  rw [lit_one, ← EReal.coe_mul, ← EReal.coe_add, sqrt_real _ h0.le, div_real _ _ h1]

theorem eCos_real (app aqq apq : ℝ) : eCos app aqq apq = ((cosine app aqq apq : ℝ) : EReal) := by
  unfold eCos cosine
  rw [eRoot_real, lit_zero, lit_one, select_eq, if_real]

theorem eSin_real (app aqq apq : ℝ) : eSin app aqq apq = ((sine app aqq apq : ℝ) : EReal) := by
  unfold eSin sine
  rw [eRoot_real, eSlope_real, lit_zero, select_eq, ← EReal.coe_mul, if_real]

/-! ### The rotation entry by entry -/

/-- The upper triangle of the symmetric matrix and the third row of the vectors. -/
structure Eig where
  a00 : EReal
  a11 : EReal
  a22 : EReal
  a01 : EReal
  a02 : EReal
  a12 : EReal
  u0 : EReal
  u1 : EReal
  u2 : EReal

/-- The entry `(p, p)` after the rotation. -/
def eP (c s app aqq apq : EReal) : EReal := c * c * app - Ideal.ofBits .f32 0x40000000#32 * s * c * apq + s * s * aqq
/-- The entry `(q, q)` after the rotation. -/
def eQ (c s app aqq apq : EReal) : EReal := s * s * app + Ideal.ofBits .f32 0x40000000#32 * s * c * apq + c * c * aqq
/-- The entry `(p, q)` after the rotation. -/
def eM (c s app aqq apq : EReal) : EReal := (c * c - s * s) * apq + s * c * (app - aqq)
/-- The first of two entries turned. -/
def eL (c s x y : EReal) : EReal := c * x - s * y
/-- The second of two entries turned. -/
def eR (c s x y : EReal) : EReal := s * x + c * y

/-- The rotation in the plane `(0, 2)`. -/
def Eig.rot02 (E : Eig) : Eig :=
  let c := eCos E.a00 E.a22 E.a02
  let s := eSin E.a00 E.a22 E.a02
  { a00 := eP c s E.a00 E.a22 E.a02, a22 := eQ c s E.a00 E.a22 E.a02, a02 := eM c s E.a00 E.a22 E.a02,
    a01 := eL c s E.a01 E.a12, a12 := eR c s E.a01 E.a12, a11 := E.a11,
    u0 := eL c s E.u0 E.u2, u2 := eR c s E.u0 E.u2, u1 := E.u1 }

/-- The rotation in the plane `(1, 2)`. -/
def Eig.rot12 (E : Eig) : Eig :=
  let c := eCos E.a11 E.a22 E.a12
  let s := eSin E.a11 E.a22 E.a12
  { a11 := eP c s E.a11 E.a22 E.a12, a22 := eQ c s E.a11 E.a22 E.a12, a12 := eM c s E.a11 E.a22 E.a12,
    a01 := eL c s E.a01 E.a02, a02 := eR c s E.a01 E.a02, a00 := E.a00,
    u1 := eL c s E.u1 E.u2, u2 := eR c s E.u1 E.u2, u0 := E.u0 }

/-- The rotation in the plane `(0, 1)`. -/
def Eig.rot01 (E : Eig) : Eig :=
  let c := eCos E.a00 E.a11 E.a01
  let s := eSin E.a00 E.a11 E.a01
  { a00 := eP c s E.a00 E.a11 E.a01, a11 := eQ c s E.a00 E.a11 E.a01, a01 := eM c s E.a00 E.a11 E.a01,
    a02 := eL c s E.a02 E.a12, a12 := eR c s E.a02 E.a12, a22 := E.a22,
    u0 := eL c s E.u0 E.u1, u1 := eR c s E.u0 E.u1, u2 := E.u2 }

/-- The three rotations of a sweep. -/
def Eig.cycle (E : Eig) : Eig := E.rot02.rot12.rot01

/-- The entries are those of a pair of a real symmetric matrix and real vectors. -/
structure Eig.Is (E : Eig) (S : Mat × Mat) : Prop where
  sym : Sym S.1
  a00 : E.a00 = ((S.1 0 0 : ℝ) : EReal)
  a11 : E.a11 = ((S.1 1 1 : ℝ) : EReal)
  a22 : E.a22 = ((S.1 2 2 : ℝ) : EReal)
  a01 : E.a01 = ((S.1 0 1 : ℝ) : EReal)
  a02 : E.a02 = ((S.1 0 2 : ℝ) : EReal)
  a12 : E.a12 = ((S.1 1 2 : ℝ) : EReal)
  u0 : E.u0 = ((S.2 2 0 : ℝ) : EReal)
  u1 : E.u1 = ((S.2 2 1 : ℝ) : EReal)
  u2 : E.u2 = ((S.2 2 2 : ℝ) : EReal)

theorem eP_real (c s x y z : ℝ) : eP c s x y z = ((c * c * x - 2 * s * c * z + s * s * y : ℝ) : EReal) := by
  simp only [eP, lit_two, ← EReal.coe_mul, ← EReal.coe_sub, ← EReal.coe_add]
theorem eQ_real (c s x y z : ℝ) : eQ c s x y z = ((s * s * x + 2 * s * c * z + c * c * y : ℝ) : EReal) := by
  simp only [eQ, lit_two, ← EReal.coe_mul, ← EReal.coe_add]
theorem eM_real (c s x y z : ℝ) : eM c s x y z = (((c * c - s * s) * z + s * c * (x - y) : ℝ) : EReal) := by
  simp only [eM, ← EReal.coe_mul, ← EReal.coe_sub, ← EReal.coe_add]
theorem eL_real (c s x y : ℝ) : eL c s x y = ((c * x - s * y : ℝ) : EReal) := by
  simp only [eL, ← EReal.coe_mul, ← EReal.coe_sub]
theorem eR_real (c s x y : ℝ) : eR c s x y = ((s * x + c * y : ℝ) : EReal) := by
  simp only [eR, ← EReal.coe_mul, ← EReal.coe_add]

theorem Eig.Is.rot02 {E : Eig} {S : Mat × Mat} (h : E.Is S) : E.rot02.Is (rot 0 2 S) := by
  obtain ⟨hs, h1, h2, h3, h4, h5, h6, h7, h8, h9⟩ := h
  obtain ⟨r1, r2, r3, r4, r5, r6, r7, r8, r9⟩ := rot_02 S hs
  refine ⟨sym_rot 0 2 S hs, ?_, ?_, ?_, ?_, ?_, ?_, ?_, ?_, ?_⟩ <;>
    simp only [Eig.rot02, h1, h2, h3, h4, h5, h6, h7, h8, h9, eCos_real, eSin_real, eP_real, eQ_real, eM_real, eL_real, eR_real,
      r1, r2, r3, r4, r5, r6, r7, r8, r9]

theorem Eig.Is.rot12 {E : Eig} {S : Mat × Mat} (h : E.Is S) : E.rot12.Is (rot 1 2 S) := by
  obtain ⟨hs, h1, h2, h3, h4, h5, h6, h7, h8, h9⟩ := h
  obtain ⟨r1, r2, r3, r4, r5, r6, r7, r8, r9⟩ := rot_12 S hs
  refine ⟨sym_rot 1 2 S hs, ?_, ?_, ?_, ?_, ?_, ?_, ?_, ?_, ?_⟩ <;>
    simp only [Eig.rot12, h1, h2, h3, h4, h5, h6, h7, h8, h9, eCos_real, eSin_real, eP_real, eQ_real, eM_real, eL_real, eR_real,
      r1, r2, r3, r4, r5, r6, r7, r8, r9]

theorem Eig.Is.rot01 {E : Eig} {S : Mat × Mat} (h : E.Is S) : E.rot01.Is (rot 0 1 S) := by
  obtain ⟨hs, h1, h2, h3, h4, h5, h6, h7, h8, h9⟩ := h
  obtain ⟨r1, r2, r3, r4, r5, r6, r7, r8, r9⟩ := rot_01 S hs
  refine ⟨sym_rot 0 1 S hs, ?_, ?_, ?_, ?_, ?_, ?_, ?_, ?_, ?_⟩ <;>
    simp only [Eig.rot01, h1, h2, h3, h4, h5, h6, h7, h8, h9, eCos_real, eSin_real, eP_real, eQ_real, eM_real, eL_real, eR_real,
      r1, r2, r3, r4, r5, r6, r7, r8, r9]

theorem Eig.Is.cycle {E : Eig} {S : Mat × Mat} (h : E.Is S) : E.cycle.Is (PlaneFit.cycle S) := h.rot02.rot12.rot01

/-! ### The order of the vectors -/

/-- The first of two, when the second key is the smaller exchanged. -/
def eSwapL (w w' x y : EReal) : EReal := Scalar.select (Ideal.cmp .olt w' w) y x
/-- The second of two, when the second key is the smaller exchanged. -/
def eSwapR (w w' x y : EReal) : EReal := Scalar.select (Ideal.cmp .olt w' w) x y

/-- The third row of the vectors, by three exchanges on the diagonal: the last first. -/
def Eig.sorted (E : Eig) : Fin 3 → EReal :=
  let w0 := eSwapL E.a00 E.a11 E.a00 E.a11
  let w1 := eSwapR E.a00 E.a11 E.a00 E.a11
  let x0 := eSwapL E.a00 E.a11 E.u0 E.u1
  let x1 := eSwapR E.a00 E.a11 E.u0 E.u1
  let w1' := eSwapL w1 E.a22 w1 E.a22
  let y1 := eSwapL w1 E.a22 x1 E.u2
  ![eSwapR w1 E.a22 x1 E.u2, eSwapR w0 w1' x0 y1, eSwapL w0 w1' x0 y1]

theorem Eig.Is.sorted {E : Eig} {S : Mat × Mat} (h : E.Is S) (k : Fin 3) : E.sorted k = ((thirdRow S k : ℝ) : EReal) := by
  obtain ⟨-, h1, h2, h3, -, -, -, h7, h8, h9⟩ := h
  unfold Eig.sorted
  simp only [h1, h2, h3, h7, h8, h9, eSwapL, eSwapR, select_lt, if_real]
  unfold thirdRow place ind
  simp only [Fin.sum_univ_three]
  obtain ⟨x, hx⟩ : ∃ x, x = S.1 0 0 := ⟨_, rfl⟩
  obtain ⟨y, hy⟩ : ∃ y, y = S.1 1 1 := ⟨_, rfl⟩
  obtain ⟨z, hz⟩ : ∃ z, z = S.1 2 2 := ⟨_, rfl⟩
  simp only [← hx, ← hy, ← hz]
  clear hx hy hz
  rcases lt_trichotomy x y with a | a | a <;> rcases lt_trichotomy y z with b | b | b <;>
    rcases lt_trichotomy x z with c | c | c <;> first
      | (exfalso; linarith)
      | (fin_cases k <;> simp [a, b, c, not_lt_of_gt a, not_lt_of_gt b, not_lt_of_gt c, ne_of_lt, ne_of_gt, le_of_lt] <;> norm_num)
      | (fin_cases k <;> simp_all [not_lt_of_gt, ne_of_lt, ne_of_gt, le_of_lt] <;> norm_num)

end PlaneFit

end
-- ==== Proof.SweepSteps.lean ====
/- The second call's arithmetic: thirty-two steps of one shape, read from the printed operations. -/
module

public import proofs.«01_k».proof.Proof.Gen.KernelIdeal.Frame
public import proofs.«01_k».proof.Proof.Scalars

@[expose] public section

noncomputable section

namespace PlaneFit

open Cert.KernelIdeal Cert.KernelIdeal.Gen Idealize.ShloMosaic

/-- The three coordinates of a block of points. -/
structure Trip where
  x : FVec Ideal S8x6256 .f32
  y : FVec Ideal S8x6256 .f32
  z : FVec Ideal S8x6256 .f32

/-- Eight rows of a block of points. -/
def rows8 (o : ℕ) (h : ∀ a, ![0, o, 0] a + S1x8x6256.size a ≤ S1x24x6256.size a) (x0 : Vec Ideal S1x24x6256 .f32) : FVec Ideal S8x6256 .f32 :=
  shapeCast S8x6256 (View.ld x0 (Rect.unit ![0, o, 0] S1x8x6256.size h)) shapeCasts_S1x8x6256_S8x6256

/-- The block's points. -/
def points (x0 : Vec Ideal S1x24x6256 .f32) : Trip where
  x := rows8 0 inb_S1x24x6256_S1x8x6256_0_0_0 x0
  y := rows8 8 inb_S1x24x6256_S1x8x6256_0_8_0 x0
  z := rows8 16 inb_S1x24x6256_S1x8x6256_0_16_0 x0

/-- Eight rows of packed masks, as words. -/
def words (o : ℕ) (h : ∀ a, ![0, o, 0] a + S1x8x6256.size a ≤ S1x16x6256.size a) (x1 : Vec Ideal S1x16x6256 .f32) : IVec S8x6256 32 :=
  fptoui 32 (shapeCast S8x6256 (View.ld x1 (Rect.unit ![0, o, 0] S1x8x6256.size h)) shapeCasts_S1x8x6256_S8x6256 :
    FVec Ideal S8x6256 .f32)

/-- The words that hold plane `m`'s mask. -/
def wordsOf (m : Fin 32) (x1 : Vec Ideal S1x16x6256 .f32) : IVec S8x6256 32 :=
  if m.val < 16 then words 0 inb_S1x16x6256_S1x8x6256_0_0_0 x1 else words 8 inb_S1x16x6256_S1x8x6256_0_8_0 x1

/-- Plane `m`'s mask: one bit of its words, as a number. -/
def bit (m : Fin 32) (x1 : Vec Ideal S1x16x6256 .f32) : FVec Ideal S8x6256 .f32 :=
  uitofp .f32 (andi (shrui (wordsOf m x1) (broadcast S8x6256 (BitVec.ofNat 32 (m.val % 16)))) (broadcast S8x6256 1#32))

theorem inb_one (m : Fin 32) (k : Fin 4) : ∀ a, ![0, m.val, k.val] a + S1x1x1.size a ≤ S1x32x128.size a := by
  intro a
  have := m.isLt
  have := k.isLt
  fin_cases a <;> simp <;> omega

/-- Number `k` of plane `m`'s row: the normal's three components and the offset, in every place. -/
def num (m : Fin 32) (k : Fin 4) (x2 : Vec Ideal S1x32x128 .f32) : FVec Ideal S8x6256 .f32 :=
  broadcastTo S8x6256 (shapeCast S1x1 (View.ld x2 (Rect.unit ![0, m.val, k.val] S1x1x1.size (inb_one m k)))
    shapeCasts_S1x1x1_S1x1) broadcasts_S1x1_S8x6256

/-- The masked distance of each point from plane `m`. -/
def reach (m : Fin 32) (x1 : Vec Ideal S1x16x6256 .f32) (x2 : Vec Ideal S1x32x128 .f32) (T : Trip) : FVec Ideal S8x6256 .f32 :=
  mulf (bit m x1) (addf (addf (addf (mulf (num m 0 x2) T.x) (mulf (num m 1 x2) T.y)) (mulf (num m 2 x2) T.z)) (num m 3 x2))

/-- The step of plane `m`. -/
def step (m : Fin 32) (x1 : Vec Ideal S1x16x6256 .f32) (x2 : Vec Ideal S1x32x128 .f32) (T : Trip) : Trip where
  x := subf T.x (mulf (num m 0 x2) (reach m x1 x2 T))
  y := subf T.y (mulf (num m 1 x2) (reach m x1 x2 T))
  z := subf T.z (mulf (num m 2 x2) (reach m x1 x2 T))

/-- The points after the first `k` planes, from `T`. -/
def steps (x1 : Vec Ideal S1x16x6256 .f32) (x2 : Vec Ideal S1x32x128 .f32) (T : Trip) : ℕ → Trip
  | 0 => T
  | k + 1 => step (Fin.ofNat 32 k) x1 x2 (steps x1 x2 T k)

section

variable (c : Dev nD) (i : grid1.Coords) (arg1 : Memref sig .tc .vmem S1x24x6256 .f32) (harg1 : arg1.IsWhole)
  (arg2 : Memref sig .tc .vmem S1x16x6256 .f32) (harg2 : arg2.IsWhole) (arg3 : Memref sig .tc .vmem S1x32x128 .f32) (harg3 : arg3.IsWhole)
  (arg4 : Memref sig .tc .vmem S1x24x6256 .f32) (harg4 : arg4.IsWhole) (arg5 : Memref sig .tc .vmem S1x24x6256 .f32) (harg5 : arg5.IsWhole)
  (x0 : Vec Ideal S1x24x6256 .f32) (x1 : Vec Ideal S1x16x6256 .f32) (x2 : Vec Ideal S1x32x128 .f32)

/-- A store of eight rows. -/
def put (o : ℕ) (h : ∀ a, ![0, o, 0] a + S1x8x6256.size a ≤ S1x24x6256.size a) (v : FVec Ideal S8x6256 .f32) :
    View.Piece (Elt Ideal) S1x24x6256 .f32 :=
  ⟨Rect.unit ![0, o, 0] S1x8x6256.size h, shapeCast S1x8x6256 v shapeCasts_S8x6256_S1x8x6256⟩

/-- The three stores of a block of points, the last first. -/
def puts (x y z : FVec Ideal S8x6256 .f32) : List (View.Piece (Elt Ideal) S1x24x6256 .f32) :=
  [put 16 inb_S1x24x6256_S1x8x6256_0_16_0 z, put 8 inb_S1x24x6256_S1x8x6256_0_8_0 y, put 0 inb_S1x24x6256_S1x8x6256_0_0_0 x]

/-- The block's points as the run loads them. -/
def loaded : Trip where
  x := kernelRun1_A.sl.r c arg1 harg1 x0
  y := kernelRun1_A.sl.r_1 c arg1 harg1 x0
  z := kernelRun1_A.sl.r_2 c arg1 harg1 x0

theorem stored_points :
    (kernelRun1_A (F := Ideal) c i arg1 harg1 arg2 harg2 arg3 harg3 arg4 harg4 arg5 harg5 x0 x1 x2).1
      = puts (steps (arg2.view.read (Elt Ideal) (harg2.unread x1)) (arg3.view.read (Elt Ideal) (harg3.unread x2)) (loaded c arg1 harg1 x0) 32).x
        (steps (arg2.view.read (Elt Ideal) (harg2.unread x1)) (arg3.view.read (Elt Ideal) (harg3.unread x2)) (loaded c arg1 harg1 x0) 32).y
        (steps (arg2.view.read (Elt Ideal) (harg2.unread x1)) (arg3.view.read (Elt Ideal) (harg3.unread x2)) (loaded c arg1 harg1 x0) 32).z := by
  sl_kernel_rfl

theorem stored_moves :
    (kernelRun1_A (F := Ideal) c i arg1 harg1 arg2 harg2 arg3 harg3 arg4 harg4 arg5 harg5 x0 x1 x2).2.1
      = puts (subf (steps (arg2.view.read (Elt Ideal) (harg2.unread x1)) (arg3.view.read (Elt Ideal) (harg3.unread x2))
          (loaded c arg1 harg1 x0) 32).x (loaded c arg1 harg1 x0).x)
        (subf (steps (arg2.view.read (Elt Ideal) (harg2.unread x1)) (arg3.view.read (Elt Ideal) (harg3.unread x2))
          (loaded c arg1 harg1 x0) 32).y (loaded c arg1 harg1 x0).y)
        (subf (steps (arg2.view.read (Elt Ideal) (harg2.unread x1)) (arg3.view.read (Elt Ideal) (harg3.unread x2))
          (loaded c arg1 harg1 x0) 32).z (loaded c arg1 harg1 x0).z) := by
  sl_kernel_rfl

end

end PlaneFit

end
-- ==== Proof.Moments.lean ====
/- The moments of the masked points in the first call: its count, centroid and covariance are, row by row, those of the mathematics,
   once its mask and its points are real. -/
module

public import proofs.«01_k».proof.Proof.Gen.KernelIdeal.Skeleton
public import proofs.«01_k».proof.Proof.Scalars
public import Idealize.ShloMosaic.Lib.ValueIdx
public import Idealize.ShloMosaic.Lib.ValueLayout
public import Idealize.ShloMosaic.Lib.ValueLayoutCasts

@[expose] public section

noncomputable section

namespace PlaneFit

open Cert.KernelIdeal Cert.KernelIdeal.Gen Idealize.ShloMosaic.ValueIdx
open Idealize.ShloMosaic hiding ix1 ix2 ix3

/-- The column of a normal's component `k` in a plane's row. -/
def comp (k : Fin 3) : Fin 128 := ⟨k.val, by omega⟩

/-- Choosing by `≥` of two reals. -/
theorem select_ge {α : Type} (a b : ℝ) (x y : α) :
    Scalar.select (Ideal.cmp .oge (a : EReal) (b : EReal)) x y = if b ≤ a then x else y := by
  by_cases h : b ≤ a <;> simp [Ideal.cmp, Scalar.select, EReal.coe_le_coe_iff, h]

/-- A sum of reals, taken in the extended reals. -/
theorem sum_real {ι : Type} (s : Finset ι) (f : ι → ℝ) : ∑ n ∈ s, ((f n : ℝ) : EReal) = ((∑ n ∈ s, f n : ℝ) : EReal) := by
  classical
  induction s using Finset.induction_on with
  | empty => simp
  | insert a s ha ih => rw [Finset.sum_insert ha, Finset.sum_insert ha, ih, EReal.coe_add]

/-- The maximum of two reals, taken in the extended reals. -/
theorem max_real (a b : ℝ) : max (a : EReal) (b : EReal) = ((max a b : ℝ) : EReal) :=
  (EReal.coe_strictMono.monotone.map_max).symm

/-- The source place over row `i` and lane `n` of a sum along the lanes. -/
theorem lift_lane (h : S32x50048.Reduces [1] S32) (i : S32.Idx) (n : Fin 50048) : h.lift i n = ix2 (i 0) n := by
  funext a
  match a with
  | ⟨0, _⟩ => rfl
  | ⟨1, _⟩ => rfl

/-- A row's sum along the lanes, of real entries. -/
theorem row_sum (v : FVec Ideal S32x50048 .f32) (f : Fin 32 → Fin 50048 → ℝ) (h : ∀ m n, v (ix2 m n) = ((f m n : ℝ) : EReal))
    (m : Fin 32) (u : Fin 1) :
    shapeCast S32x1 (multiReduction .add [1] S32 v 0x00000000#32 reduces_S32x50048_S32 (.inl rfl) rfl) shapeCasts_S32_S32x1 (ix2 m u)
      = ((∑ n, f m n : ℝ) : EReal) := by
  rw [shapeCast_a_a1_apply, ← sum_real]
  refine (Ideal.multiReduction_add_single _ _ _ _ _ _).trans ?_
  refine Finset.sum_congr rfl fun n _ => ?_
  exact (congrArg v (lift_lane _ (ix1 m) n)).trans (h m n)

/-- One column stretched along the lanes. -/
theorem stretch_col {α : Type} (v : S32x1.Idx → α) (m : Fin 32) (n : Fin 50048) :
    broadcastTo S32x50048 v broadcasts_S32x1_S32x50048 (ix2 m n) = v (ix2 m 0) :=
  broadcastTo_apply v _ _ _ fun a => by match a with | ⟨0, _⟩ => rfl | ⟨1, _⟩ => rfl

section

variable (x : Fin 50048 → Fin 3 → ℝ) (μ : Fin 32 → Fin 50048 → Prop) [∀ m n, Decidable (μ m n)]
  (v25 : FVec Ideal S32x50048 .f32) (v26 v27 v28 : FVec Ideal S1x50048 .f32)
  (h25 : ∀ m n, v25 (ix2 m n) = ((ind (μ m n) : ℝ) : EReal))
  (h26 : ∀ n, v26 (ix2 0 n) = ((x n 0 : ℝ) : EReal)) (h27 : ∀ n, v27 (ix2 0 n) = ((x n 1 : ℝ) : EReal))
  (h28 : ∀ n, v28 (ix2 0 n) = ((x n 2 : ℝ) : EReal))
  (v30 v34 : FVec Ideal S32x1 .f32) (v36 : FVec Ideal S32x50048 .f32)
  (h30 : ∀ m, v30 (ix2 m 0) = ((cnt (μ m) : ℝ) : EReal))
  (h34 : ∀ m, v34 (ix2 m 0) = ((∑ n, x n 0 * ind (μ m n) : ℝ) : EReal))
  (h36 : ∀ m n, v36 (ix2 m n) = ((x n 1 * ind (μ m n) : ℝ) : EReal))

include h30 in
theorem pay10_real (m : Fin 32) : k0_pay10 v30 (ix2 m 0) = ((max (cnt (μ m)) 1 : ℝ) : EReal) := by
  show max (v30 (ix2 m 0)) (Ideal.ofBits .f32 0x3F800000#32) = _
  rw [h30, lit_one, max_real]

theorem count_ne (m : Fin 32) : max (cnt (μ m)) 1 ≠ 0 := ne_of_gt (lt_of_lt_of_le one_pos (le_max_right _ _))

include h30 h34 in
/-- The centroid's first coordinate. -/
theorem cen0_real (m : Fin 32) : k0_pay11 v30 v34 (ix2 m 0) = ((cen x (μ m) 0 : ℝ) : EReal) := by
  show Ideal.div (v34 (ix2 m 0)) (k0_pay10 v30 (ix2 m 0)) = _
  rw [h34, pay10_real μ v30 h30, div_real _ _ (count_ne μ m)]
  rfl

include h30 h36 in
/-- The centroid's second coordinate. -/
theorem cen1_real (m : Fin 32) : k0_pay12 v30 v36 (ix2 m 0) = ((cen x (μ m) 1 : ℝ) : EReal) := by
  show Ideal.div (shapeCast S32x1 (multiReduction .add [1] S32 v36 0x00000000#32 reduces_S32x50048_S32 (.inl rfl) rfl)
    shapeCasts_S32_S32x1 (ix2 m 0)) (k0_pay10 v30 (ix2 m 0)) = _
  rw [row_sum v36 _ h36, pay10_real μ v30 h30, div_real _ _ (count_ne μ m)]
  rfl

include h25 h28 in
theorem masked2 (m : Fin 32) (n : Fin 50048) :
    mulf v25 (broadcastTo S32x50048 v28 broadcasts_S1x50048_S32x50048) (ix2 m n) = ((x n 2 * ind (μ m n) : ℝ) : EReal) := by
  rw [mulf_apply, broadcastTo_1b_ab_apply, h25, h28, ← EReal.coe_mul, mul_comm]

include h25 h28 h30 in
/-- The centroid's third coordinate. -/
theorem cen2_real (m : Fin 32) : k0_pay13 v25 v28 v30 (ix2 m 0) = ((cen x (μ m) 2 : ℝ) : EReal) := by
  show Ideal.div (shapeCast S32x1 (multiReduction .add [1] S32 (mulf v25 (broadcastTo S32x50048 v28 broadcasts_S1x50048_S32x50048))
    0x00000000#32 reduces_S32x50048_S32 (.inl rfl) rfl) shapeCasts_S32_S32x1 (ix2 m 0)) (k0_pay10 v30 (ix2 m 0)) = _
  rw [row_sum _ _ (masked2 x μ v25 v28 h25 h28), pay10_real μ v30 h30, div_real _ _ (count_ne μ m)]
  rfl

include h25 in
/-- A coordinate of the masked points about their centroid. -/
theorem about (k : Fin 3) (w : FVec Ideal S1x50048 .f32) (hw : ∀ n, w (ix2 0 n) = ((x n k : ℝ) : EReal)) (e : FVec Ideal S32x1 .f32)
    (he : ∀ m, e (ix2 m 0) = ((cen x (μ m) k : ℝ) : EReal)) (m : Fin 32) (n : Fin 50048) :
    mulf (subf (broadcastTo S32x50048 w broadcasts_S1x50048_S32x50048) (broadcastTo S32x50048 e broadcasts_S32x1_S32x50048)) v25 (ix2 m n)
      = ((centred x (μ m) n k : ℝ) : EReal) := by
  rw [mulf_apply, subf_apply, broadcastTo_1b_ab_apply, stretch_col, h25, hw, he, ← EReal.coe_sub, ← EReal.coe_mul]
  rfl

/-- A sum of products of two coordinates about the centroid. -/
theorem second (i j : Fin 3) (a b : FVec Ideal S32x50048 .f32) (ha : ∀ m n, a (ix2 m n) = ((centred x (μ m) n i : ℝ) : EReal))
    (hb : ∀ m n, b (ix2 m n) = ((centred x (μ m) n j : ℝ) : EReal)) (m : Fin 32) :
    shapeCast S32x1 (multiReduction .add [1] S32 (mulf a b) 0x00000000#32 reduces_S32x50048_S32 (.inl rfl) rfl) shapeCasts_S32_S32x1
      (ix2 m 0) = ((∑ n, centred x (μ m) n i * centred x (μ m) n j : ℝ) : EReal) :=
  row_sum _ (fun m n => centred x (μ m) n i * centred x (μ m) n j) (fun m n => by rw [mulf_apply, ha, hb, EReal.coe_mul]) m 0

include h30 in
theorem pay25_real (m : Fin 32) : k0_pay25 (F := Ideal) (k0_pay23 v30) k0_pay24 (ix2 m 0) = ((max 1 (cnt (μ m) - 1) : ℝ) : EReal) := by
  show max (Ideal.ofBits .f32 0x3F800000#32) (v30 (ix2 m 0) - Ideal.ofBits .f32 0x3F800000#32) = _
  rw [h30, lit_one, ← EReal.coe_sub, max_real]

theorem dof_ne (m : Fin 32) : max 1 (cnt (μ m) - 1) ≠ 0 := ne_of_gt (lt_of_lt_of_le one_pos (le_max_left _ _))

include h30 in
/-- A diagonal entry of the matrix decomposed. -/
theorem diag_real (i : Fin 3) (lit : BitVec 32) (hl : Ideal.ofBits .f32 lit = (((3 - ((i : ℕ) : ℝ) : ℝ)) : EReal))
    (s : FVec Ideal S32x1 .f32) (m : Fin 32)
    (hs : s (ix2 m 0) = ((∑ n, centred x (μ m) n i * centred x (μ m) n i : ℝ) : EReal)) :
    select (k0_pay26 v30) (addf (divf s (k0_pay25 (k0_pay23 v30) k0_pay24)) (broadcast S32x1 (Ideal.ofBits .f32 0x358637BD#32)))
      (broadcast S32x1 (Ideal.ofBits .f32 lit)) (ix2 m 0) = ((fitted x (μ m) eps i i : ℝ) : EReal) := by
  show Scalar.select (Ideal.cmp .oge (v30 (ix2 m 0)) (Ideal.ofBits .f32 0x40400000#32))
    (Ideal.div (s (ix2 m 0)) (k0_pay25 (F := Ideal) (k0_pay23 v30) k0_pay24 (ix2 m 0)) + Ideal.ofBits .f32 0x358637BD#32)
    (Ideal.ofBits .f32 lit) = _
  rw [h30, lit_three, select_ge, hs, pay25_real μ v30 h30, div_real _ _ (dof_ne μ m), lit_eps, hl, ← EReal.coe_add, if_real]
  simp [fitted, cov, ind]

include h30 in
/-- An entry off the diagonal of the matrix decomposed. -/
theorem off_real (i j : Fin 3) (hij : i ≠ j) (s : FVec Ideal S32x1 .f32) (m : Fin 32)
    (hs : s (ix2 m 0) = ((∑ n, centred x (μ m) n i * centred x (μ m) n j : ℝ) : EReal)) :
    select (k0_pay26 v30) (divf s (k0_pay25 (k0_pay23 v30) k0_pay24)) (broadcast S32x1 (Ideal.ofBits .f32 0x00000000#32)) (ix2 m 0)
      = ((fitted x (μ m) eps i j : ℝ) : EReal) := by
  show Scalar.select (Ideal.cmp .oge (v30 (ix2 m 0)) (Ideal.ofBits .f32 0x40400000#32))
    (Ideal.div (s (ix2 m 0)) (k0_pay25 (F := Ideal) (k0_pay23 v30) k0_pay24 (ix2 m 0)))
    (Ideal.ofBits .f32 0x00000000#32) = _
  rw [h30, lit_three, select_ge, hs, pay25_real μ v30 h30, div_real _ _ (dof_ne μ m), lit_zero, if_real]
  simp [fitted, cov, ind, hij]

/-- The entries of the matrix decomposed and the third row of the identity, as the first call holds them for row `m`. -/
def startAt (i : S32x1.Idx) : Eig where
  a00 := k0_pay27 (F := Ideal) v30 (k0_pay17 v25 v26 v30 v34) (k0_pay23 v30) k0_pay24 i
  a11 := k0_pay28 (F := Ideal) v30 (k0_pay18 v25 v27 v30 v36) (k0_pay23 v30) k0_pay24 i
  a22 := k0_pay29 (F := Ideal) v30 (k0_pay19 v25 v28 v30) (k0_pay23 v30) k0_pay24 i
  a01 := k0_pay30 (F := Ideal) v30 (k0_pay20 v25 v26 v27 v30 v34 v36) (k0_pay23 v30) k0_pay24 i
  a02 := k0_pay31 (F := Ideal) v30 (k0_pay21 v25 v26 v28 v30 v34) (k0_pay23 v30) k0_pay24 i
  a12 := k0_pay32 (F := Ideal) v30 (k0_pay22 v25 v27 v28 v30 v36) (k0_pay23 v30) k0_pay24 i
  u0 := Ideal.ofBits .f32 0x00000000#32
  u1 := Ideal.ofBits .f32 0x00000000#32
  u2 := Ideal.ofBits .f32 0x3F800000#32

/-- The state the sweeps start from, for row `m`. -/
def startOf (m : Fin 32) : Eig := startAt v25 v26 v27 v28 v30 v34 v36 (ix2 m 0)

/-- The matrix decomposed is symmetric. -/
theorem sym_fitted {N : ℕ} (p : Fin N → Fin 3 → ℝ) (ν : Fin N → Prop) [∀ n, Decidable (ν n)] (ε : ℝ) : Sym (fitted p ν ε) := by
  intro i j
  unfold fitted cov
  by_cases h : i = j
  · subst h; rfl
  · have h' : j ≠ i := fun e => h e.symm
    simp only [ind, h, h', if_false]
    split
    · simp only [mul_comm]
    · simp

include h25 h26 h27 h28 h30 h34 h36 in
/-- Those are the entries of the mathematics' matrix. -/
theorem startOf_real (m : Fin 32) : (startOf v25 v26 v27 v28 v30 v34 v36 m).Is (fitted x (μ m) eps, one) where
  sym := sym_fitted _ _ _
  a00 := diag_real x μ v30 h30 0 _ (by rw [lit_three]; norm_num) _ m
    (second x μ 0 0 _ _ (about x μ v25 h25 0 v26 h26 _ (cen0_real x μ v30 v34 h30 h34))
      (about x μ v25 h25 0 v26 h26 _ (cen0_real x μ v30 v34 h30 h34)) m)
  a11 := diag_real x μ v30 h30 1 _ (by rw [lit_two]; norm_num) _ m
    (second x μ 1 1 _ _ (about x μ v25 h25 1 v27 h27 _ (cen1_real x μ v30 v36 h30 h36))
      (about x μ v25 h25 1 v27 h27 _ (cen1_real x μ v30 v36 h30 h36)) m)
  a22 := diag_real x μ v30 h30 2 _ (by rw [lit_one]; norm_num) _ m
    (second x μ 2 2 _ _ (about x μ v25 h25 2 v28 h28 _ (cen2_real x μ v25 v28 h25 h28 v30 h30))
      (about x μ v25 h25 2 v28 h28 _ (cen2_real x μ v25 v28 h25 h28 v30 h30)) m)
  a01 := off_real x μ v30 h30 0 1 (by decide) _ m
    (second x μ 0 1 _ _ (about x μ v25 h25 0 v26 h26 _ (cen0_real x μ v30 v34 h30 h34))
      (about x μ v25 h25 1 v27 h27 _ (cen1_real x μ v30 v36 h30 h36)) m)
  a02 := off_real x μ v30 h30 0 2 (by decide) _ m
    (second x μ 0 2 _ _ (about x μ v25 h25 0 v26 h26 _ (cen0_real x μ v30 v34 h30 h34))
      (about x μ v25 h25 2 v28 h28 _ (cen2_real x μ v25 v28 h25 h28 v30 h30)) m)
  a12 := off_real x μ v30 h30 1 2 (by decide) _ m
    (second x μ 1 2 _ _ (about x μ v25 h25 1 v27 h27 _ (cen1_real x μ v30 v36 h30 h36))
      (about x μ v25 h25 2 v28 h28 _ (cen2_real x μ v25 v28 h25 h28 v30 h30)) m)
  u0 := by unfold startOf startAt; dsimp only; rw [lit_zero]; simp [one, ind]
  u1 := by unfold startOf startAt; dsimp only; rw [lit_zero]; simp [one, ind]
  u2 := by unfold startOf startAt; dsimp only; rw [lit_one]; simp [one, ind]

end

end PlaneFit

end
-- ==== Proof.Bits.lean ====
/- The masks packed as numbers: a sum of distinct powers of two gives each of its bits back. -/
module

public import proofs.«01_k».proof.Proof.Moments
public import Batteries.Data.Nat.Lemmas

@[expose] public section

noncomputable section

namespace PlaneFit

open Idealize.ShloMosaic

/-- The powers of two of the bits that are set. -/
theorem sum_pow (n : ℕ) (f : Fin n → Bool) : ∑ i, 2 ^ i.val * (f i).toNat = Nat.ofBits f := by
  induction n with
  | zero => simp
  | succ n ih =>
    rw [Fin.sum_univ_succ, Nat.ofBits_succ, ← ih, Finset.mul_sum, Nat.add_comm]
    congr 1
    · refine Finset.sum_congr rfl fun i _ => ?_
      simp [pow_succ]; ring
    · simp

/-- The number that packs sixteen masks. -/
def pack (P : Fin 16 → Prop) [∀ i, Decidable (P i)] : ℝ := ∑ i, 2 ^ i.val * ind (P i)

/-- It is a natural number, the one with these bits. -/
theorem pack_eq (P : Fin 16 → Prop) [∀ i, Decidable (P i)] : pack P = ((Nat.ofBits fun i => decide (P i) : ℕ) : ℝ) := by
  rw [← sum_pow]
  unfold pack
  push_cast
  refine Finset.sum_congr rfl fun i _ => ?_
  by_cases h : P i <;> simp [ind, h]

/-- A natural number below `2 ^ 32`, converted to a word. -/
theorem word_nat (n : ℕ) (h : n < 2 ^ 32) : Ideal.fptoui 32 ((n : ℝ) : EReal) = BitVec.ofNat 32 n := by
  unfold Ideal.fptoui
  rw [Ideal.toIntClamped_coe, if_pos (by positivity)]
  rw [Int.floor_natCast, min_eq_right (by push_cast; omega), max_eq_right (by omega)]
  exact BitVec.ofInt_natCast 32 n

/-- Bit `i` of the packed word is mask `i`. -/
theorem unpack (P : Fin 16 → Prop) [∀ i, Decidable (P i)] (i : Fin 16) :
    FloatOps.uitofp (F := Ideal) .f32
        (IntOp.andi (IntOp.shrui .vector (Ideal.fptoui 32 ((pack P : ℝ) : EReal)) (BitVec.ofNat 32 i.val)) 1#32)
      = ((ind (P i) : ℝ) : EReal) := by
  have hb : Nat.ofBits (fun i => decide (P i)) < 2 ^ 16 := Nat.ofBits_lt_two_pow _
  rw [pack_eq, word_nat _ (by omega)]
  have hi : (BitVec.ofNat 32 i.val).toNat = i.val := by
    rw [BitVec.toNat_ofNat]; exact Nat.mod_eq_of_lt (by omega)
  unfold IntOp.shrui IntOp.andi
  rw [if_pos (by rw [hi]; omega), BitVec.ushiftRight_eq', hi]
  show (((BitVec.toNat _ : ℕ) : ℝ) : EReal) = _
  rw [BitVec.toNat_and, BitVec.toNat_ushiftRight, BitVec.toNat_ofNat, BitVec.toNat_ofNat, Nat.mod_eq_of_lt (by omega : _ < 2 ^ 32),
    Nat.mod_eq_of_lt (by norm_num : 1 < 2 ^ 32), Nat.and_one_is_mod, Nat.shiftRight_eq_div_pow, ← Nat.toNat_testBit,
    Nat.testBit_ofBits_lt _ _ i.isLt]
  by_cases h : P i <;> simp [ind, h]

/-- Plane `k` of the first sixteen. -/
def lo (k : Fin 16) : Fin 32 := ⟨k.val, by omega⟩

/-- Plane `k` of the last sixteen. -/
def hi (k : Fin 16) : Fin 32 := ⟨k.val + 16, by omega⟩

theorem lo_val (k : Fin 16) : (lo k).val = k.val := rfl
theorem hi_val (k : Fin 16) : (hi k).val = k.val + 16 := rfl

/-- The sum over thirty-two planes in two halves. -/
theorem halves (f : Fin 32 → ℝ) : ∑ k, f k = ∑ k : Fin 16, f (lo k) + ∑ k : Fin 16, f (hi k) := by
  refine (Fin.sum_univ_add (a := 16) (b := 16) f).trans ?_
  refine congrArg₂ (· + ·) rfl (Finset.sum_congr rfl fun k _ => congrArg f (Fin.ext ?_))
  simp [hi, Nat.add_comm]

end PlaneFit

end
-- ==== Proof.SweepReal.lean ====
/- The second call on reals: each of its thirty-two steps projects the masked points onto one fitted plane, and its two blocks hold the
   points at the end and how far they went. -/
module

public import proofs.«01_k».proof.Proof.SweepSteps
public import proofs.«01_k».proof.Proof.Bits

@[expose] public section

noncomputable section

namespace PlaneFit

open Cert.KernelIdeal Cert.KernelIdeal.Gen Idealize.ShloMosaic.ValueIdx
open Idealize.ShloMosaic hiding ix1 ix2 ix3

/-- A step with the normal and the offset zeroed when the plane is not fitted, and the distance zeroed off the mask, is the projection. -/
theorem zeroed_project (f b : Prop) [Decidable f] [Decidable b] (n : Fin 3 → ℝ) (d : ℝ) (x : Fin 3 → ℝ) (k : Fin 3) :
    x k - n k * ind f * (ind b * (n 0 * ind f * x 0 + n 1 * ind f * x 1 + n 2 * ind f * x 2 + d * ind f))
      = project (f ∧ b) n d x k := by
  unfold project ind
  by_cases hf : f <;> by_cases hb : b <;> simp only [hf, hb, Fin.sum_univ_three, if_true, if_false, and_self, and_true, and_false, false_and, true_and] <;> ring

/-- A block row's place among the eight rows. -/
theorem rows8_at (o : ℕ) (h : ∀ a, ![0, o, 0] a + S1x8x6256.size a ≤ S1x24x6256.size a) (x0 : Vec Ideal S1x24x6256 .f32)
    (r : Fin 8) (l : Fin 6256) (j : Fin 24) (hj : j.val = o + r.val) : rows8 o h x0 (ix2 r l) = x0 (ix3 0 j l) := by
  unfold rows8
  rw [shapeCast_1ab_ab_apply]
  show x0 _ = _
  refine congrArg x0 (funext fun a => Fin.ext ?_)
  fin_cases a <;> simp [LoadRect.idx, Rect.unit, ix3, hj]

/-- A word of packed masks. -/
theorem words_at (o : ℕ) (h : ∀ a, ![0, o, 0] a + S1x8x6256.size a ≤ S1x16x6256.size a) (x1 : Vec Ideal S1x16x6256 .f32)
    (r : Fin 8) (l : Fin 6256) (j : Fin 16) (hj : j.val = o + r.val) : words o h x1 (ix2 r l) = Ideal.fptoui 32 (x1 (ix3 0 j l)) := by
  unfold words
  show Ideal.fptoui 32 (shapeCast _ _ _ (ix2 r l)) = _
  rw [shapeCast_1ab_ab_apply]
  show Ideal.fptoui 32 (x1 _) = _
  refine congrArg (fun i => Ideal.fptoui 32 (x1 i)) (funext fun a => Fin.ext ?_)
  fin_cases a <;> simp [LoadRect.idx, Rect.unit, ix3, hj]

/-- The row of the first sixteen masks that belongs to row `r` of a coordinate, in a block of packed masks. -/
def low8 (r : Fin 8) : Fin 16 := ⟨r.val, by omega⟩

/-- The row of the last sixteen. -/
def high8 (r : Fin 8) : Fin 16 := ⟨8 + r.val, by omega⟩

/-- A plane's number, in every place. -/
theorem num_at (m : Fin 32) (k : Fin 4) (x2 : Vec Ideal S1x32x128 .f32) (r : Fin 8) (l : Fin 6256) :
    num m k x2 (ix2 r l) = x2 (ix3 0 m ⟨k.val, by omega⟩) := by
  unfold num
  rw [broadcastTo_apply _ _ (ix2 r l) (ix2 0 0) (fun a => by match a with | ⟨0, _⟩ => rfl | ⟨1, _⟩ => rfl), shapeCast_1ab_ab_apply]
  show x2 _ = _
  refine congrArg x2 (funext fun a => Fin.ext ?_)
  fin_cases a <;> simp [LoadRect.idx, Rect.unit, ix3]

section

variable (x1 : Vec Ideal S1x16x6256 .f32) (r : Fin 8) (l : Fin 6256) (μ : Fin 32 → Prop) [∀ m, Decidable (μ m)]
  (hlo : x1 (ix3 0 (low8 r) l) = ((pack (fun k => μ (lo k)) : ℝ) : EReal))
  (hhi : x1 (ix3 0 (high8 r) l) = ((pack (fun k => μ (hi k)) : ℝ) : EReal))

include hlo hhi in
/-- A plane's mask, as a number. -/
theorem bit_at (m : Fin 32) : bit m x1 (ix2 r l) = ((ind (μ m) : ℝ) : EReal) := by
  by_cases h : m.val < 16
  · have e : wordsOf m x1 (ix2 r l) = Ideal.fptoui 32 (x1 (ix3 0 (low8 r) l)) := by
      unfold wordsOf; rw [if_pos h]; exact words_at _ _ _ _ _ _ (Nat.zero_add _).symm
    have u := unpack (fun k => μ (lo k)) ⟨m.val, h⟩
    show FloatOps.uitofp (F := Ideal) .f32 (IntOp.andi (IntOp.shrui .vector (wordsOf m x1 (ix2 r l)) (BitVec.ofNat 32 (m.val % 16))) 1#32) = _
    rw [e, hlo, Nat.mod_eq_of_lt h]
    exact u
  · have e : wordsOf m x1 (ix2 r l) = Ideal.fptoui 32 (x1 (ix3 0 (high8 r) l)) := by
      unfold wordsOf; rw [if_neg h]; exact words_at _ _ _ _ _ _ rfl
    have u := unpack (fun k => μ (hi k)) ⟨m.val - 16, by omega⟩
    have em : hi ⟨m.val - 16, by omega⟩ = m := Fin.ext (by simp [hi]; omega)
    rw [em] at u
    show FloatOps.uitofp (F := Ideal) .f32 (IntOp.andi (IntOp.shrui .vector (wordsOf m x1 (ix2 r l)) (BitVec.ofNat 32 (m.val % 16))) 1#32) = _
    rw [e, hhi, show m.val % 16 = m.val - 16 from by omega]
    exact u

variable (x2 : Vec Ideal S1x32x128 .f32) (ok : Fin 32 → Prop) [∀ m, Decidable (ok m)] (nv : Fin 32 → Fin 3 → ℝ) (dv : Fin 32 → ℝ)
  (hn : ∀ m k, x2 (ix3 0 m (comp k)) = ((nv m k * ind (ok m) : ℝ) : EReal))
  (hd : ∀ m, x2 (ix3 0 m 3) = ((dv m * ind (ok m) : ℝ) : EReal))

/-- A place of three blocks holds a real point. -/
def Trip.Holds (T : Trip) (r : Fin 8) (l : Fin 6256) (q : Fin 3 → ℝ) : Prop :=
  T.x (ix2 r l) = ((q 0 : ℝ) : EReal) ∧ T.y (ix2 r l) = ((q 1 : ℝ) : EReal) ∧ T.z (ix2 r l) = ((q 2 : ℝ) : EReal)

include hlo hhi hn hd in
/-- One step projects. -/
theorem step_holds (m : Fin 32) (T : Trip) (q : Fin 3 → ℝ) (hT : T.Holds r l q) :
    (step m x1 x2 T).Holds r l (project (ok m ∧ μ m) (nv m) (dv m) q) := by
  have n0 : num m 0 x2 (ix2 r l) = _ := (num_at m 0 x2 r l).trans (hn m 0)
  have n1 : num m 1 x2 (ix2 r l) = _ := (num_at m 1 x2 r l).trans (hn m 1)
  have n2 : num m 2 x2 (ix2 r l) = _ := (num_at m 2 x2 r l).trans (hn m 2)
  have n3 : num m 3 x2 (ix2 r l) = _ := (num_at m 3 x2 r l).trans (hd m)
  have hr : reach m x1 x2 T (ix2 r l) = ((ind (μ m) * (nv m 0 * ind (ok m) * q 0 + nv m 1 * ind (ok m) * q 1 + nv m 2 * ind (ok m) * q 2
      + dv m * ind (ok m)) : ℝ) : EReal) := by
    unfold reach
    rw [mulf_apply, addf_apply, addf_apply, addf_apply, mulf_apply, mulf_apply, mulf_apply, bit_at x1 r l μ hlo hhi, n0, n1, n2, n3,
      hT.1, hT.2.1, hT.2.2]
    simp only [← EReal.coe_mul, ← EReal.coe_add]
  refine ⟨?_, ?_, ?_⟩
  · show subf T.x (mulf (num m 0 x2) (reach m x1 x2 T)) (ix2 r l) = _
    rw [ValueIdx.subf_apply, mulf_apply, hr, n0, hT.1, ← EReal.coe_mul, ← EReal.coe_sub,
      zeroed_project]
  · show subf T.y (mulf (num m 1 x2) (reach m x1 x2 T)) (ix2 r l) = _
    rw [ValueIdx.subf_apply, mulf_apply, hr, n1, hT.2.1, ← EReal.coe_mul, ← EReal.coe_sub,
      zeroed_project]
  · show subf T.z (mulf (num m 2 x2) (reach m x1 x2 T)) (ix2 r l) = _
    rw [ValueIdx.subf_apply, mulf_apply, hr, n2, hT.2.2, ← EReal.coe_mul, ← EReal.coe_sub,
      zeroed_project]

/-- The projections onto the first planes, one after the other. -/
def passes (q : Fin 3 → ℝ) : ℕ → Fin 3 → ℝ
  | 0 => q
  | k + 1 => project (ok (Fin.ofNat 32 k) ∧ μ (Fin.ofNat 32 k)) (nv (Fin.ofNat 32 k)) (dv (Fin.ofNat 32 k)) (passes q k)

include hlo hhi hn hd in
/-- The steps project one after the other. -/
theorem steps_hold (T : Trip) (q : Fin 3 → ℝ) (hT : T.Holds r l q) (k : ℕ) :
    (steps x1 x2 T k).Holds r l (passes μ ok nv dv q k) := by
  induction k with
  | zero => exact hT
  | succ k ih => exact step_holds x1 r l μ hlo hhi x2 ok nv dv hn hd _ _ _ ih

end

end PlaneFit

end
-- ==== Proof.SweepOut.lean ====
/- What the second call leaves in its two blocks: the points projected onto the thirty-two planes in turn, and how far they went. -/
module

public import proofs.«01_k».proof.Proof.SweepReal

@[expose] public section

noncomputable section

namespace PlaneFit

open Cert.KernelIdeal Cert.KernelIdeal.Gen Idealize.ShloMosaic.ValueIdx
open Idealize.ShloMosaic hiding ix1 ix2 ix3

/-- Row `r` of coordinate `k` in a block of points. -/
def row (k : Fin 3) (r : Fin 8) : Fin 24 := ⟨8 * k.val + r.val, by omega⟩

/-- A place under a store of eight rows. -/
theorem put_emb (o : ℕ) (h : ∀ a, ![0, o, 0] a + S1x8x6256.size a ≤ S1x24x6256.size a) (j : Fin 24) (r : Fin 8) (l : Fin 6256)
    (hj : j.val = o + r.val) :
    (Rect.unit (s := S1x24x6256) ![0, o, 0] S1x8x6256.size h).emb (ix3 0 r l) = ix3 0 j l := by
  refine funext fun a => Fin.ext ?_
  rw [Rect.emb_apply]
  match a with
  | ⟨0, _⟩ => rfl
  | ⟨1, _⟩ => show o + 1 * r.val = j.val; omega
  | ⟨2, _⟩ => show 0 + 1 * l.val = l.val; omega

/-- A place beside a store of eight rows. -/
theorem not_put (o : ℕ) (h : ∀ a, ![0, o, 0] a + S1x8x6256.size a ≤ S1x24x6256.size a) (j : Fin 24) (l : Fin 6256) (hj : j.val < o) :
    ix3 0 j l ∉ (Rect.unit (s := S1x24x6256) ![0, o, 0] S1x8x6256.size h).set := by
  rw [Rect.mem_set_unit]
  intro hall
  have := (hall 1).1
  simp [ix3] at this
  omega

/-- A store of eight rows read under it. -/
theorem put_hit (o : ℕ) (h : ∀ a, ![0, o, 0] a + S1x8x6256.size a ≤ S1x24x6256.size a) (v : FVec Ideal S8x6256 .f32)
    (L : List (View.Piece (Elt Ideal) S1x24x6256 .f32)) (j : Fin 24) (r : Fin 8) (l : Fin 6256) (hj : j.val = o + r.val) :
    View.canon (put o h v :: L) (ix3 0 j l) = v (ix2 r l) := by
  rw [← put_emb o h j r l hj]
  unfold put
  rw [View.canon_cons_emb, shapeCast_ab_1ab_apply]

/-- A store of eight rows read beside it. -/
theorem put_miss (o : ℕ) (h : ∀ a, ![0, o, 0] a + S1x8x6256.size a ≤ S1x24x6256.size a) (v : FVec Ideal S8x6256 .f32)
    (L : List (View.Piece (Elt Ideal) S1x24x6256 .f32)) (j : Fin 24) (l : Fin 6256) (hj : j.val < o) :
    View.canon (put o h v :: L) (ix3 0 j l) = View.canon L (ix3 0 j l) := by
  have hm := not_put o h j l hj
  unfold put
  exact View.canon_cons_of_not_mem _ _ hm

/-- What the three stores of a block leave at a place. -/
theorem puts_at (x y z : FVec Ideal S8x6256 .f32) (k : Fin 3) (r : Fin 8) (l : Fin 6256) :
    View.canon (puts x y z) (ix3 0 (row k r) l) = (![x, y, z] k) (ix2 r l) := by
  unfold puts
  have hr := r.isLt
  match k with
  | 2 => exact put_hit _ _ _ _ (row 2 r) r l rfl
  | 1 =>
    rw [put_miss _ _ _ _ _ _ (show 8 * 1 + r.val < 16 by omega)]
    exact put_hit _ _ _ _ (row 1 r) r l rfl
  | 0 =>
    rw [put_miss _ _ _ _ _ _ (show 8 * 0 + r.val < 16 by omega), put_miss _ _ _ _ _ _ (show 8 * 0 + r.val < 8 by omega)]
    exact put_hit _ _ _ _ (row 0 r) r l rfl

section

variable (c : Dev nD) (i : grid1.Coords) (arg1 : Memref sig .tc .vmem S1x24x6256 .f32) (harg1 : arg1.IsWhole)
  (arg2 : Memref sig .tc .vmem S1x16x6256 .f32) (harg2 : arg2.IsWhole) (arg3 : Memref sig .tc .vmem S1x32x128 .f32) (harg3 : arg3.IsWhole)
  (arg4 : Memref sig .tc .vmem S1x24x6256 .f32) (harg4 : arg4.IsWhole) (arg5 : Memref sig .tc .vmem S1x24x6256 .f32) (harg5 : arg5.IsWhole)
  (x0 : Vec Ideal S1x24x6256 .f32) (x1 : Vec Ideal S1x16x6256 .f32) (x2 : Vec Ideal S1x32x128 .f32)
  (r : Fin 8) (l : Fin 6256) (μ : Fin 32 → Prop) [∀ m, Decidable (μ m)]
  (hlo : x1 (ix3 0 (low8 r) l) = ((pack (fun k => μ (lo k)) : ℝ) : EReal))
  (hhi : x1 (ix3 0 (high8 r) l) = ((pack (fun k => μ (hi k)) : ℝ) : EReal))
  (ok : Fin 32 → Prop) [∀ m, Decidable (ok m)] (nv : Fin 32 → Fin 3 → ℝ) (dv : Fin 32 → ℝ)
  (hn : ∀ m k, x2 (ix3 0 m (comp k)) = ((nv m k * ind (ok m) : ℝ) : EReal))
  (hd : ∀ m, x2 (ix3 0 m 3) = ((dv m * ind (ok m) : ℝ) : EReal))
  (q : Fin 3 → ℝ) (hq : ∀ k, x0 (ix3 0 (row k r) l) = ((q k : ℝ) : EReal))

include hq in
/-- The block's points as loaded are the block's points. -/
theorem loaded_holds : (loaded c arg1 harg1 x0).Holds r l q := by
  refine ⟨?_, ?_, ?_⟩
  · refine (shapeCast_1ab_ab_apply (kernelRun1_A.sl.v1 (F := Ideal) c arg1 harg1 x0 : S1x8x6256.Idx → EReal)
      shapeCasts_S1x8x6256_S8x6256 r l).trans ?_
    unfold kernelRun1_A.sl.v1
    show arg1.view.read (Elt Ideal) (harg1.unread x0) _ = _
    rw [harg1.read_unread, ← hq 0]
    refine congrArg x0 (funext fun a => Fin.ext ?_)
    fin_cases a <;> simp [LoadRect.idx, Rect.withinL, Rect.unit, ix3, row]
  · show rows8 8 inb_S1x24x6256_S1x8x6256_0_8_0 (arg1.view.read (Elt Ideal) (harg1.unread x0)) (ix2 r l) = _
    rw [harg1.read_unread]
    exact (rows8_at 8 _ x0 r l (row 1 r) rfl).trans (hq 1)
  · show rows8 16 inb_S1x24x6256_S1x8x6256_0_16_0 (arg1.view.read (Elt Ideal) (harg1.unread x0)) (ix2 r l) = _
    rw [harg1.read_unread]
    exact (rows8_at 16 _ x0 r l (row 2 r) rfl).trans (hq 2)

include hlo hhi hn hd hq in
/-- The points left. -/
theorem left_points (k : Fin 3) :
    out1_A_3 c i arg1 harg1 arg2 harg2 arg3 harg3 arg4 harg4 arg5 harg5 x0 x1 x2 (ix3 0 (row k r) l)
      = ((passes μ ok nv dv q 32 k : ℝ) : EReal) := by
  unfold out1_A_3
  rw [View.read_writes_eq_canon _ _ _ (cover1_A_3 c i arg1 harg1 arg2 harg2 arg3 harg3 arg4 harg4 arg5 harg5 x0 x1 x2), stored_points,
    puts_at, harg2.read_unread, harg3.read_unread]
  obtain ⟨hx, hy, hz⟩ := steps_hold x1 r l μ hlo hhi x2 ok nv dv hn hd _ q (loaded_holds c arg1 harg1 x0 r l q hq) 32
  match k with
  | 0 => exact hx
  | 1 => exact hy
  | 2 => exact hz

include hlo hhi hn hd hq in
/-- The moves left. -/
theorem left_moves (k : Fin 3) :
    out1_A_4 c i arg1 harg1 arg2 harg2 arg3 harg3 arg4 harg4 arg5 harg5 x0 x1 x2 (ix3 0 (row k r) l)
      = ((passes μ ok nv dv q 32 k - q k : ℝ) : EReal) := by
  unfold out1_A_4
  rw [View.read_writes_eq_canon _ _ _ (cover1_A_4 c i arg1 harg1 arg2 harg2 arg3 harg3 arg4 harg4 arg5 harg5 x0 x1 x2), stored_moves,
    puts_at, harg2.read_unread, harg3.read_unread, EReal.coe_sub]
  obtain ⟨hx, hy, hz⟩ := steps_hold x1 r l μ hlo hhi x2 ok nv dv hn hd _ q (loaded_holds c arg1 harg1 x0 r l q hq) 32
  obtain ⟨gx, gy, gz⟩ := loaded_holds c arg1 harg1 x0 r l q hq
  match k with
  | 0 => exact congrArg₂ (fun a b : EReal => a - b) hx gx
  | 1 => exact congrArg₂ (fun a b : EReal => a - b) hy gy
  | 2 => exact congrArg₂ (fun a b : EReal => a - b) hz gz

end

end PlaneFit

end
-- ==== Proof.FitRows.lean ====
/- The first call's arithmetic, row by row: the six Jacobi sweeps and the order of the vectors, read from the printed operations, and
   what the call leaves in its two blocks once the points are real. -/
module

public import proofs.«01_k».proof.Proof.Gen.KernelIdeal.Frame
public import proofs.«01_k».proof.Proof.Moments

@[expose] public section

noncomputable section

namespace PlaneFit

open Cert.KernelIdeal Cert.KernelIdeal.Gen Cert.KernelIdeal.Gen.kernelRun0_A Idealize.ShloMosaic.ValueIdx
open Idealize.ShloMosaic hiding ix1 ix2 ix3

section

variable (v25 : FVec Ideal S32x50048 .f32) (v26 v27 v28 : FVec Ideal S1x50048 .f32)
  (v30 v34 : FVec Ideal S32x1 .f32) (v36 : FVec Ideal S32x50048 .f32)

/-- The state after the six sweeps, for one row. -/
def finish (i : S32x1.Idx) : Eig := (startAt v25 v26 v27 v28 v30 v34 v36 i).cycle.cycle.cycle.cycle.cycle.cycle

/-- One when the row's plane is fitted, zero when not. -/
def fitBit (i : S32x1.Idx) : EReal := FloatOps.sitofp (F := Ideal) .f32 ((k0_pay26 v30 i).zeroExtend 32)

/-- The refined normal's component `k`, for one row. -/
def rowN (k : Fin 3) (i : S32x1.Idx) : EReal := (finish v25 v26 v27 v28 v30 v34 v36 i).sorted k * fitBit v30 i

/-- The refined offset, for one row. -/
def rowD (i : S32x1.Idx) : EReal :=
  Ideal.ofBits .f32 0x00000000#32 -
    (k0_pay11 v30 v34 i * rowN v25 v26 v27 v28 v30 v34 v36 0 i + k0_pay12 v30 v36 i * rowN v25 v26 v27 v28 v30 v34 v36 1 i
      + k0_pay13 v25 v28 v30 i * rowN v25 v26 v27 v28 v30 v34 v36 2 i)

/-- The block of rows: three components, the offset, and zeros. -/
def rows : FVec Ideal S1x32x128 .f32 :=
  shapeCast S1x32x128 (concatenate S32x128 1
    [⟨S32x1, rowN v25 v26 v27 v28 v30 v34 v36 0⟩, ⟨S32x1, rowN v25 v26 v27 v28 v30 v34 v36 1⟩,
      ⟨S32x1, rowN v25 v26 v27 v28 v30 v34 v36 2⟩, ⟨S32x1, rowD v25 v26 v27 v28 v30 v34 v36⟩,
      ⟨S32x124, broadcast S32x124 (Ideal.ofBits .f32 0x00000000#32)⟩]
    concatenates_S32x1_S32x1_S32x1_S32x1_S32x124_S32x128_d1) shapeCasts_S32x128_S1x32x128

end

section

variable (c : Dev nD) (i : grid0.Coords) (arg1 : Memref sig .tc .vmem S1x3x50048 .f32) (harg1 : arg1.IsWhole)
  (arg2 : Memref sig .tc .vmem S1x32x128 .f32) (harg2 : arg2.IsWhole) (arg3 : Memref sig .tc .vmem S1x32x128 .f32) (harg3 : arg3.IsWhole)
  (arg4 : Memref sig .tc .vmem S1x8x50048 .f32) (harg4 : arg4.IsWhole)
  (x0 : Vec Ideal S1x3x50048 .f32) (x1 : Vec Ideal S1x32x128 .f32)

/-- What the run stores as rows. -/
theorem stored_rows :
    (kernelRun0_A (F := Ideal) c i arg1 harg1 arg2 harg2 arg3 harg3 arg4 harg4 x0 x1).1
      = [⟨Rect.unit ![0, 0, 0] S1x32x128.size inb_S1x32x128_S1x32x128_0_0_0,
          rows (sl.r c arg1 harg1 arg2 harg2 x0 x1) (sl.r_1 c arg1 harg1 x0) (sl.r_2 c arg1 harg1 x0) (sl.r_3 c arg1 harg1 x0)
            (sl.r_4 c arg1 harg1 arg2 harg2 x0 x1) (sl.r_5 c arg1 harg1 arg2 harg2 x0 x1) (sl.r_6 c arg1 harg1 arg2 harg2 x0 x1)⟩] := by
  sl_kernel_rfl

/-- The run's load of the block of points is the block. -/
theorem loaded_points : sl.v1 (F := Ideal) c arg1 harg1 x0 = x0 := by
  funext j
  unfold sl.v1
  rw [View.readAt_apply, harg1.read_unread]
  refine congrArg x0 (funext fun a => Fin.ext ?_)
  fin_cases a <;> simp [LoadRect.idx, Rect.withinL, Rect.unit]

end

end PlaneFit

end
-- ==== Proof.FitReal.lean ====
/- What the first call leaves in its two blocks, once its points are real: each plane's refined normal and offset, and the packed
   masks as numbers. -/
module

public import proofs.«01_k».proof.Proof.FitRows
public import Idealize.ShloMosaic.Lib.MatmulPlain

@[expose] public section

noncomputable section

namespace PlaneFit

open Cert.KernelIdeal Cert.KernelIdeal.Gen Cert.KernelIdeal.Gen.kernelRun0_A Idealize.ShloMosaic.ValueIdx
open Idealize.ShloMosaic hiding ix1 ix2 ix3

/-- A bit as a number. -/
theorem bit_real (b : BitVec 1) : FloatOps.sitofp (F := Ideal) .f32 (b.zeroExtend 32) = ((ind (b = 1#1) : ℝ) : EReal) := by
  have h : b = 0#1 ∨ b = 1#1 := by revert b; decide
  rcases h with rfl | rfl
  · show (((BitVec.toInt (BitVec.zeroExtend 32 0#1) : ℤ) : ℝ) : EReal) = _
    simp [ind]
  · show (((BitVec.toInt (BitVec.zeroExtend 32 1#1) : ℤ) : ℝ) : EReal) = _
    simp [ind]

/-- Point `n`'s signed distance from plane `m`. -/
def side (x0 : Vec Ideal S1x3x50048 .f32) (x1 : Vec Ideal S1x32x128 .f32) (m : Fin 32) (n : Fin 50048) : EReal :=
  (∑ k : Fin 3, x1 (ix3 0 m (comp k)) * x0 (ix3 0 k n)) + x1 (ix3 0 m 3)

/-- Plane `m`'s mask at point `n`: near the plane, the plane valid, the lane not padding. -/
def maskBit (x0 : Vec Ideal S1x3x50048 .f32) (x1 : Vec Ideal S1x32x128 .f32) (m : Fin 32) (n : Fin 50048) : BitVec 1 :=
  Ideal.cmp .olt (max (side x0 x1 m n) (-side x0 x1 m n)) (Ideal.ofBits .f32 0x3C23D70A#32)
    &&& Ideal.cmp .ogt (x1 (ix3 0 m 4)) (Ideal.ofBits .f32 0x3F000000#32) &&& IntOp.cmpi .slt (BitVec.ofNat 32 n.val) 50000#32

/-- Plane `m`'s mask at point `n`, as a proposition. -/
abbrev Masked (x0 : Vec Ideal S1x3x50048 .f32) (x1 : Vec Ideal S1x32x128 .f32) (m : Fin 32) (n : Fin 50048) : Prop :=
  maskBit x0 x1 m n = 1#1

section

variable (c : Dev nD) (i : grid0.Coords) (arg1 : Memref sig .tc .vmem S1x3x50048 .f32) (harg1 : arg1.IsWhole)
  (arg2 : Memref sig .tc .vmem S1x32x128 .f32) (harg2 : arg2.IsWhole) (arg3 : Memref sig .tc .vmem S1x32x128 .f32) (harg3 : arg3.IsWhole)
  (arg4 : Memref sig .tc .vmem S1x8x50048 .f32) (harg4 : arg4.IsWhole)
  (x0 : Vec Ideal S1x3x50048 .f32) (x1 : Vec Ideal S1x32x128 .f32)

/-- The planes' normals as loaded. -/
theorem load_normals (m : Fin 32) (k : Fin 3) :
    View.readAt (Elt Ideal) arg2.view (Rect.unit (s := S1x32x128) ![0, 0, 0] S1x32x3.size inb_S1x32x128_S1x32x3_0_0_0).toLoadRect (harg2.unread x1)
      (ix3 0 m k) = x1 (ix3 0 m (comp k)) := by
  rw [View.readAt_apply, harg2.read_unread]
  refine congrArg x1 (funext fun a => Fin.ext ?_)
  fin_cases a <;> simp [LoadRect.idx, Rect.unit, ix3, comp]

/-- The planes' offsets as loaded. -/
theorem load_offsets (m : Fin 32) :
    View.readAt (Elt Ideal) arg2.view (Rect.unit (s := S1x32x128) ![0, 0, 3] S1x32x1.size inb_S1x32x128_S1x32x1_0_0_3).toLoadRect (harg2.unread x1)
      (ix3 0 m 0) = x1 (ix3 0 m 3) := by
  rw [View.readAt_apply, harg2.read_unread]
  refine congrArg x1 (funext fun a => Fin.ext ?_)
  fin_cases a <;> simp [LoadRect.idx, Rect.unit, ix3, comp]

/-- The planes' validity as loaded. -/
theorem load_valid (m : Fin 32) :
    View.readAt (Elt Ideal) arg2.view (Rect.unit (s := S1x32x128) ![0, 0, 4] S1x32x1.size inb_S1x32x128_S1x32x1_0_0_4).toLoadRect (harg2.unread x1)
      (ix3 0 m 0) = x1 (ix3 0 m 4) := by
  rw [View.readAt_apply, harg2.read_unread]
  refine congrArg x1 (funext fun a => Fin.ext ?_)
  fin_cases a <;> simp [LoadRect.idx, Rect.unit, ix3, comp]

/-- The mask, entry by entry. -/
theorem mask_at (m : Fin 32) (n : Fin 50048) :
    sl.r c arg1 harg1 arg2 harg2 x0 x1 (ix2 m n) = ((ind (Masked x0 x1 m n) : ℝ) : EReal) := by
  unfold sl.r
  rw [loaded_points]
  refine Eq.trans ?_ (bit_real (maskBit x0 x1 m n))
  unfold k0_pay3
  dsimp only
  rw [sitofp_apply, extui_apply]
  refine congrArg (fun b : BitVec 1 => FloatOps.sitofp (F := Ideal) .f32 (b.zeroExtend 32)) ?_
  unfold maskBit
  have e : (matmul (φ₁ := .f32) (φ₂ := .f32) dot_S32x3_S3x50048_S32x50048_1_0_0_1_n_n none
        (shapeCast S32x3 (View.readAt (Elt Ideal) arg2.view (Rect.unit (s := S1x32x128) ![0, 0, 0] S1x32x3.size inb_S1x32x128_S1x32x3_0_0_0).toLoadRect
          (harg2.unread x1)) shapeCasts_S1x32x3_S32x3) (k0_pay2 x0) (constant (F := Ideal) S32x50048 .f32 0x00000000#32) (ix2 m n) +
      shapeCast S32x1 (View.readAt (Elt Ideal) arg2.view (Rect.unit (s := S1x32x128) ![0, 0, 3] S1x32x1.size inb_S1x32x128_S1x32x1_0_0_3).toLoadRect
          (harg2.unread x1)) shapeCasts_S1x32x1_S32x1 (ix2 m 0) : EReal) = side x0 x1 m n := by
    rw [shapeCast_1ab_ab_apply, load_offsets]
    unfold side
    refine congrArg (· + _) ?_
    refine (Ideal.matmul_plain_apply _ _ _ _ _ _).trans ?_
    rw [show (constant (F := Ideal) S32x50048 .f32 0x00000000#32 (ix2 m n) : EReal) = 0 from by
      rw [constant_apply]; simpa using lit_zero, zero_add]
    refine Finset.sum_congr rfl fun k _ => ?_
    unfold k0_pay2
    dsimp only
    rw [shapeCast_1ab_ab_apply, shapeCast_1ab_ab_apply, load_normals]
  have e' : shapeCast S32x1 (View.readAt (Elt Ideal) arg2.view (Rect.unit (s := S1x32x128) ![0, 0, 4] S1x32x1.size
      inb_S1x32x128_S1x32x1_0_0_4).toLoadRect (harg2.unread x1)) shapeCasts_S1x32x1_S32x1 (ix2 m 0) = x1 (ix3 0 m 4) :=
    (shapeCast_1ab_ab_apply _ _ _ _).trans (load_valid arg2 harg2 x1 m)
  rw [andi_apply, andi_apply, cmpf_apply, stretch_col, broadcastTo_1b_ab_apply, absf_apply, addf_apply, stretch_col, cmpf_apply,
    e', cmpi_apply, iota_single_apply]
  exact congrArg (fun q : EReal => Ideal.cmp .olt (max q (-q)) (Ideal.ofBits .f32 0x3C23D70A#32)
    &&& Ideal.cmp .ogt (x1 (ix3 0 m 4)) (Ideal.ofBits .f32 0x3F000000#32) &&& IntOp.cmpi .slt (BitVec.ofNat 32 n.val) 50000#32) e

section

variable (x : Fin 50048 → Fin 3 → ℝ) (hx : ∀ k n, x0 (ix3 0 k n) = ((x n k : ℝ) : EReal))

include hx in
theorem x_at (n : Fin 50048) : sl.r_1 c arg1 harg1 x0 (ix2 0 n) = ((x n 0 : ℝ) : EReal) := by
  unfold sl.r_1 k0_pay4 k0_pay2
  dsimp only
  rw [loaded_points, slice2_axis0_apply _ _ _ _ _ 0 (by rfl), shapeCast_1ab_ab_apply, hx]

include hx in
theorem y_at (n : Fin 50048) : sl.r_2 c arg1 harg1 x0 (ix2 0 n) = ((x n 1 : ℝ) : EReal) := by
  unfold sl.r_2 k0_pay5 k0_pay2
  dsimp only
  rw [loaded_points, slice2_axis0_apply _ _ _ _ _ 1 (by rfl), shapeCast_1ab_ab_apply, hx]

include hx in
theorem z_at (n : Fin 50048) : sl.r_3 c arg1 harg1 x0 (ix2 0 n) = ((x n 2 : ℝ) : EReal) := by
  unfold sl.r_3 k0_pay6 k0_pay2
  dsimp only
  rw [loaded_points, slice2_axis0_apply _ _ _ _ _ 2 (by rfl), shapeCast_1ab_ab_apply, hx]

/-- Each plane's count of masked points. -/
theorem count_at (m : Fin 32) :
    sl.r_4 c arg1 harg1 arg2 harg2 x0 x1 (ix2 m 0) = ((cnt (Masked x0 x1 m) : ℝ) : EReal) :=
  row_sum (sl.r c arg1 harg1 arg2 harg2 x0 x1) _ (mask_at c arg1 harg1 arg2 harg2 x0 x1) m 0

include hx in
/-- Each plane's sum of first coordinates. -/
theorem sum_at (m : Fin 32) :
    sl.r_5 c arg1 harg1 arg2 harg2 x0 x1 (ix2 m 0) = ((∑ n, x n 0 * ind (Masked x0 x1 m n) : ℝ) : EReal) :=
  row_sum (mulf (sl.r c arg1 harg1 arg2 harg2 x0 x1) (broadcastTo S32x50048 (sl.r_1 c arg1 harg1 x0) broadcasts_S1x50048_S32x50048))
    (fun m n => x n 0 * ind (Masked x0 x1 m n)) (fun m n => by
      rw [mulf_apply, broadcastTo_1b_ab_apply, mask_at, x_at c arg1 harg1 x0 x hx, ← EReal.coe_mul, mul_comm]) m 0

include hx in
/-- Each plane's masked second coordinates. -/
theorem masked_at (m : Fin 32) (n : Fin 50048) :
    sl.r_6 c arg1 harg1 arg2 harg2 x0 x1 (ix2 m n) = ((x n 1 * ind (Masked x0 x1 m n) : ℝ) : EReal) := by
  show mulf (sl.r c arg1 harg1 arg2 harg2 x0 x1) (broadcastTo S32x50048 (sl.r_2 c arg1 harg1 x0) broadcasts_S1x50048_S32x50048) (ix2 m n) = _
  rw [mulf_apply, broadcastTo_1b_ab_apply, mask_at, y_at c arg1 harg1 x0 x hx, ← EReal.coe_mul, mul_comm]

end

end

section

variable (a0 a1 a2 a3 : FVec Ideal S32x1 .f32) (z : FVec Ideal S32x124 .f32) (m : Fin 32)

/-- Four columns and a rest, side by side. -/
abbrev five : FVec Ideal S32x128 .f32 :=
  concatenate S32x128 1 [⟨S32x1, a0⟩, ⟨S32x1, a1⟩, ⟨S32x1, a2⟩, ⟨S32x1, a3⟩, ⟨S32x124, z⟩]
    concatenates_S32x1_S32x1_S32x1_S32x1_S32x124_S32x128_d1

theorem first_of_five : five a0 a1 a2 a3 z (ix2 m 0) = a0 (ix2 m 0) :=
  concatenate_apply_piece (t := S32x128) 1 [⟨S32x1, a0⟩, ⟨S32x1, a1⟩, ⟨S32x1, a2⟩, ⟨S32x1, a3⟩, ⟨S32x124, z⟩]
    concatenates_S32x1_S32x1_S32x1_S32x1_S32x124_S32x128_d1 (ix2 m 0) 0 (by simp) S32x1 a0 rfl rfl 0 rfl
    (ix2 m 0) (fun b hb => by match b with | ⟨0, _⟩ => rfl | ⟨1, _⟩ => exact absurd rfl hb) rfl

theorem second_of_five : five a0 a1 a2 a3 z (ix2 m 1) = a1 (ix2 m 0) :=
  concatenate_apply_piece (t := S32x128) 1 [⟨S32x1, a0⟩, ⟨S32x1, a1⟩, ⟨S32x1, a2⟩, ⟨S32x1, a3⟩, ⟨S32x124, z⟩]
    concatenates_S32x1_S32x1_S32x1_S32x1_S32x124_S32x128_d1 (ix2 m 1) 1 (by simp) S32x1 a1 rfl rfl 1 rfl
    (ix2 m 0) (fun b hb => by match b with | ⟨0, _⟩ => rfl | ⟨1, _⟩ => exact absurd rfl hb) rfl

theorem third_of_five : five a0 a1 a2 a3 z (ix2 m 2) = a2 (ix2 m 0) :=
  concatenate_apply_piece (t := S32x128) 1 [⟨S32x1, a0⟩, ⟨S32x1, a1⟩, ⟨S32x1, a2⟩, ⟨S32x1, a3⟩, ⟨S32x124, z⟩]
    concatenates_S32x1_S32x1_S32x1_S32x1_S32x124_S32x128_d1 (ix2 m 2) 2 (by simp) S32x1 a2 rfl rfl 2 rfl
    (ix2 m 0) (fun b hb => by match b with | ⟨0, _⟩ => rfl | ⟨1, _⟩ => exact absurd rfl hb) rfl

theorem fourth_of_five : five a0 a1 a2 a3 z (ix2 m 3) = a3 (ix2 m 0) :=
  concatenate_apply_piece (t := S32x128) 1 [⟨S32x1, a0⟩, ⟨S32x1, a1⟩, ⟨S32x1, a2⟩, ⟨S32x1, a3⟩, ⟨S32x124, z⟩]
    concatenates_S32x1_S32x1_S32x1_S32x1_S32x124_S32x128_d1 (ix2 m 3) 3 (by simp) S32x1 a3 rfl rfl 3 rfl
    (ix2 m 0) (fun b hb => by match b with | ⟨0, _⟩ => rfl | ⟨1, _⟩ => exact absurd rfl hb) rfl

end

section

variable (x : Fin 50048 → Fin 3 → ℝ) (μ : Fin 32 → Fin 50048 → Prop) [∀ m n, Decidable (μ m n)]
  (v25 : FVec Ideal S32x50048 .f32) (v26 v27 v28 : FVec Ideal S1x50048 .f32)
  (h25 : ∀ m n, v25 (ix2 m n) = ((ind (μ m n) : ℝ) : EReal))
  (h26 : ∀ n, v26 (ix2 0 n) = ((x n 0 : ℝ) : EReal)) (h27 : ∀ n, v27 (ix2 0 n) = ((x n 1 : ℝ) : EReal))
  (h28 : ∀ n, v28 (ix2 0 n) = ((x n 2 : ℝ) : EReal))
  (v30 v34 : FVec Ideal S32x1 .f32) (v36 : FVec Ideal S32x50048 .f32)
  (h30 : ∀ m, v30 (ix2 m 0) = ((cnt (μ m) : ℝ) : EReal))
  (h34 : ∀ m, v34 (ix2 m 0) = ((∑ n, x n 0 * ind (μ m n) : ℝ) : EReal))
  (h36 : ∀ m n, v36 (ix2 m n) = ((x n 1 * ind (μ m n) : ℝ) : EReal))

include h30 in
/-- Whether the plane is fitted, as a number. -/
theorem fitBit_real (m : Fin 32) : fitBit v30 (ix2 m 0) = ((ind (3 ≤ cnt (μ m)) : ℝ) : EReal) := by
  refine (bit_real _).trans ?_
  have e : k0_pay26 v30 (ix2 m 0) = if 3 ≤ cnt (μ m) then 1#1 else 0#1 := by
    show Ideal.cmp .oge (v30 (ix2 m 0)) (Ideal.ofBits .f32 0x40400000#32) = _
    rw [h30, lit_three]
    by_cases h : 3 ≤ cnt (μ m) <;> simp [Ideal.cmp, EReal.coe_le_coe_iff, h]
  rw [e]
  by_cases h : 3 ≤ cnt (μ m) <;> simp [ind, h]

include h25 h26 h27 h28 h30 h34 h36 in
/-- The refined normal's component, zero when the plane is not fitted. -/
theorem rowN_real (m : Fin 32) (k : Fin 3) :
    rowN v25 v26 v27 v28 v30 v34 v36 k (ix2 m 0) = ((normal x (μ m) eps k * ind (3 ≤ cnt (μ m)) : ℝ) : EReal) := by
  have h : (finish v25 v26 v27 v28 v30 v34 v36 (ix2 m 0)).Is (eigen (fitted x (μ m) eps)) :=
    (startOf_real x μ v25 v26 v27 v28 h25 h26 h27 h28 v30 v34 v36 h30 h34 h36 m).cycle.cycle.cycle.cycle.cycle.cycle
  show (finish v25 v26 v27 v28 v30 v34 v36 (ix2 m 0)).sorted k * fitBit v30 (ix2 m 0) = _
  rw [h.sorted, fitBit_real μ v30 h30, ← EReal.coe_mul]
  rfl

include h25 h26 h27 h28 h30 h34 h36 in
/-- The refined offset, zero when the plane is not fitted. -/
theorem rowD_real (m : Fin 32) :
    rowD v25 v26 v27 v28 v30 v34 v36 (ix2 m 0) = ((offset x (μ m) eps * ind (3 ≤ cnt (μ m)) : ℝ) : EReal) := by
  unfold rowD
  rw [rowN_real x μ v25 v26 v27 v28 h25 h26 h27 h28 v30 v34 v36 h30 h34 h36,
    rowN_real x μ v25 v26 v27 v28 h25 h26 h27 h28 v30 v34 v36 h30 h34 h36,
    rowN_real x μ v25 v26 v27 v28 h25 h26 h27 h28 v30 v34 v36 h30 h34 h36,
    cen0_real x μ v30 v34 h30 h34, cen1_real x μ v30 v36 h30 h36, cen2_real x μ v25 v28 h25 h28 v30 h30, lit_zero]
  simp only [← EReal.coe_mul, ← EReal.coe_add, ← EReal.coe_sub]
  refine congrArg _ ?_
  unfold offset
  rw [Fin.sum_univ_three]
  ring

/-- A column of the block of rows. -/
theorem rows_at (m : Fin 32) (k : Fin 3) :
    rows v25 v26 v27 v28 v30 v34 v36 (ix3 0 m (comp k)) = rowN v25 v26 v27 v28 v30 v34 v36 k (ix2 m 0) := by
  unfold rows
  rw [shapeCast_ab_1ab_apply]
  match k with
  | 0 => exact first_of_five _ _ _ _ _ m
  | 1 => exact second_of_five _ _ _ _ _ m
  | 2 => exact third_of_five _ _ _ _ _ m

/-- The block's column of offsets. -/
theorem rows_last (m : Fin 32) :
    rows v25 v26 v27 v28 v30 v34 v36 (ix3 0 m 3) = rowD v25 v26 v27 v28 v30 v34 v36 (ix2 m 0) := by
  unfold rows
  rw [shapeCast_ab_1ab_apply]
  exact fourth_of_five _ _ _ _ _ m

end

section

variable (c : Dev nD) (i : grid0.Coords) (arg1 : Memref sig .tc .vmem S1x3x50048 .f32) (harg1 : arg1.IsWhole)
  (arg2 : Memref sig .tc .vmem S1x32x128 .f32) (harg2 : arg2.IsWhole) (arg3 : Memref sig .tc .vmem S1x32x128 .f32) (harg3 : arg3.IsWhole)
  (arg4 : Memref sig .tc .vmem S1x8x50048 .f32) (harg4 : arg4.IsWhole)
  (x0 : Vec Ideal S1x3x50048 .f32) (x1 : Vec Ideal S1x32x128 .f32)
  (x : Fin 50048 → Fin 3 → ℝ) (hx : ∀ k n, x0 (ix3 0 k n) = ((x n k : ℝ) : EReal))

/-- The block of rows the run leaves. -/
theorem left_rows :
    out0_A_2 c i arg1 harg1 arg2 harg2 arg3 harg3 arg4 harg4 x0 x1
      = rows (sl.r c arg1 harg1 arg2 harg2 x0 x1) (sl.r_1 c arg1 harg1 x0) (sl.r_2 c arg1 harg1 x0) (sl.r_3 c arg1 harg1 x0)
            (sl.r_4 c arg1 harg1 arg2 harg2 x0 x1) (sl.r_5 c arg1 harg1 arg2 harg2 x0 x1) (sl.r_6 c arg1 harg1 arg2 harg2 x0 x1) := by
  unfold out0_A_2
  rw [View.read_writes_eq_canon _ _ _ (cover0_A_2 c i arg1 harg1 arg2 harg2 arg3 harg3 arg4 harg4 x0 x1), stored_rows]
  exact View.canon_unit_zero (by funext a; fin_cases a <;> rfl) _ _

include hx in
/-- The refined normals in the block. -/
theorem left_normal (m : Fin 32) (k : Fin 3) :
    out0_A_2 c i arg1 harg1 arg2 harg2 arg3 harg3 arg4 harg4 x0 x1 (ix3 0 m (comp k))
      = ((normal x (Masked x0 x1 m) eps k * ind (3 ≤ cnt (Masked x0 x1 m)) : ℝ) : EReal) := by
  rw [left_rows, rows_at]
  exact rowN_real x (Masked x0 x1) _ _ _ _ (mask_at c arg1 harg1 arg2 harg2 x0 x1) (x_at c arg1 harg1 x0 x hx)
    (y_at c arg1 harg1 x0 x hx) (z_at c arg1 harg1 x0 x hx) _ _ _ (count_at c arg1 harg1 arg2 harg2 x0 x1)
    (sum_at c arg1 harg1 arg2 harg2 x0 x1 x hx) (masked_at c arg1 harg1 arg2 harg2 x0 x1 x hx) m k

include hx in
/-- The refined offsets in the block. -/
theorem left_offset (m : Fin 32) :
    out0_A_2 c i arg1 harg1 arg2 harg2 arg3 harg3 arg4 harg4 x0 x1 (ix3 0 m 3)
      = ((offset x (Masked x0 x1 m) eps * ind (3 ≤ cnt (Masked x0 x1 m)) : ℝ) : EReal) := by
  rw [left_rows, rows_last]
  exact rowD_real x (Masked x0 x1) _ _ _ _ (mask_at c arg1 harg1 arg2 harg2 x0 x1) (x_at c arg1 harg1 x0 x hx)
    (y_at c arg1 harg1 x0 x hx) (z_at c arg1 harg1 x0 x hx) _ _ _ (count_at c arg1 harg1 arg2 harg2 x0 x1)
    (sum_at c arg1 harg1 arg2 harg2 x0 x1 x hx) (masked_at c arg1 harg1 arg2 harg2 x0 x1 x hx) m

end

end PlaneFit

end
-- ==== Proof.FitBits.lean ====
/- The first call's second block: each point's thirty-two masks packed in two numbers. -/
module

public import proofs.«01_k».proof.Proof.FitReal
public import proofs.«01_k».proof.Proof.Bits

@[expose] public section

noncomputable section

namespace PlaneFit

open Cert.KernelIdeal Cert.KernelIdeal.Gen Cert.KernelIdeal.Gen.kernelRun0_A Idealize.ShloMosaic.ValueIdx
open Idealize.ShloMosaic hiding ix1 ix2 ix3

/-- The planes' numbers. -/
def planeNo : IVec S1x32 32 := iota .tc S1x32 32 [1] iota_S1x32_d1_w32

/-- The weights of the first sixteen masks. -/
def lowWords : IVec S1x32 32 :=
  select (cmpi .slt planeNo (broadcast S1x32 16#32)) (shli (broadcast S1x32 1#32) (minsi planeNo (broadcast S1x32 15#32)))
    (broadcast S1x32 0#32)

/-- The weights of the last sixteen masks. -/
def highWords : IVec S1x32 32 :=
  select (cmpi .sge planeNo (broadcast S1x32 16#32))
    (shli (broadcast S1x32 1#32) (maxsi (subi planeNo (broadcast S1x32 16#32)) (broadcast S1x32 0#32))) (broadcast S1x32 0#32)

/-- The masks weighted and added. -/
def packedRow (w : IVec S1x32 32) (v25 : FVec Ideal S32x50048 .f32) : FVec Ideal S1x50048 .f32 :=
  matmul (φ₁ := .f32) (φ₂ := .f32) dot_S1x32_S32x50048_S1x50048_1_0_0_1_n_n none (sitofp .f32 w) v25
    (constant (F := Ideal) S1x50048 .f32 0x00000000#32)

/-- The block of packed masks. -/
def packed (v25 : FVec Ideal S32x50048 .f32) : FVec Ideal S1x8x50048 .f32 :=
  shapeCast S1x8x50048 (concatenate S8x50048 0
    [⟨S1x50048, packedRow lowWords v25⟩, ⟨S1x50048, packedRow highWords v25⟩,
      ⟨S6x50048, broadcast S6x50048 (Ideal.ofBits .f32 0x00000000#32)⟩]
    concatenates_S1x50048_S1x50048_S6x50048_S8x50048_d0) shapeCasts_S8x50048_S1x8x50048

theorem low_at (k : Fin 32) : lowWords (ix2 0 k) = if k.val < 16 then BitVec.ofNat 32 (2 ^ k.val) else 0#32 := by
  unfold lowWords planeNo
  simp only [select_apply, cmpi_apply, shli, minsi, broadcast, iota_single_apply]
  revert k
  decide

theorem high_at (k : Fin 32) : highWords (ix2 0 k) = if 16 ≤ k.val then BitVec.ofNat 32 (2 ^ (k.val - 16)) else 0#32 := by
  unfold highWords planeNo
  simp only [select_apply, cmpi_apply, shli, maxsi, subi, broadcast, iota_single_apply]
  revert k
  decide

/-- A weight as a number. -/
theorem weight (e : ℕ) (h : e < 16) : (((BitVec.ofNat 32 (2 ^ e)).toInt : ℝ) : EReal) = (((2 : ℝ) ^ e : ℝ) : EReal) := by
  interval_cases e <;> norm_num <;> rfl

section

variable (v25 : FVec Ideal S32x50048 .f32) (μ : Fin 32 → Fin 50048 → Prop) [∀ m n, Decidable (μ m n)]
  (h25 : ∀ m n, v25 (ix2 m n) = ((ind (μ m n) : ℝ) : EReal))

include h25 in
theorem packedRow_at (w : IVec S1x32 32) (f : Fin 32 → ℝ) (hf : ∀ k, (((w (ix2 0 k)).toInt : ℝ) : EReal) = ((f k : ℝ) : EReal))
    (n : Fin 50048) : packedRow w v25 (ix2 0 n) = ((∑ k, f k * ind (μ k n) : ℝ) : EReal) := by
  unfold packedRow
  refine (Ideal.matmul_plain_apply _ _ _ _ _ _).trans ?_
  rw [show (constant (F := Ideal) S1x50048 .f32 0x00000000#32 (ix2 0 n) : EReal) = 0 from by
      rw [constant_apply]; simpa using lit_zero, zero_add, ← sum_real]
  refine Finset.sum_congr rfl fun k _ => ?_
  rw [h25, EReal.coe_mul, ← hf]
  rfl

include h25 in
theorem low_row (n : Fin 50048) :
    packedRow lowWords v25 (ix2 0 n) = ((pack (fun k => μ (lo k) n) : ℝ) : EReal) := by
  rw [packedRow_at v25 μ h25 lowWords (fun k => if k.val < 16 then 2 ^ k.val else 0)
    (fun k => by rw [low_at]; by_cases h : k.val < 16 <;> simp only [h, if_true, if_false]; exact weight _ h; simp)]
  rw [halves]
  have h : ∀ k : Fin 16, ¬ k.val + 16 < 16 := fun k => by omega
  simp [pack, lo_val, hi_val, h]

include h25 in
theorem high_row (n : Fin 50048) :
    packedRow highWords v25 (ix2 0 n) = ((pack (fun k => μ (hi k) n) : ℝ) : EReal) := by
  rw [packedRow_at v25 μ h25 highWords (fun k => if 16 ≤ k.val then 2 ^ (k.val - 16) else 0)
    (fun k => by rw [high_at]; by_cases h : 16 ≤ k.val <;> simp only [h, if_true, if_false]; exact weight _ (by omega); simp)]
  rw [halves]
  have h : ∀ k : Fin 16, ¬ 16 ≤ k.val := fun k => by omega
  simp [pack, lo_val, hi_val, h]

end

section

variable (a0 a1 : FVec Ideal S1x50048 .f32) (z : FVec Ideal S6x50048 .f32) (n : Fin 50048)

/-- Two rows and a rest, one below the other. -/
abbrev stack : FVec Ideal S8x50048 .f32 :=
  concatenate S8x50048 0 [⟨S1x50048, a0⟩, ⟨S1x50048, a1⟩, ⟨S6x50048, z⟩] concatenates_S1x50048_S1x50048_S6x50048_S8x50048_d0

theorem first_of_stack : stack a0 a1 z (ix2 0 n) = a0 (ix2 0 n) :=
  concatenate_apply_piece (t := S8x50048) 0 [⟨S1x50048, a0⟩, ⟨S1x50048, a1⟩, ⟨S6x50048, z⟩]
    concatenates_S1x50048_S1x50048_S6x50048_S8x50048_d0 (ix2 0 n) 0 (by simp) S1x50048 a0 rfl rfl 0 rfl
    (ix2 0 n) (fun b hb => by match b with | ⟨0, _⟩ => exact absurd rfl hb | ⟨1, _⟩ => rfl) rfl

theorem second_of_stack : stack a0 a1 z (ix2 1 n) = a1 (ix2 0 n) :=
  concatenate_apply_piece (t := S8x50048) 0 [⟨S1x50048, a0⟩, ⟨S1x50048, a1⟩, ⟨S6x50048, z⟩]
    concatenates_S1x50048_S1x50048_S6x50048_S8x50048_d0 (ix2 1 n) 1 (by simp) S1x50048 a1 rfl rfl 1 rfl
    (ix2 0 n) (fun b hb => by match b with | ⟨0, _⟩ => exact absurd rfl hb | ⟨1, _⟩ => rfl) rfl

end

section

variable (c : Dev nD) (i : grid0.Coords) (arg1 : Memref sig .tc .vmem S1x3x50048 .f32) (harg1 : arg1.IsWhole)
  (arg2 : Memref sig .tc .vmem S1x32x128 .f32) (harg2 : arg2.IsWhole) (arg3 : Memref sig .tc .vmem S1x32x128 .f32) (harg3 : arg3.IsWhole)
  (arg4 : Memref sig .tc .vmem S1x8x50048 .f32) (harg4 : arg4.IsWhole)
  (x0 : Vec Ideal S1x3x50048 .f32) (x1 : Vec Ideal S1x32x128 .f32)

/-- What the run stores as packed masks. -/
theorem stored_bits :
    (kernelRun0_A (F := Ideal) c i arg1 harg1 arg2 harg2 arg3 harg3 arg4 harg4 x0 x1).2.1
      = [⟨Rect.unit ![0, 0, 0] S1x8x50048.size inb_S1x8x50048_S1x8x50048_0_0_0, packed (sl.r c arg1 harg1 arg2 harg2 x0 x1)⟩] := by
  sl_kernel_rfl

/-- The block of packed masks the run leaves. -/
theorem left_bits :
    out0_A_3 c i arg1 harg1 arg2 harg2 arg3 harg3 arg4 harg4 x0 x1 = packed (sl.r c arg1 harg1 arg2 harg2 x0 x1) := by
  unfold out0_A_3
  rw [View.read_writes_eq_canon _ _ _ (cover0_A_3 c i arg1 harg1 arg2 harg2 arg3 harg3 arg4 harg4 x0 x1), stored_bits]
  exact View.canon_unit_zero (by funext a; fin_cases a <;> rfl) _ _

/-- The first sixteen masks in the block. -/
theorem left_low (n : Fin 50048) :
    out0_A_3 c i arg1 harg1 arg2 harg2 arg3 harg3 arg4 harg4 x0 x1 (ix3 0 0 n)
      = ((pack (fun k => Masked x0 x1 (lo k) n) : ℝ) : EReal) := by
  rw [left_bits]
  unfold packed
  rw [shapeCast_ab_1ab_apply]
  exact (first_of_stack _ _ _ n).trans (low_row _ (Masked x0 x1) (mask_at c arg1 harg1 arg2 harg2 x0 x1) n)

/-- The last sixteen masks in the block. -/
theorem left_high (n : Fin 50048) :
    out0_A_3 c i arg1 harg1 arg2 harg2 arg3 harg3 arg4 harg4 x0 x1 (ix3 0 1 n)
      = ((pack (fun k => Masked x0 x1 (hi k) n) : ℝ) : EReal) := by
  rw [left_bits]
  unfold packed
  rw [shapeCast_ab_1ab_apply]
  exact (second_of_stack _ _ _ n).trans (high_row _ (Masked x0 x1) (mask_at c arg1 harg1 arg2 harg2 x0 x1) n)

end

end PlaneFit

end
-- ==== Proof.Regions.lean ====
/- What the two calls leave in their result arrays: batch by batch, what the body left of that batch's blocks. -/
module

public import proofs.«01_k».proof.Proof.SweepOut
public import proofs.«01_k».proof.Proof.FitBits
public import Idealize.ShloMosaic.Lib.Pipeline.Value

@[expose] public section

noncomputable section

namespace PlaneFit

open Cert.KernelIdeal Cert.KernelIdeal.Gen Idealize.ShloMosaic.ValueIdx Idealize.ShloMosaic.TcCoe
open Idealize.ShloMosaic hiding ix1 ix2 ix3

/-- The point of the first call's grid that works on a batch. -/
def fitAt (b : Fin 4) : Fin cfg0.N := ⟨b.val, by rw [show cfg0.N = 4 from N_0]; exact b.isLt⟩

/-- The point of the second call's grid that works on a batch. -/
def sweepAt (b : Fin 4) : Fin cfg1.N := ⟨b.val, by rw [show cfg1.N = 4 from N_1]; exact b.isLt⟩

/-- The first sixteen rows of sixty-four. -/
def front (k : Fin 16) : Fin 64 := ⟨k.val, by omega⟩

theorem exists_fitAt (t : Fin cfg0.N) : ∃ b, t = fitAt b :=
  ⟨⟨t.val, lt_of_lt_of_eq t.isLt N_0⟩, rfl⟩

theorem exists_sweepAt (t : Fin cfg1.N) : ∃ b, t = sweepAt b :=
  ⟨⟨t.val, lt_of_lt_of_eq t.isLt N_1⟩, rfl⟩

theorem emb0_0 (b : Fin 4) (j : Fin 1) (k : Fin 3) (n : Fin 50048) :
    ((cfg0.win 0).blk (fitAt b)).view.emb (ix3 j k n) = ix3 b (k) n := by
  obtain ⟨h0, h1, h2⟩ : win0_0.index (fitAt b) 0 = b.val ∧ win0_0.index (fitAt b) 1 = 0 ∧ win0_0.index (fitAt b) 2 = 0 := by
    fin_cases b <;> decide
  refine funext fun a => Fin.ext ?_
  match a with
  | ⟨0, _⟩ => show win0_0.index (fitAt b) 0 * 1 + 1 * j.val = b.val; omega
  | ⟨1, _⟩ => show win0_0.index (fitAt b) 1 * 3 + 1 * k.val = k.val; omega
  | ⟨2, _⟩ => show win0_0.index (fitAt b) 2 * 50048 + 1 * n.val = n.val; omega

theorem emb0_1 (b : Fin 4) (j : Fin 1) (k : Fin 32) (n : Fin 128) :
    ((cfg0.win 1).blk (fitAt b)).view.emb (ix3 j k n) = ix3 b (k) n := by
  obtain ⟨h0, h1, h2⟩ : win0_1.index (fitAt b) 0 = b.val ∧ win0_1.index (fitAt b) 1 = 0 ∧ win0_1.index (fitAt b) 2 = 0 := by
    fin_cases b <;> decide
  refine funext fun a => Fin.ext ?_
  match a with
  | ⟨0, _⟩ => show win0_1.index (fitAt b) 0 * 1 + 1 * j.val = b.val; omega
  | ⟨1, _⟩ => show win0_1.index (fitAt b) 1 * 32 + 1 * k.val = k.val; omega
  | ⟨2, _⟩ => show win0_1.index (fitAt b) 2 * 128 + 1 * n.val = n.val; omega

theorem emb0_2 (b : Fin 4) (j : Fin 1) (k : Fin 32) (n : Fin 128) :
    ((cfg0.win 2).blk (fitAt b)).view.emb (ix3 j k n) = ix3 b (k) n := by
  obtain ⟨h0, h1, h2⟩ : win0_2.index (fitAt b) 0 = b.val ∧ win0_2.index (fitAt b) 1 = 0 ∧ win0_2.index (fitAt b) 2 = 0 := by
    fin_cases b <;> decide
  refine funext fun a => Fin.ext ?_
  match a with
  | ⟨0, _⟩ => show win0_2.index (fitAt b) 0 * 1 + 1 * j.val = b.val; omega
  | ⟨1, _⟩ => show win0_2.index (fitAt b) 1 * 32 + 1 * k.val = k.val; omega
  | ⟨2, _⟩ => show win0_2.index (fitAt b) 2 * 128 + 1 * n.val = n.val; omega

theorem emb0_3 (b : Fin 4) (j : Fin 1) (k : Fin 8) (n : Fin 50048) :
    ((cfg0.win 3).blk (fitAt b)).view.emb (ix3 j k n) = ix3 b (k) n := by
  obtain ⟨h0, h1, h2⟩ : win0_3.index (fitAt b) 0 = b.val ∧ win0_3.index (fitAt b) 1 = 0 ∧ win0_3.index (fitAt b) 2 = 0 := by
    fin_cases b <;> decide
  refine funext fun a => Fin.ext ?_
  match a with
  | ⟨0, _⟩ => show win0_3.index (fitAt b) 0 * 1 + 1 * j.val = b.val; omega
  | ⟨1, _⟩ => show win0_3.index (fitAt b) 1 * 8 + 1 * k.val = k.val; omega
  | ⟨2, _⟩ => show win0_3.index (fitAt b) 2 * 50048 + 1 * n.val = n.val; omega

theorem emb1_0 (b : Fin 4) (j : Fin 1) (k : Fin 24) (n : Fin 6256) :
    ((cfg1.win 0).blk (sweepAt b)).view.emb (ix3 j k n) = ix3 b (k) n := by
  obtain ⟨h0, h1, h2⟩ : win1_0.index (sweepAt b) 0 = b.val ∧ win1_0.index (sweepAt b) 1 = 0 ∧ win1_0.index (sweepAt b) 2 = 0 := by
    fin_cases b <;> decide
  refine funext fun a => Fin.ext ?_
  match a with
  | ⟨0, _⟩ => show win1_0.index (sweepAt b) 0 * 1 + 1 * j.val = b.val; omega
  | ⟨1, _⟩ => show win1_0.index (sweepAt b) 1 * 24 + 1 * k.val = k.val; omega
  | ⟨2, _⟩ => show win1_0.index (sweepAt b) 2 * 6256 + 1 * n.val = n.val; omega

theorem emb1_1 (b : Fin 4) (j : Fin 1) (k : Fin 16) (n : Fin 6256) :
    ((cfg1.win 1).blk (sweepAt b)).view.emb (ix3 j k n) = ix3 b (front k) n := by
  obtain ⟨h0, h1, h2⟩ : win1_1.index (sweepAt b) 0 = b.val ∧ win1_1.index (sweepAt b) 1 = 0 ∧ win1_1.index (sweepAt b) 2 = 0 := by
    fin_cases b <;> decide
  refine funext fun a => Fin.ext ?_
  match a with
  | ⟨0, _⟩ => show win1_1.index (sweepAt b) 0 * 1 + 1 * j.val = b.val; omega
  | ⟨1, _⟩ => show win1_1.index (sweepAt b) 1 * 16 + 1 * k.val = k.val; omega
  | ⟨2, _⟩ => show win1_1.index (sweepAt b) 2 * 6256 + 1 * n.val = n.val; omega

theorem emb1_2 (b : Fin 4) (j : Fin 1) (k : Fin 32) (n : Fin 128) :
    ((cfg1.win 2).blk (sweepAt b)).view.emb (ix3 j k n) = ix3 b (k) n := by
  obtain ⟨h0, h1, h2⟩ : win1_2.index (sweepAt b) 0 = b.val ∧ win1_2.index (sweepAt b) 1 = 0 ∧ win1_2.index (sweepAt b) 2 = 0 := by
    fin_cases b <;> decide
  refine funext fun a => Fin.ext ?_
  match a with
  | ⟨0, _⟩ => show win1_2.index (sweepAt b) 0 * 1 + 1 * j.val = b.val; omega
  | ⟨1, _⟩ => show win1_2.index (sweepAt b) 1 * 32 + 1 * k.val = k.val; omega
  | ⟨2, _⟩ => show win1_2.index (sweepAt b) 2 * 128 + 1 * n.val = n.val; omega

theorem emb1_3 (b : Fin 4) (j : Fin 1) (k : Fin 24) (n : Fin 6256) :
    ((cfg1.win 3).blk (sweepAt b)).view.emb (ix3 j k n) = ix3 b (k) n := by
  obtain ⟨h0, h1, h2⟩ : win1_3.index (sweepAt b) 0 = b.val ∧ win1_3.index (sweepAt b) 1 = 0 ∧ win1_3.index (sweepAt b) 2 = 0 := by
    fin_cases b <;> decide
  refine funext fun a => Fin.ext ?_
  match a with
  | ⟨0, _⟩ => show win1_3.index (sweepAt b) 0 * 1 + 1 * j.val = b.val; omega
  | ⟨1, _⟩ => show win1_3.index (sweepAt b) 1 * 24 + 1 * k.val = k.val; omega
  | ⟨2, _⟩ => show win1_3.index (sweepAt b) 2 * 6256 + 1 * n.val = n.val; omega

theorem emb1_4 (b : Fin 4) (j : Fin 1) (k : Fin 24) (n : Fin 6256) :
    ((cfg1.win 4).blk (sweepAt b)).view.emb (ix3 j k n) = ix3 b (k) n := by
  obtain ⟨h0, h1, h2⟩ : win1_4.index (sweepAt b) 0 = b.val ∧ win1_4.index (sweepAt b) 1 = 0 ∧ win1_4.index (sweepAt b) 2 = 0 := by
    fin_cases b <;> decide
  refine funext fun a => Fin.ext ?_
  match a with
  | ⟨0, _⟩ => show win1_4.index (sweepAt b) 0 * 1 + 1 * j.val = b.val; omega
  | ⟨1, _⟩ => show win1_4.index (sweepAt b) 1 * 24 + 1 * k.val = k.val; omega
  | ⟨2, _⟩ => show win1_4.index (sweepAt b) 2 * 6256 + 1 * n.val = n.val; omega

variable (V : (c : Dev nD) → (b : Ref sig .tc) → Buf (Elt Ideal) ((c : Thread nD τ).loc b)) (c : Dev nD)

/-- The first call's blocks of points. -/
theorem points_block (b : Fin 4) (k : Fin 3) (n : Fin 50048) :
    iblk0 V c 0 (fitAt b) (ix3 0 k n) = (V c main_v1 : S4x3x50048.Idx → EReal) (ix3 b k n) := by
  show (V c main_v1 : S4x3x50048.Idx → EReal) (((cfg0.win 0).blk (fitAt b)).view.emb (ix3 0 k n)) = _
  rw [emb0_0]

/-- The first call's blocks of planes. -/
theorem planes_block (b : Fin 4) (k : Fin 32) (n : Fin 128) :
    iblk0 V c 1 (fitAt b) (ix3 0 k n) = (V c main_v17 : S4x32x128.Idx → EReal) (ix3 b k n) := by
  show (V c main_v17 : S4x32x128.Idx → EReal) (((cfg0.win 1).blk (fitAt b)).view.emb (ix3 0 k n)) = _
  rw [emb0_1]

/-- The second call's blocks of points. -/
theorem points_block' (b : Fin 4) (k : Fin 24) (n : Fin 6256) :
    iblk1 V c 0 (sweepAt b) (ix3 0 k n) = (V c main_v20 : S4x24x6256.Idx → EReal) (ix3 b k n) := by
  show (V c main_v20 : S4x24x6256.Idx → EReal) (((cfg1.win 0).blk (sweepAt b)).view.emb (ix3 0 k n)) = _
  rw [emb1_0]

/-- The second call's blocks of packed masks. -/
theorem bits_block (b : Fin 4) (k : Fin 16) (n : Fin 6256) :
    iblk1 V c 1 (sweepAt b) (ix3 0 k n) = (V c main_v19 : S4x64x6256.Idx → EReal) (ix3 b (front k) n) := by
  show (V c main_v19 : S4x64x6256.Idx → EReal) (((cfg1.win 1).blk (sweepAt b)).view.emb (ix3 0 k n)) = _
  rw [emb1_1]

/-- The second call's blocks of planes. -/
theorem fitted_block (b : Fin 4) (k : Fin 32) (n : Fin 128) :
    iblk1 V c 2 (sweepAt b) (ix3 0 k n) = (V c main_v18_0 : S4x32x128.Idx → EReal) (ix3 b k n) := by
  show (V c main_v18_0 : S4x32x128.Idx → EReal) (((cfg1.win 2).blk (sweepAt b)).view.emb (ix3 0 k n)) = _
  rw [emb1_2]

/-- Blocks cut out of the batches of an array. -/
theorem blocks0_2 (X : Fin cfg0.N → S1x32x128.Idx → EReal) (t : Fin cfg0.N) :
    (cfg0.win 2).cut (grid0.coords t) (X t)
      = ((cfg0.win 2).blk t).view.read (Elt Ideal) (fun i : S4x32x128.Idx => X (fitAt (i 0)) (ix3 0 (i 1) (i 2))) := by
  obtain ⟨b, rfl⟩ := exists_fitAt t
  funext (j : S1x32x128.Idx)
  obtain ⟨z, k, n, rfl⟩ : ∃ z k n, j = ix3 z k n := ⟨j 0, j 1, j 2, ValueIdx.eq_ix3 j⟩
  show X (fitAt b) (ix3 z k n) = (fun i : S4x32x128.Idx => X (fitAt (i 0)) (ix3 0 (i 1) (i 2))) (((cfg0.win 2).blk (fitAt b)).view.emb (ix3 z k n))
  rw [emb0_2, Subsingleton.elim z 0]

/-- The array of fitted planes after the first call. -/
theorem final_planes (b : Fin 4) (k : Fin 32) (n : Fin 128) :
    ((dat0 V c).arrAt 2 cfg0.N : S4x32x128.Idx → EReal) (ix3 b k n) = (outsAt0 V c (fitAt b)).1 (ix3 0 k n) := by
  refine congrFun ((dat0 V c).arrAt_eq_of_cover 2 (fun i : S4x32x128.Idx => (outsAt0 V c (fitAt (i 0))).1 (ix3 0 (i 1) (i 2)))
    (fun t _ => ?_) fun i => ?_) (ix3 b k n)
  · show (cfg0.win 2).cut (grid0.coords t) ((dat0 V c).after 2 t) = _
    rw [after0_2]
    exact blocks0_2 (fun t => (outsAt0 V c t).1) t
  · obtain ⟨b, k, n, rfl⟩ : ∃ b k n, (i : S4x32x128.Idx) = ix3 b k n := ⟨i 0, i 1, i 2, ValueIdx.eq_ix3 i⟩
    refine ⟨fitAt b, flush0_2 _, ?_⟩
    have h := ((cfg0.win 2).blk (fitAt b)).view.emb_mem_set (ix3 0 k n)
    rwa [emb0_2] at h

/-- Blocks cut out of the batches of an array. -/
theorem blocks0_3 (X : Fin cfg0.N → S1x8x50048.Idx → EReal) (t : Fin cfg0.N) :
    (cfg0.win 3).cut (grid0.coords t) (X t)
      = ((cfg0.win 3).blk t).view.read (Elt Ideal) (fun i : S4x8x50048.Idx => X (fitAt (i 0)) (ix3 0 (i 1) (i 2))) := by
  obtain ⟨b, rfl⟩ := exists_fitAt t
  funext (j : S1x8x50048.Idx)
  obtain ⟨z, k, n, rfl⟩ : ∃ z k n, j = ix3 z k n := ⟨j 0, j 1, j 2, ValueIdx.eq_ix3 j⟩
  show X (fitAt b) (ix3 z k n) = (fun i : S4x8x50048.Idx => X (fitAt (i 0)) (ix3 0 (i 1) (i 2))) (((cfg0.win 3).blk (fitAt b)).view.emb (ix3 z k n))
  rw [emb0_3, Subsingleton.elim z 0]

/-- The array of packed masks after the first call. -/
theorem final_bits (b : Fin 4) (k : Fin 8) (n : Fin 50048) :
    ((dat0 V c).arrAt 3 cfg0.N : S4x8x50048.Idx → EReal) (ix3 b k n) = (outsAt0 V c (fitAt b)).2 (ix3 0 k n) := by
  refine congrFun ((dat0 V c).arrAt_eq_of_cover 3 (fun i : S4x8x50048.Idx => (outsAt0 V c (fitAt (i 0))).2 (ix3 0 (i 1) (i 2)))
    (fun t _ => ?_) fun i => ?_) (ix3 b k n)
  · show (cfg0.win 3).cut (grid0.coords t) ((dat0 V c).after 3 t) = _
    rw [after0_3]
    exact blocks0_3 (fun t => (outsAt0 V c t).2) t
  · obtain ⟨b, k, n, rfl⟩ : ∃ b k n, (i : S4x8x50048.Idx) = ix3 b k n := ⟨i 0, i 1, i 2, ValueIdx.eq_ix3 i⟩
    refine ⟨fitAt b, flush0_3 _, ?_⟩
    have h := ((cfg0.win 3).blk (fitAt b)).view.emb_mem_set (ix3 0 k n)
    rwa [emb0_3] at h

/-- Blocks cut out of the batches of an array. -/
theorem blocks1_3 (X : Fin cfg1.N → S1x24x6256.Idx → EReal) (t : Fin cfg1.N) :
    (cfg1.win 3).cut (grid1.coords t) (X t)
      = ((cfg1.win 3).blk t).view.read (Elt Ideal) (fun i : S4x24x6256.Idx => X (sweepAt (i 0)) (ix3 0 (i 1) (i 2))) := by
  obtain ⟨b, rfl⟩ := exists_sweepAt t
  funext (j : S1x24x6256.Idx)
  obtain ⟨z, k, n, rfl⟩ : ∃ z k n, j = ix3 z k n := ⟨j 0, j 1, j 2, ValueIdx.eq_ix3 j⟩
  show X (sweepAt b) (ix3 z k n) = (fun i : S4x24x6256.Idx => X (sweepAt (i 0)) (ix3 0 (i 1) (i 2))) (((cfg1.win 3).blk (sweepAt b)).view.emb (ix3 z k n))
  rw [emb1_3, Subsingleton.elim z 0]

/-- The array of points after the second call. -/
theorem final_points (b : Fin 4) (k : Fin 24) (n : Fin 6256) :
    ((dat1 V c).arrAt 3 cfg1.N : S4x24x6256.Idx → EReal) (ix3 b k n) = (outsAt1 V c (sweepAt b)).1 (ix3 0 k n) := by
  refine congrFun ((dat1 V c).arrAt_eq_of_cover 3 (fun i : S4x24x6256.Idx => (outsAt1 V c (sweepAt (i 0))).1 (ix3 0 (i 1) (i 2)))
    (fun t _ => ?_) fun i => ?_) (ix3 b k n)
  · show (cfg1.win 3).cut (grid1.coords t) ((dat1 V c).after 3 t) = _
    rw [after1_3]
    exact blocks1_3 (fun t => (outsAt1 V c t).1) t
  · obtain ⟨b, k, n, rfl⟩ : ∃ b k n, (i : S4x24x6256.Idx) = ix3 b k n := ⟨i 0, i 1, i 2, ValueIdx.eq_ix3 i⟩
    refine ⟨sweepAt b, flush1_3 _, ?_⟩
    have h := ((cfg1.win 3).blk (sweepAt b)).view.emb_mem_set (ix3 0 k n)
    rwa [emb1_3] at h

/-- Blocks cut out of the batches of an array. -/
theorem blocks1_4 (X : Fin cfg1.N → S1x24x6256.Idx → EReal) (t : Fin cfg1.N) :
    (cfg1.win 4).cut (grid1.coords t) (X t)
      = ((cfg1.win 4).blk t).view.read (Elt Ideal) (fun i : S4x24x6256.Idx => X (sweepAt (i 0)) (ix3 0 (i 1) (i 2))) := by
  obtain ⟨b, rfl⟩ := exists_sweepAt t
  funext (j : S1x24x6256.Idx)
  obtain ⟨z, k, n, rfl⟩ : ∃ z k n, j = ix3 z k n := ⟨j 0, j 1, j 2, ValueIdx.eq_ix3 j⟩
  show X (sweepAt b) (ix3 z k n) = (fun i : S4x24x6256.Idx => X (sweepAt (i 0)) (ix3 0 (i 1) (i 2))) (((cfg1.win 4).blk (sweepAt b)).view.emb (ix3 z k n))
  rw [emb1_4, Subsingleton.elim z 0]

/-- The array of moves after the second call. -/
theorem final_moves (b : Fin 4) (k : Fin 24) (n : Fin 6256) :
    ((dat1 V c).arrAt 4 cfg1.N : S4x24x6256.Idx → EReal) (ix3 b k n) = (outsAt1 V c (sweepAt b)).2 (ix3 0 k n) := by
  refine congrFun ((dat1 V c).arrAt_eq_of_cover 4 (fun i : S4x24x6256.Idx => (outsAt1 V c (sweepAt (i 0))).2 (ix3 0 (i 1) (i 2)))
    (fun t _ => ?_) fun i => ?_) (ix3 b k n)
  · show (cfg1.win 4).cut (grid1.coords t) ((dat1 V c).after 4 t) = _
    rw [after1_4]
    exact blocks1_4 (fun t => (outsAt1 V c t).2) t
  · obtain ⟨b, k, n, rfl⟩ : ∃ b k n, (i : S4x24x6256.Idx) = ix3 b k n := ⟨i 0, i 1, i 2, ValueIdx.eq_ix3 i⟩
    refine ⟨sweepAt b, flush1_4 _, ?_⟩
    have h := ((cfg1.win 4).blk (sweepAt b)).view.emb_mem_set (ix3 0 k n)
    rwa [emb1_4] at h

end PlaneFit

end
-- ==== Proof.HostAt.lean ====
/- The host's layouts read at an index. -/
module

public import proofs.«01_k».proof.Proof.HostLines
public import proofs.«01_k».proof.Proof.Regions
public import Idealize.ShloMosaic.Lib.KernelVsHost
public import Idealize.ShloMosaic.Lib.IdealHost

@[expose] public section

noncomputable section

namespace PlaneFit

open Cert.KernelIdeal Cert.KernelIdeal.Gen Idealize.ShloMosaic.ValueIdx
open Idealize.ShloMosaic hiding ix1 ix2 ix3

/-- The column of a normal's component `k` in a given plane. -/
def comp4 (k : Fin 3) : Fin 4 := ⟨k.val, by omega⟩

/-- A component of a plane's unit normal, from its coefficients and its normal's length. -/
def unitAt (q : S4x32x4.Idx → EReal) (len : S4x32.Idx → EReal) (b : Fin 4) (m : Fin 32) (k : Fin 3) : EReal :=
  Ideal.div (q (ix3 b m (comp4 k))) (max (len (ix2 b m)) (Ideal.ofBits .f32 0x2B8CBCCC#32))

/-- A point's signed distance from a plane. -/
def distAt (p : S4x50000x3.Idx → EReal) (q : S4x32x4.Idx → EReal) (len : S4x32.Idx → EReal) (b : Fin 4) (m : Fin 32) (n : Fin 50000) :
    EReal :=
  (∑ k : Fin 3, unitAt q len b m k * p (ix3 b n k)) + q (ix3 b m 3)

/-- A point is near a plane, and the plane has a normal. -/
abbrev Near (p : S4x50000x3.Idx → EReal) (q : S4x32x4.Idx → EReal) (len : S4x32.Idx → EReal) (b : Fin 4) (m : Fin 32) (n : Fin 50000) :
    Prop :=
  Ideal.cmp .olt (max (distAt p q len b m n) (-distAt p q len b m n)) (Ideal.ofBits .f32 0x3C23D70A#32) = 1#1
    ∧ Ideal.cmp .ogt (len (ix2 b m)) (Ideal.ofBits .f32 0x358637BD#32) = 1#1

theorem widened_at (p : FVec Ideal S4x50000x3 .f32) (b : Fin 4) (k : Fin 3) (n : Fin 50000) :
    widened p (ix3 b k (Fin.castAdd 48 n)) = p (ix3 b n k) := by
  unfold widened
  rw [pad_apply_of_inside _ _ _ _ _ _ _ _ (ix3 b k n) (fun a => by fin_cases a <;> simp [ix3])]
  exact transpose_apply _ _ _ _ _ fun a => by fin_cases a <;> rfl

theorem widened_off (p : FVec Ideal S4x50000x3 .f32) (b : Fin 4) (k : Fin 3) (j : Fin 48) :
    widened p (ix3 b k (Fin.natAdd 50000 j)) = 0 := by
  unfold widened
  rw [pad_apply_of_not_inside _ _ _ _ _ _ _ _ (2 : Fin 3) (fun h => by have := h.2.2; simp [ix3] at this)]
  show (((constantI S_ 32 0#32 (Shape.Idx.first h_S_)).toInt : ℝ) : EReal) = 0
  simp [constantI]

theorem given_at (q : FVec Ideal S4x32x4 .f32) (b : Fin 4) (m : Fin 32) (k : Fin 3) : given q (ix3 b m k) = q (ix3 b m (comp4 k)) := by
  exact extractStridedSlice_apply _ _ _ _ _ fun a => by fin_cases a <;> simp [ix3, comp4]

theorem givenD_at (q : FVec Ideal S4x32x4 .f32) (b : Fin 4) (m : Fin 32) : givenD q (ix2 b m) = q (ix3 b m 3) := by
  unfold givenD
  rw [shapeCast_apply _ _ (ix2 b m) (ix3 b m 0) (by simp [Shape.rowMajor_val_two, Shape.rowMajor_val_three])]
  exact extractStridedSlice_apply _ _ _ _ _ fun a => by fin_cases a <;> simp [ix3]

/-- The lane that lane `l` of row `r` of a coordinate stands for. -/
def lane (r : Fin 8) (l : Fin 6256) : Fin 50048 := ⟨r.val * 6256 + l.val, by omega⟩

theorem folded_points (v : FVec Ideal S4x3x50048 .f32) (b : Fin 4) (k : Fin 3) (r : Fin 8) (l : Fin 6256) :
    shapeCast S4x24x6256 v shapeCasts_S4x3x50048_S4x24x6256 (ix3 b (row k r) l) = v (ix3 b k (lane r l)) := by
  refine shapeCast_apply _ _ _ _ ?_
  rw [Shape.rowMajor_val_three, Shape.rowMajor_val_three]
  show (b.val * 3 + k.val) * 50048 + (r.val * 6256 + l.val) = (b.val * 24 + (8 * k.val + r.val)) * 6256 + l.val
  omega

theorem unfolded_points (v : FVec Ideal S4x24x6256 .f32) (b : Fin 4) (k : Fin 3) (r : Fin 8) (l : Fin 6256) :
    shapeCast S4x3x50048 v shapeCasts_S4x24x6256_S4x3x50048 (ix3 b k (lane r l)) = v (ix3 b (row k r) l) := by
  refine shapeCast_apply _ _ _ _ ?_
  rw [Shape.rowMajor_val_three, Shape.rowMajor_val_three]
  show (b.val * 24 + (8 * k.val + r.val)) * 6256 + l.val = (b.val * 3 + k.val) * 50048 + (r.val * 6256 + l.val)
  omega

theorem folded_low (v : FVec Ideal S4x8x50048 .f32) (b : Fin 4) (r : Fin 8) (l : Fin 6256) :
    shapeCast S4x64x6256 v shapeCasts_S4x8x50048_S4x64x6256 (ix3 b (front (low8 r)) l) = v (ix3 b 0 (lane r l)) := by
  refine shapeCast_apply _ _ _ _ ?_
  rw [Shape.rowMajor_val_three, Shape.rowMajor_val_three]
  show (b.val * 8 + 0) * 50048 + (r.val * 6256 + l.val) = (b.val * 64 + r.val) * 6256 + l.val
  omega

theorem folded_high (v : FVec Ideal S4x8x50048 .f32) (b : Fin 4) (r : Fin 8) (l : Fin 6256) :
    shapeCast S4x64x6256 v shapeCasts_S4x8x50048_S4x64x6256 (ix3 b (front (high8 r)) l) = v (ix3 b 1 (lane r l)) := by
  refine shapeCast_apply _ _ _ _ ?_
  rw [Shape.rowMajor_val_three, Shape.rowMajor_val_three]
  show (b.val * 8 + 1) * 50048 + (r.val * 6256 + l.val) = (b.val * 64 + (8 + r.val)) * 6256 + l.val
  omega

/-- Every lane is one of some row. -/
theorem exists_lane (n : Fin 50048) : ∃ r l, n = lane r l :=
  ⟨⟨n.val / 6256, by omega⟩, ⟨n.val % 6256, by omega⟩, Fin.ext (by show n.val = n.val / 6256 * 6256 + n.val % 6256; omega)⟩

theorem laidOut_at (v : FVec Ideal S4x24x6256 .f32) (b : Fin 4) (k : Fin 3) (n : Fin 50000) (r : Fin 8) (l : Fin 6256)
    (h : Fin.castAdd 48 n = lane r l) : laidOut v (ix3 b n k) = v (ix3 b (row k r) l) := by
  unfold laidOut
  rw [← unfolded_points v b k r l, ← h]
  refine (extractStridedSlice_apply _ _ _ _ (ix3 b (Fin.castAdd 48 n) k) fun a => by fin_cases a <;> simp [ix3]).trans ?_
  exact transpose_apply _ _ _ _ _ fun a => by fin_cases a <;> rfl

section

variable (a0 : FVec Ideal S4x32x3 .f32) (a1 a2 : FVec Ideal S4x32x1 .f32) (a3 : FVec Ideal S4x32x123 .f32) (b : Fin 4) (m : Fin 32)

/-- Four tables side by side. -/
abbrev four : FVec Ideal S4x32x128 .f32 :=
  concatenate S4x32x128 2 [⟨S4x32x3, a0⟩, ⟨S4x32x1, a1⟩, ⟨S4x32x1, a2⟩, ⟨S4x32x123, a3⟩]
    concatenates_S4x32x3_S4x32x1_S4x32x1_S4x32x123_S4x32x128_d2

theorem first_of_four (k : Fin 3) : four a0 a1 a2 a3 (ix3 b m (comp k)) = a0 (ix3 b m k) :=
  concatenate_apply_piece (t := S4x32x128) 2 [⟨S4x32x3, a0⟩, ⟨S4x32x1, a1⟩, ⟨S4x32x1, a2⟩, ⟨S4x32x123, a3⟩]
    concatenates_S4x32x3_S4x32x1_S4x32x1_S4x32x123_S4x32x128_d2 (ix3 b m (comp k)) 0 (by simp) S4x32x3 a0 rfl rfl 0 rfl
    (ix3 b m k) (fun a ha => by match a with | ⟨0, _⟩ => rfl | ⟨1, _⟩ => rfl | ⟨2, _⟩ => exact absurd rfl ha) (Nat.zero_add k.val)

theorem second_of_four : four a0 a1 a2 a3 (ix3 b m 3) = a1 (ix3 b m 0) :=
  concatenate_apply_piece (t := S4x32x128) 2 [⟨S4x32x3, a0⟩, ⟨S4x32x1, a1⟩, ⟨S4x32x1, a2⟩, ⟨S4x32x123, a3⟩]
    concatenates_S4x32x3_S4x32x1_S4x32x1_S4x32x123_S4x32x128_d2 (ix3 b m 3) 1 (by simp) S4x32x1 a1 rfl rfl 3 rfl
    (ix3 b m 0) (fun a ha => by match a with | ⟨0, _⟩ => rfl | ⟨1, _⟩ => rfl | ⟨2, _⟩ => exact absurd rfl ha) rfl

theorem third_of_four : four a0 a1 a2 a3 (ix3 b m 4) = a2 (ix3 b m 0) :=
  concatenate_apply_piece (t := S4x32x128) 2 [⟨S4x32x3, a0⟩, ⟨S4x32x1, a1⟩, ⟨S4x32x1, a2⟩, ⟨S4x32x123, a3⟩]
    concatenates_S4x32x3_S4x32x1_S4x32x1_S4x32x123_S4x32x128_d2 (ix3 b m 4) 2 (by simp) S4x32x1 a2 rfl rfl 4 rfl
    (ix3 b m 0) (fun a ha => by match a with | ⟨0, _⟩ => rfl | ⟨1, _⟩ => rfl | ⟨2, _⟩ => exact absurd rfl ha) rfl

end

/-- A table of one column from a column per batch. -/
theorem column_at (v : S4x32.Idx → EReal) (b : Fin 4) (m : Fin 32) :
    broadcastInDim S4x32x1 ![0, 1] bcast_S4x32_S4x32x1_0_1 v (ix3 b m 0) = v (ix2 b m) :=
  broadcastInDim_apply _ _ _ _ _ fun a => by fin_cases a <;> rfl

/-- A table of three equal columns. -/
theorem columns_at (v : S4x32x1.Idx → EReal) (b : Fin 4) (m : Fin 32) (k : Fin 3) :
    broadcastInDim S4x32x3 ![0, 1, 2] bcast_S4x32x1_S4x32x3_0_1_2 v (ix3 b m k) = v (ix3 b m 0) :=
  broadcastInDim_apply _ _ _ _ _ fun a => by fin_cases a <;> rfl

variable (q : FVec Ideal S4x32x4 .f32) (l : FVec Ideal S4x32 .f32) (b : Fin 4) (m : Fin 32)

theorem planeRows_normal (k : Fin 3) : planeRows (given q) (givenD q) l (ix3 b m (comp k)) = unitAt q l b m k := by
  unfold planeRows
  refine (first_of_four _ _ _ _ b m k).trans ?_
  show Ideal.div (given q (ix3 b m k)) (broadcastInDim S4x32x3 _ _ (broadcastInDim S4x32x1 _ _ _) (ix3 b m k)) = _
  rw [columns_at, column_at, given_at]
  rfl

theorem planeRows_dist : planeRows (given q) (givenD q) l (ix3 b m 3) = q (ix3 b m 3) := by
  unfold planeRows
  refine (second_of_four _ _ _ _ b m).trans ?_
  rw [column_at, givenD_at]

theorem planeRows_valid :
    planeRows (given q) (givenD q) l (ix3 b m 4)
      = (((Ideal.cmp .ogt (l (ix2 b m)) (Ideal.ofBits .f32 0x358637BD#32)).toNat : ℝ) : EReal) := by
  unfold planeRows
  refine (third_of_four _ _ _ _ b m).trans ?_
  rw [column_at]
  rfl

end PlaneFit

end
-- ==== Proof.Padding.lean ====
/- Points that no plane masks change nothing: the sweep over a widened list of points, read at the points that matter. -/
module

public import proofs.«01_k».proof.Proof.Spec

@[expose] public section

noncomputable section

namespace PlaneFit

theorem ind_congr (P Q : Prop) [Decidable P] [Decidable Q] (h : P ↔ Q) : ind P = ind Q := by
  unfold ind
  exact if_congr h rfl rfl

theorem project_congr (b b' : Prop) [Decidable b] [Decidable b'] (h : b ↔ b') (n : Fin 3 → ℝ) (d : ℝ) (x : Fin 3 → ℝ) :
    project b n d x = project b' n d x := by
  unfold project
  funext k
  exact if_congr h rfl rfl

variable {N K : ℕ}

/-- A sum whose last terms are zero. -/
theorem sum_pad (f : Fin (N + K) → ℝ) (g : Fin N → ℝ) (h : ∀ n, f (Fin.castAdd K n) = g n) (h0 : ∀ j, f (Fin.natAdd N j) = 0) :
    ∑ n, f n = ∑ n, g n := by
  rw [Fin.sum_univ_add, Finset.sum_congr rfl fun n _ => h n, Finset.sum_congr rfl fun j _ => h0 j]
  simp

section

variable (p : Fin (N + K) → Fin 3 → ℝ) (p' : Fin N → Fin 3 → ℝ) (hp : ∀ n, p (Fin.castAdd K n) = p' n)
  (μ : Fin (N + K) → Prop) [∀ n, Decidable (μ n)] (μ' : Fin N → Prop) [∀ n, Decidable (μ' n)]
  (hμ : ∀ n, μ (Fin.castAdd K n) ↔ μ' n) (hoff : ∀ j, ¬μ (Fin.natAdd N j)) (ε : ℝ)

include hμ hoff in
theorem cnt_pad : cnt μ = cnt μ' :=
  sum_pad _ _ (fun n => ind_congr _ _ (hμ n)) fun j => by simp [ind, hoff j]

include hp hμ hoff in
theorem cen_pad : cen p μ = cen p' μ' := by
  funext i
  unfold cen
  rw [cnt_pad μ μ' hμ hoff]
  congr 1
  exact sum_pad _ _ (fun n => by rw [hp, ind_congr _ _ (hμ n)]) fun j => by simp [ind, hoff j]

include hp hμ hoff in
theorem cov_pad : cov p μ ε = cov p' μ' ε := by
  funext i j
  unfold cov
  rw [cnt_pad μ μ' hμ hoff]
  congr 2
  exact sum_pad _ _ (fun n => by unfold centred; rw [hp, cen_pad p p' hp μ μ' hμ hoff, ind_congr _ _ (hμ n)])
    fun j => by simp [centred, ind, hoff j]

include hp hμ hoff in
theorem normal_pad : normal p μ ε = normal p' μ' ε := by
  have h : fitted p μ ε = fitted p' μ' ε := by
    funext i j
    unfold fitted
    rw [cov_pad p p' hp μ μ' hμ hoff, cnt_pad μ μ' hμ hoff]
  funext k
  unfold normal
  rw [h]

include hp hμ hoff in
theorem offset_pad : offset p μ ε = offset p' μ' ε := by
  unfold offset
  rw [cen_pad p p' hp μ μ' hμ hoff, normal_pad p p' hp μ μ' hμ hoff]

end

/-- The sweep over a widened list of points. -/
theorem swept_pad (p : Fin (N + K) → Fin 3 → ℝ) (p' : Fin N → Fin 3 → ℝ) (hp : ∀ n, p (Fin.castAdd K n) = p' n)
    (μ : ℕ → Fin (N + K) → Prop) [∀ m n, Decidable (μ m n)] (μ' : ℕ → Fin N → Prop) [∀ m n, Decidable (μ' m n)]
    (hμ : ∀ m n, μ m (Fin.castAdd K n) ↔ μ' m n) (hoff : ∀ m j, ¬μ m (Fin.natAdd N j)) (ε : ℝ) (m : ℕ) (n : Fin N) :
    swept p μ ε m (Fin.castAdd K n) = swept p' μ' ε m n := by
  induction m with
  | zero => exact hp n
  | succ m ih =>
    rw [swept, swept, ih, normal_pad p p' hp (μ m) (μ' m) (hμ m) (hoff m), offset_pad p p' hp (μ m) (μ' m) (hμ m) (hoff m)]
    refine project_congr _ _ ?_ _ _ _
    rw [cnt_pad (μ m) (μ' m) (hμ m) (hoff m), hμ m n]

end PlaneFit

end
-- ==== Proof.KernelValue.lean ====
/- The kernel's two results, read at an index: every point swept over the thirty-two planes in turn, and how far it went. -/
module

public import proofs.«01_k».proof.Proof.HostAt
public import proofs.«01_k».proof.Proof.Padding

@[expose] public section

noncomputable section

namespace PlaneFit

open Cert.KernelIdeal Cert.KernelIdeal.Gen Idealize.ShloMosaic.ValueIdx Idealize.ShloMosaic.TcCoe
open Idealize.ShloMosaic hiding ix1 ix2 ix3

/-! ### Masks -/

theorem and_one (a b : BitVec 1) : a &&& b = 1#1 ↔ a = 1#1 ∧ b = 1#1 := by
  revert a b
  decide

/-- A bit, made a number, compared with a half. -/
theorem above_half (b : BitVec 1) : Ideal.cmp .ogt ((b.toNat : ℝ) : EReal) (Ideal.ofBits .f32 0x3F000000#32) = b := by
  have h : b = 0#1 ∨ b = 1#1 := by revert b; decide
  rw [lit_half]
  unfold Ideal.cmp
  rcases h with rfl | rfl
  · exact congrArg BitVec.ofBool (decide_eq_false fun h => by
      have := EReal.coe_lt_coe_iff.mp h
      norm_num at this)
  · exact congrArg BitVec.ofBool (decide_eq_true (EReal.coe_lt_coe_iff.mpr (by norm_num)))

/-- A lane's number compared with the number of points. -/
theorem lane_inside (n : ℕ) (h : n < 50048) : IntOp.cmpi .slt (BitVec.ofNat 32 n) 50000#32 = 1#1 ↔ n < 50000 := by
  have e : (BitVec.ofNat 32 n).slt 50000#32 = decide (n < 50000) := by
    rw [BitVec.slt_eq_ult, show (BitVec.ofNat 32 n).msb = false from BitVec.msb_eq_false_iff_two_mul_lt.mpr (by simp; omega),
      show (50000#32).msb = false from by decide]
    simp [BitVec.ult]
    omega
  show BitVec.ofBool ((BitVec.ofNat 32 n).slt 50000#32) = 1#1 ↔ _
  rw [e]
  by_cases h' : n < 50000 <;> simp [h']

section

variable (p : FVec Ideal S4x50000x3 .f32) (q : FVec Ideal S4x32x4 .f32) (l : FVec Ideal S4x32 .f32) (b : Fin 4)
  (x0 : Vec Ideal S1x3x50048 .f32) (x1 : Vec Ideal S1x32x128 .f32)
  (h0 : ∀ k n, x0 (ix3 0 k n) = widened p (ix3 b k n)) (h1 : ∀ m j, x1 (ix3 0 m j) = planeRows (given q) (givenD q) l (ix3 b m j))

include h0 h1 in
/-- The kernel's mask at a point. -/
theorem masked_near (m : Fin 32) (n : Fin 50000) : Masked x0 x1 m (Fin.castAdd 48 n) ↔ Near p q l b m n := by
  have hs : side x0 x1 m (Fin.castAdd 48 n) = distAt p q l b m n := by
    unfold side distAt
    rw [h1, planeRows_dist]
    congr 1
    refine Finset.sum_congr rfl fun k _ => ?_
    rw [h1, planeRows_normal, h0, widened_at]
  unfold Masked maskBit
  rw [hs, h1, planeRows_valid, above_half, and_one, and_one, lane_inside _ (by simp; omega)]
  exact and_iff_left n.isLt

/-- No plane masks a lane beyond the points. -/
theorem not_masked (m : Fin 32) (j : Fin 48) : ¬Masked x0 x1 m (Fin.natAdd 50000 j) := by
  unfold Masked maskBit
  rw [and_one, lane_inside _ (by simp; omega)]
  simp

end

/-! ### What the lines hold -/

variable (m : (ℓ : Loc nD τ sig) → Buf (Elt Ideal) ℓ) (ρ : Dev nD → PrngReg) (c : Dev nD)

/-- The points given. -/
abbrev ptsOf : FVec Ideal S4x50000x3 .f32 := m ((c : Thread nD τ).loc main_arg0)
/-- The planes given. -/
abbrev plnOf : FVec Ideal S4x32x4 .f32 := m ((c : Thread nD τ).loc main_arg1)

theorem W2_v1 : W2 m ρ c main_v1 = widened (ptsOf m c) := by
  refine (lines_v1 (W1 m ρ c)).trans ?_
  rw [show W1 m ρ c main_v0 = _ from lines_v0 (W0 m ρ c), show W1 m ρ c main_c = _ from lines_c (W0 m ρ c)]
  rfl

theorem W5_v1 : W5 m ρ c main_v1 = widened (ptsOf m c) :=
  (W5_of m ρ c main_v1 (by decide)).trans ((W4_of m ρ c main_v1 (by decide)).trans ((W3_of m ρ c main_v1 (by decide)).trans (W2_v1 m ρ c)))

theorem W3_v2 : W3 m ρ c main_v2 = given (plnOf m c) := by
  refine (lines_v2 (W2 m ρ c)).trans ?_
  rw [W2_args m ρ c main_arg1 (by decide)]

theorem W3_v4 : W3 m ρ c main_v4 = givenD (plnOf m c) := by
  refine (lines_v4 (W2 m ρ c)).trans ?_
  rw [W2_args m ρ c main_arg1 (by decide)]

theorem W5_v17 : W5 m ρ c main_v17 = planeRows (given (plnOf m c)) (givenD (plnOf m c)) (lengths (given (plnOf m c))) := by
  refine (lines_v17 (W4 m ρ c)).trans ?_
  rw [W4_of m ρ c main_v2 (by decide), W4_of m ρ c main_v4 (by decide), W3_v2, W3_v4,
    show W4 m ρ c main_v5 = _ from lines_v5 (W3 m ρ c), W3_v2]

section

variable (P : Fin 4 → Fin 50000 → Fin 3 → ℝ) (hP : ∀ b n k, ptsOf m c (ix3 b n k) = ((P b n k : ℝ) : EReal)) (b : Fin 4)

/-- A batch's points, widened by zeros. -/
def wide (P : Fin 4 → Fin 50000 → Fin 3 → ℝ) (b : Fin 4) : Fin (50000 + 48) → Fin 3 → ℝ :=
  Fin.addCases (P b) fun _ _ => 0

include hP in
theorem wide_at (k : Fin 3) (n : Fin (50000 + 48)) : widened (ptsOf m c) (ix3 b k n) = ((wide P b n k : ℝ) : EReal) := by
  unfold wide
  refine Fin.addCases (fun n => ?_) (fun j => ?_) n
  · rw [widened_at, hP, Fin.addCases_left]
  · rw [widened_off, Fin.addCases_right]
    rfl

/-- A batch's blocks for the first call. -/
abbrev fit0 : Vec Ideal S1x3x50048 .f32 := iblk0 (V5 m ρ) c 0 (fitAt b)
abbrev fit1 : Vec Ideal S1x32x128 .f32 := iblk0 (V5 m ρ) c 1 (fitAt b)

theorem fit0_at (k : Fin 3) (n : Fin 50048) : fit0 m ρ c b (ix3 0 k n) = widened (ptsOf m c) (ix3 b k n) := by
  refine (points_block (V5 m ρ) c b k n).trans ?_
  rw [show V5 m ρ c main_v1 = _ from W5_v1 m ρ c]

theorem fit1_at (i : Fin 32) (j : Fin 128) :
    fit1 m ρ c b (ix3 0 i j) = planeRows (given (plnOf m c)) (givenD (plnOf m c)) (lengths (given (plnOf m c))) (ix3 b i j) := by
  refine (planes_block (V5 m ρ) c b i j).trans ?_
  rw [show V5 m ρ c main_v17 = _ from W5_v17 m ρ c]

/-- The kernel's masks in a batch. -/
abbrev mask (i : Fin 32) : Fin 50048 → Prop := Masked (fit0 m ρ c b) (fit1 m ρ c b) i

include hP in
theorem fitted_normal (i : Fin 32) (k : Fin 3) :
    (W6 m ρ c main_v18_0 : S4x32x128.Idx → EReal) (ix3 b i (comp k))
      = ((normal (wide P b) (mask m ρ c b i) eps k * ind (3 ≤ cnt (mask m ρ c b i)) : ℝ) : EReal) := by
  rw [show W6 m ρ c main_v18_0 = _ from W6_arr m ρ c 2]
  refine (final_planes (V5 m ρ) c b i (comp k)).trans ?_
  unfold outsAt0
  dsimp only
  exact left_normal c _ _ _ _ _ _ _ _ _ _ _ (wide P b) (fun k n => (fit0_at m ρ c b k n).trans (wide_at m c P hP b k n)) i k

include hP in
theorem fitted_offset (i : Fin 32) :
    (W6 m ρ c main_v18_0 : S4x32x128.Idx → EReal) (ix3 b i 3)
      = ((offset (wide P b) (mask m ρ c b i) eps * ind (3 ≤ cnt (mask m ρ c b i)) : ℝ) : EReal) := by
  rw [show W6 m ρ c main_v18_0 = _ from W6_arr m ρ c 2]
  refine (final_planes (V5 m ρ) c b i 3).trans ?_
  unfold outsAt0
  dsimp only
  exact left_offset c _ _ _ _ _ _ _ _ _ _ _ (wide P b) (fun k n => (fit0_at m ρ c b k n).trans (wide_at m c P hP b k n)) i

theorem masks_low (n : Fin 50048) :
    (W6 m ρ c main_v18_1 : S4x8x50048.Idx → EReal) (ix3 b 0 n) = ((pack (fun k => mask m ρ c b (lo k) n) : ℝ) : EReal) := by
  rw [show W6 m ρ c main_v18_1 = _ from W6_arr m ρ c 3]
  refine (final_bits (V5 m ρ) c b 0 n).trans ?_
  unfold outsAt0
  dsimp only
  exact left_low c _ _ _ _ _ _ _ _ _ _ _ n

theorem masks_high (n : Fin 50048) :
    (W6 m ρ c main_v18_1 : S4x8x50048.Idx → EReal) (ix3 b 1 n) = ((pack (fun k => mask m ρ c b (hi k) n) : ℝ) : EReal) := by
  rw [show W6 m ρ c main_v18_1 = _ from W6_arr m ρ c 3]
  refine (final_bits (V5 m ρ) c b 1 n).trans ?_
  unfold outsAt0
  dsimp only
  exact left_high c _ _ _ _ _ _ _ _ _ _ _ n

theorem W6_v1 : W6 m ρ c main_v1 = widened (ptsOf m c) :=
  (W6_of m ρ c main_v1 (by decide)).trans (W5_v1 m ρ c)

/-- A batch's blocks for the second call. -/
abbrev sweep0 : Vec Ideal S1x24x6256 .f32 := iblk1 (V7 m ρ) c 0 (sweepAt b)
abbrev sweep1 : Vec Ideal S1x16x6256 .f32 := iblk1 (V7 m ρ) c 1 (sweepAt b)
abbrev sweep2 : Vec Ideal S1x32x128 .f32 := iblk1 (V7 m ρ) c 2 (sweepAt b)

include hP in
theorem sweep0_at (k : Fin 3) (r : Fin 8) (l : Fin 6256) :
    sweep0 m ρ c b (ix3 0 (row k r) l) = ((wide P b (lane r l) k : ℝ) : EReal) := by
  refine (points_block' (V7 m ρ) c b (row k r) l).trans ?_
  rw [show V7 m ρ c main_v20 = _ from lines_v20 (W6 m ρ c), folded_points, W6_v1]
  exact wide_at m c P hP b k (lane r l)

theorem sweep1_low (r : Fin 8) (l : Fin 6256) :
    sweep1 m ρ c b (ix3 0 (low8 r) l) = ((pack (fun k => mask m ρ c b (lo k) (lane r l)) : ℝ) : EReal) := by
  refine (bits_block (V7 m ρ) c b (low8 r) l).trans ?_
  rw [show V7 m ρ c main_v19 = _ from lines_v19 (W6 m ρ c), folded_low]
  exact masks_low m ρ c b (lane r l)

theorem sweep1_high (r : Fin 8) (l : Fin 6256) :
    sweep1 m ρ c b (ix3 0 (high8 r) l) = ((pack (fun k => mask m ρ c b (hi k) (lane r l)) : ℝ) : EReal) := by
  refine (bits_block (V7 m ρ) c b (high8 r) l).trans ?_
  rw [show V7 m ρ c main_v19 = _ from lines_v19 (W6 m ρ c), folded_high]
  exact masks_high m ρ c b (lane r l)

theorem sweep2_at (i : Fin 32) (j : Fin 128) :
    sweep2 m ρ c b (ix3 0 i j) = (W6 m ρ c main_v18_0 : S4x32x128.Idx → EReal) (ix3 b i j) := by
  refine (fitted_block (V7 m ρ) c b i j).trans ?_
  rw [show V7 m ρ c main_v18_0 = _ from W7_of m ρ c main_v18_0 (by decide)]

/-- The second call's passes over a lane are the sweep of its point. -/
theorem passes_swept (n : Fin 50048) (k : ℕ) :
    passes (fun i => mask m ρ c b i n) (fun i => 3 ≤ cnt (mask m ρ c b i)) (fun i => normal (wide P b) (mask m ρ c b i) eps)
        (fun i => offset (wide P b) (mask m ρ c b i) eps) (wide P b n) k
      = swept (wide P b) (fun i => mask m ρ c b (Fin.ofNat 32 i)) eps k n := by
  induction k with
  | zero => rfl
  | succ k ih => rw [passes, swept, ih]

include hP in
theorem final_v24 (n : Fin 50000) (k : Fin 3) :
    (W9 m ρ c main_v24 : S4x50000x3.Idx → EReal) (ix3 b n k)
      = ((swept (P b) (fun i => Near (ptsOf m c) (plnOf m c) (lengths (given (plnOf m c))) b (Fin.ofNat 32 i)) eps 32 n k : ℝ) : EReal) := by
  obtain ⟨r, l, h⟩ := exists_lane (Fin.castAdd 48 n)
  rw [show W9 m ρ c main_v24 = _ from lines_v24 (W8 m ρ c), laidOut_at _ b k n r l h,
    show W8 m ρ c main_v21_0 = _ from W8_arr m ρ c 3]
  refine (final_points (V7 m ρ) c b (row k r) l).trans ?_
  unfold outsAt1
  dsimp only
  refine (left_points c _ _ _ _ _ _ _ _ _ _ _ _ _ _ r l (fun i => mask m ρ c b i (lane r l)) (sweep1_low m ρ c b r l)
    (sweep1_high m ρ c b r l) (fun i => 3 ≤ cnt (mask m ρ c b i)) (fun i => normal (wide P b) (mask m ρ c b i) eps)
    (fun i => offset (wide P b) (mask m ρ c b i) eps)
    (fun i k => (sweep2_at m ρ c b i _).trans (fitted_normal m ρ c P hP b i k))
    (fun i => (sweep2_at m ρ c b i _).trans (fitted_offset m ρ c P hP b i))
    (wide P b (lane r l)) (fun k => sweep0_at m ρ c P hP b k r l) k).trans ?_
  rw [passes_swept, ← h]
  rw [swept_pad (wide P b) (P b) (fun n => Fin.addCases_left n) _
    (fun i => Near (ptsOf m c) (plnOf m c) (lengths (given (plnOf m c))) b (Fin.ofNat 32 i))
    (fun i n => masked_near _ _ _ b _ _ (fit0_at m ρ c b) (fit1_at m ρ c b) _ n)
    (fun i j => not_masked _ _ _ j)]

include hP in
theorem final_v27 (n : Fin 50000) (k : Fin 3) :
    (W9 m ρ c main_v27 : S4x50000x3.Idx → EReal) (ix3 b n k)
      = ((swept (P b) (fun i => Near (ptsOf m c) (plnOf m c) (lengths (given (plnOf m c))) b (Fin.ofNat 32 i)) eps 32 n k
          - P b n k : ℝ) : EReal) := by
  obtain ⟨r, l, h⟩ := exists_lane (Fin.castAdd 48 n)
  rw [show W9 m ρ c main_v27 = _ from lines_v27 (W8 m ρ c), laidOut_at _ b k n r l h,
    show W8 m ρ c main_v21_1 = _ from W8_arr m ρ c 4]
  refine (final_moves (V7 m ρ) c b (row k r) l).trans ?_
  unfold outsAt1
  dsimp only
  refine (left_moves c _ _ _ _ _ _ _ _ _ _ _ _ _ _ r l (fun i => mask m ρ c b i (lane r l)) (sweep1_low m ρ c b r l)
    (sweep1_high m ρ c b r l) (fun i => 3 ≤ cnt (mask m ρ c b i)) (fun i => normal (wide P b) (mask m ρ c b i) eps)
    (fun i => offset (wide P b) (mask m ρ c b i) eps)
    (fun i k => (sweep2_at m ρ c b i _).trans (fitted_normal m ρ c P hP b i k))
    (fun i => (sweep2_at m ρ c b i _).trans (fitted_offset m ρ c P hP b i))
    (wide P b (lane r l)) (fun k => sweep0_at m ρ c P hP b k r l) k).trans ?_
  rw [passes_swept, ← h]
  rw [swept_pad (wide P b) (P b) (fun n => Fin.addCases_left n) _
    (fun i => Near (ptsOf m c) (plnOf m c) (lengths (given (plnOf m c))) b (Fin.ofNat 32 i))
    (fun i n => masked_near _ _ _ b _ _ (fit0_at m ρ c b) (fit1_at m ρ c b) _ n)
    (fun i j => not_masked _ _ _ j)]
  rw [show wide P b (Fin.castAdd 48 n) = P b n from Fin.addCases_left n]

end

end PlaneFit

end
-- ==== Proof.KernelRun.lean ====
/- Every run of the kernel's program ends with both results as the last lines of the host leave them, and the arguments as launched. -/
module

public import proofs.«01_k».proof.Proof.Gen.KernelIdeal.Frame

@[expose] public section

noncomputable section

namespace PlaneFit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- The launch, with what every buffer outside the scopes holds at the end: the contents at the last boundary. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

/-- Every run of the kernel's program ends with its results as the host's last lines leave them and its arguments unchanged. -/
theorem kernel_run : θ_run defs (onTc (τ := τ) (main (F := F))) ⟨m, fun _ => 0, ρ⟩ (fun r => ∀ c : Dev nD,
      r.2.mem ((c.tc : Thread nD τ).loc main_v24) = W9 m ρ c main_v24
      ∧ r.2.mem ((c.tc : Thread nD τ).loc main_v27) = W9 m ρ c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v24 (by decide)), h c _ (mem_uc main_v27 (by decide)),
     (h c _ (mem_uc main_arg0 (by decide))).trans (W9_main_arg0 m ρ c),
     (h c _ (mem_uc main_arg1 (by decide))).trans (W9_main_arg1 m ρ c)⟩) (ends m ρ)

end PlaneFit

end
-- ==== Proof.RefTurn.lean ====
/- One Jacobi rotation of the reference, on whole vectors of matrices, read at a matrix. -/
module

public import proofs.«01_k».proof.Proof.Gen.ReferenceIdeal.Read
public import proofs.«01_k».proof.Proof.Scalars
public import proofs.«01_k».proof.Proof.Moments

@[expose] public section

noncomputable section

namespace PlaneFit

open Cert.ReferenceIdeal Cert.ReferenceIdeal.Gen Cert.ReferenceIdeal.Read Idealize.ShloMosaic.ValueIdx
open Idealize.ShloMosaic hiding ix1 ix2 ix3 ix4

/-- A matrix for every batch and plane. -/
abbrev Mats : Type := FVec Ideal S4x32x3x3 .f32
/-- A number for every batch and plane. -/
abbrev Nums : Type := FVec Ideal S4x32 .f32

/-- The tangents of the rotations' angles. -/
def slopes (app aqq apq : Nums) : Nums :=
  let θ := Host.divf (subf aqq app) (mulf (val_main_v80 (F := Ideal)) (select (cmpf .oeq apq (val_main_v77 (F := Ideal))) (val_main_v78 (F := Ideal)) apq))
  Host.divf (select (cmpf .olt θ (val_main_v77 (F := Ideal))) (val_main_v79 (F := Ideal)) (val_main_v78 (F := Ideal)))
    (addf (Host.absf θ) (Host.sqrt (addf (mulf θ θ) (val_main_v78 (F := Ideal)))))

/-- The reciprocals of the roots of one plus the squared tangents. -/
def roots (t : Nums) : Nums :=
  Host.divf (val_main_v78 (F := Ideal)) (Host.sqrt (addf (mulf t t) (val_main_v78 (F := Ideal))))

/-- The cosines of the rotations' angles. -/
def cosines (app aqq apq : Nums) : Nums :=
  select (cmpf .oeq apq (val_main_v77 (F := Ideal))) (val_main_v78 (F := Ideal)) (roots (slopes app aqq apq))

/-- The sines of the rotations' angles. -/
def sines (app aqq apq : Nums) : Nums :=
  select (cmpf .oeq apq (val_main_v77 (F := Ideal))) (val_main_v77 (F := Ideal))
    (mulf (slopes app aqq apq) (roots (slopes app aqq apq)))

theorem cosines_at (app aqq apq : Nums) (j : S4x32.Idx) : cosines app aqq apq j = eCos (app j) (aqq j) (apq j) := rfl
theorem sines_at (app aqq apq : Nums) (j : S4x32.Idx) : sines app aqq apq j = eSin (app j) (aqq j) (apq j) := rfl

/-- The rotation matrices, from the matrices of the plane, of the turn in it and of its axis. -/
def jacs (plane turn axis : Mats) (app aqq apq : Nums) : Mats :=
  addf (addf (mulf (broadcastInDim S4x32x3x3 ![0, 1] bcast_S4x32_S4x32x3x3_0_1 (cosines app aqq apq)) plane)
    (mulf (broadcastInDim S4x32x3x3 ![0, 1] bcast_S4x32_S4x32x3x3_0_1 (sines app aqq apq)) turn)) axis

/-- The products of two vectors of matrices. -/
def prods (A B : Mats) : Mats := Host.dotGeneral (F := Ideal) dot_S4x32x3x3_S4x32x3x3_S4x32x3x3_3_2_2_3_01_01 none A B

/-- The rotated matrices. -/
def turned (J A : Mats) : Mats :=
  prods (prods (transpose S4x32x3x3 [0, 1, 3, 2] J transposes_S4x32x3x3_S4x32x3x3_0_1_3_2) A) J

/-- The vector's matrices are the given real ones. -/
def Real4 (A : Mats) (S : Fin 4 → Fin 32 → Mat) : Prop := ∀ b m i j, A (ix4 b m i j) = ((S b m i j : ℝ) : EReal)

theorem spread_at (x : Nums) (b : Fin 4) (m : Fin 32) (i j : Fin 3) :
    broadcastInDim S4x32x3x3 ![0, 1] bcast_S4x32_S4x32x3x3_0_1 x (ix4 b m i j) = x (ix2 b m) :=
  broadcastInDim_apply _ _ _ _ _ fun a => by fin_cases a <;> rfl

theorem prods_at (A B : Mats) (b : Fin 4) (m : Fin 32) (i j : Fin 3) :
    prods A B (ix4 b m i j) = ∑ k : Fin 3, A (ix4 b m i k) * B (ix4 b m k j) := by
  unfold prods
  simp only [Host.dotGeneral]
  rw [Ideal.dotGeneral_apply, ← Equiv.sum_comp (ValueIdx.contrEquiv1 dot_S4x32x3x3_S4x32x3x3_S4x32x3x3_3_2_2_3_01_01 3 rfl rfl).symm]
  refine Finset.sum_congr rfl fun k _ => ?_
  have hk := ValueIdx.contrEquiv1_symm_val dot_S4x32x3x3_S4x32x3x3_S4x32x3x3_3_2_2_3_01_01 3 rfl rfl k
  refine congrArg₂ (· * ·) (congrArg A (funext fun a => Fin.ext ?_)) (congrArg B (funext fun a => Fin.ext ?_))
  · match a with
    | ⟨0, _⟩ => exact lhs_main_v239_0 _ _
    | ⟨1, _⟩ => exact lhs_main_v239_1 _ _
    | ⟨2, _⟩ => exact lhs_main_v239_2 _ _
    | ⟨3, _⟩ => exact (lhs_main_v239_3 _ _).trans hk
  · match a with
    | ⟨0, _⟩ => exact rhs_main_v239_0 _ _
    | ⟨1, _⟩ => exact rhs_main_v239_1 _ _
    | ⟨2, _⟩ => exact (rhs_main_v239_2 _ _).trans hk
    | ⟨3, _⟩ => exact rhs_main_v239_3 _ _

theorem prods_real {A B : Mats} {S R : Fin 4 → Fin 32 → Mat} (hA : Real4 A S) (hB : Real4 B R) :
    Real4 (prods A B) fun b m => prod (S b m) (R b m) := by
  intro b m i j
  rw [prods_at]
  simp only [hA b m, hB b m, ← EReal.coe_mul]
  exact sum_real _ _

theorem transpose_real {A : Mats} {S : Fin 4 → Fin 32 → Mat} (hA : Real4 A S) :
    Real4 (transpose S4x32x3x3 [0, 1, 3, 2] A transposes_S4x32x3x3_S4x32x3x3_0_1_3_2) fun b m i j => S b m j i := by
  intro b m i j
  exact (transpose_apply _ _ _ _ (ix4 b m j i) fun a => by fin_cases a <;> rfl).trans (hA b m j i)

/-- The three constant matrices of the plane `(p, q)`. -/
structure Plane (p q : Fin 3) (plane turn axis : Mats) : Prop where
  plane : Real4 plane fun _ _ i j => ind (i = p ∧ j = p ∨ i = q ∧ j = q)
  turn : Real4 turn fun _ _ i j => ind (i = p ∧ j = q) - ind (i = q ∧ j = p)
  axis : Real4 axis fun _ _ i j => ind (i = j ∧ i ≠ p ∧ i ≠ q)

theorem jacs_real {p q : Fin 3} {plane turn axis : Mats} (h : Plane p q plane turn axis) {app aqq apq : Nums}
    {S : Fin 4 → Fin 32 → Mat} (hpp : ∀ b m, app (ix2 b m) = ((S b m p p : ℝ) : EReal))
    (hqq : ∀ b m, aqq (ix2 b m) = ((S b m q q : ℝ) : EReal)) (hpq : ∀ b m, apq (ix2 b m) = ((S b m p q : ℝ) : EReal)) :
    Real4 (jacs plane turn axis app aqq apq) fun b m => jac p q (S b m) := by
  intro b m i j
  show broadcastInDim S4x32x3x3 ![0, 1] bcast_S4x32_S4x32x3x3_0_1 (cosines app aqq apq) (ix4 b m i j) * plane (ix4 b m i j)
    + broadcastInDim S4x32x3x3 ![0, 1] bcast_S4x32_S4x32x3x3_0_1 (sines app aqq apq) (ix4 b m i j) * turn (ix4 b m i j)
    + axis (ix4 b m i j) = _
  rw [spread_at, spread_at, cosines_at, sines_at, hpp, hqq, hpq, eCos_real, eSin_real, h.plane, h.turn, h.axis]
  simp only [← EReal.coe_mul, ← EReal.coe_add]
  rfl

/-- One rotation of every pair. -/
theorem turned_real {p q : Fin 3} {J A V : Mats} {S : Fin 4 → Fin 32 → Mat × Mat}
    (hJ : Real4 J fun b m => jac p q (S b m).1) (hA : Real4 A fun b m => (S b m).1) (hV : Real4 V fun b m => (S b m).2) :
    Real4 (turned J A) (fun b m => (rot p q (S b m)).1) ∧ Real4 (prods V J) (fun b m => (rot p q (S b m)).2) :=
  ⟨prods_real (prods_real (transpose_real hJ) hA) hJ, prods_real hV hJ⟩

/-- An entry of every matrix. -/
theorem entry_at (A : Mats) (o : Fin 4 → ℕ) (h : S4x32x3x3.Slices o S4x32x1x1) (i j : Fin 3)
    (ho : o = ![0, 0, i.val, j.val]) (b : Fin 4) (m : Fin 32) :
    (shapeCast S4x32 (extractStridedSlice S4x32x1x1 o A h) shapeCasts_S4x32x1x1_S4x32 : Nums) (ix2 b m) = A (ix4 b m i j) := by
  refine (shapeCast_apply _ _ (ix2 b m) (ix4 b m 0 0) ?_).trans ?_
  · simp [Shape.rowMajor_val_two, Shape.rowMajor_val_four]
  · refine extractStridedSlice_apply _ _ _ _ _ fun a => ?_
    subst ho
    fin_cases a <;> simp [ix4]

/-! ### The constant matrices -/

theorem unit_at (x : IVec S3x3 1) (b : Fin 4) (m : Fin 32) (i j : Fin 3) (P : Prop) [Decidable P]
    (h : x (ix2 i j) = BitVec.ofBool (decide P)) :
    broadcastInDim S4x32x3x3 ![2, 3] bcast_S3x3_S4x32x3x3_2_3 (uitofp (F := Ideal) .f32 x) (ix4 b m i j) = ((ind P : ℝ) : EReal) := by
  refine (broadcastInDim_apply _ _ _ _ (ix2 i j) fun a => by fin_cases a <;> rfl).trans ?_
  show (((x (ix2 i j)).toNat : ℝ) : EReal) = _
  rw [h]
  unfold ind
  by_cases hp : P <;> simp [hp]

theorem plane02 : Plane 0 2 (val_main_v93 (F := Ideal)) (val_main_v108 (F := Ideal)) (val_main_v115 (F := Ideal)) where
  plane b m i j := unit_at (val_main_v91 (F := Ideal)) b m i j _ (by fin_cases i <;> fin_cases j <;> rfl)
  turn b m i j := (congrArg₂ (· - ·) (unit_at (val_main_v98 (F := Ideal)) b m i j (i = 0 ∧ j = 2) (by fin_cases i <;> fin_cases j <;> rfl))
    (unit_at (val_main_v105 (F := Ideal)) b m i j (i = 2 ∧ j = 0) (by fin_cases i <;> fin_cases j <;> rfl))).trans (EReal.coe_sub _ _).symm
  axis b m i j := unit_at (val_main_v113 (F := Ideal)) b m i j _ (by fin_cases i <;> fin_cases j <;> rfl)

theorem plane12 : Plane 1 2 (val_main_v128 (F := Ideal)) (val_main_v143 (F := Ideal)) (val_main_v150 (F := Ideal)) where
  plane b m i j := unit_at (val_main_v126 (F := Ideal)) b m i j _ (by fin_cases i <;> fin_cases j <;> rfl)
  turn b m i j := (congrArg₂ (· - ·) (unit_at (val_main_v133 (F := Ideal)) b m i j (i = 1 ∧ j = 2) (by fin_cases i <;> fin_cases j <;> rfl))
    (unit_at (val_main_v140 (F := Ideal)) b m i j (i = 2 ∧ j = 1) (by fin_cases i <;> fin_cases j <;> rfl))).trans (EReal.coe_sub _ _).symm
  axis b m i j := unit_at (val_main_v148 (F := Ideal)) b m i j _ (by fin_cases i <;> fin_cases j <;> rfl)

theorem plane01 : Plane 0 1 (val_main_v163 (F := Ideal)) (val_main_v178 (F := Ideal)) (val_main_v185 (F := Ideal)) where
  plane b m i j := unit_at (val_main_v161 (F := Ideal)) b m i j _ (by fin_cases i <;> fin_cases j <;> rfl)
  turn b m i j := (congrArg₂ (· - ·) (unit_at (val_main_v168 (F := Ideal)) b m i j (i = 0 ∧ j = 1) (by fin_cases i <;> fin_cases j <;> rfl))
    (unit_at (val_main_v175 (F := Ideal)) b m i j (i = 1 ∧ j = 0) (by fin_cases i <;> fin_cases j <;> rfl))).trans (EReal.coe_sub _ _).symm
  axis b m i j := unit_at (val_main_v183 (F := Ideal)) b m i j _ (by fin_cases i <;> fin_cases j <;> rfl)

theorem one_real : Real4 (val_main_v204 (F := Ideal)) fun _ _ => one := fun b m i j =>
  unit_at (val_main_v202 (F := Ideal)) b m i j (i = j) (by fin_cases i <;> fin_cases j <;> rfl)

end PlaneFit

end
-- ==== Proof.RefFit.lean ====
/- The reference's masks, centroids and covariances, read at a batch, a plane and a point. -/
module

public import proofs.«01_k».proof.Proof.RefTurn
public import proofs.«01_k».proof.Proof.HostAt

@[expose] public section

noncomputable section

namespace PlaneFit.Ref

open Cert.ReferenceIdeal Cert.ReferenceIdeal.Gen Cert.ReferenceIdeal.Read Idealize.ShloMosaic.ValueIdx
open Idealize.ShloMosaic hiding ix1 ix2 ix3 ix4

theorem select_ge {α : Type} (a b : ℝ) (x y : α) :
    Scalar.select (Ideal.cmp .oge (a : EReal) (b : EReal)) x y = if b ≤ a then x else y := by
  by_cases h : b ≤ a <;> simp [Ideal.cmp, Scalar.select, EReal.coe_le_coe_iff, h]

/-- A flag as a number. -/
theorem flag_real (c : BitVec 1) (P : Prop) [Decidable P] (h : c = 1#1 ↔ P) : ((c.toNat : ℝ) : EReal) = ((ind P : ℝ) : EReal) := by
  unfold ind
  by_cases hp : P
  · rw [h.mpr hp, if_pos hp]; norm_num
  · rw [show c = 0#1 from (BitVec.eq_zero_or_eq_one c).resolve_right fun e => hp (h.mp e), if_neg hp]; norm_num

/-- A sum from zero of real numbers. -/
theorem sum_from {ι : Type} [Fintype ι] (f : ι → EReal) (g : ι → ℝ) (h : ∀ n, f n = ((g n : ℝ) : EReal)) :
    Ideal.ofBits .f32 0x00000000#32 + ∑ n, f n = ((∑ n, g n : ℝ) : EReal) := by
  rw [lit_zero, EReal.coe_zero, zero_add, ← sum_real]
  exact Finset.sum_congr rfl fun n _ => h n

section

variable (x0 : FVec Ideal S4x50000x3 .f32) (x1 : FVec Ideal S4x32x4 .f32) (b : Fin 4) (m : Fin 32)

/-- The points near a plane. -/
abbrev near (n : Fin 50000) : Prop := Near x0 x1 (val_main_v3 (F := Ideal) x1) b m n

theorem clamp_at (k : Fin 3) : val_main_v9 (F := Ideal) x1 (ix3 b m k)
    = max (val_main_v3 (F := Ideal) x1 (ix2 b m)) (Ideal.ofBits .f32 0x2B8CBCCC#32) := by
  rw [val_main_v9_apply, val_main_v8_apply, val_main_v7_apply, val_main_v6_apply]
  exact congrArg (fun j => max (val_main_v3 (F := Ideal) x1 j) _) (funext fun a => by fin_cases a <;> rfl)

theorem unit_normal_at (k : Fin 3) : val_main_v10 (F := Ideal) x1 (ix3 b m k) = unitAt x1 (val_main_v3 (F := Ideal) x1) b m k := by
  rw [val_main_v10_apply, clamp_at]
  exact congrArg (fun z => Ideal.div z _) (given_at x1 b m k)

theorem shift_at (n : Fin 50000) : val_main_v13 (F := Ideal) x1 (ix3 b n m) = x1 (ix3 b m 3) := by
  rw [val_main_v13_apply, val_main_v12_apply]
  refine Eq.trans (congrArg (val_main_v2 (F := Ideal) x1) (funext fun a => ?_)) (givenD_at x1 b m)
  fin_cases a <;> rfl

theorem dist_at (n : Fin 50000) : val_main_v14 (F := Ideal) x0 x1 (ix3 b n m) = distAt x0 x1 (val_main_v3 (F := Ideal) x1) b m n := by
  rw [val_main_v14_apply, shift_at, val_main_v11_apply]
  refine congrArg (· + x1 (ix3 b m 3)) (Finset.sum_congr rfl fun k _ => ?_)
  rw [← unit_normal_at, mul_comm]
  exact congrArg₂ (· * ·) (congrArg (val_main_v10 (F := Ideal) x1) (funext fun a => by fin_cases a <;> rfl))
    (congrArg x0 (funext fun a => by fin_cases a <;> rfl))

theorem valid_at (n : Fin 50000) : val_main_v19 (F := Ideal) x1 (ix3 b n m)
    = Ideal.cmp .ogt (val_main_v3 (F := Ideal) x1 (ix2 b m)) (Ideal.ofBits .f32 0x358637BD#32) := by
  rw [val_main_v19_apply, val_main_v18_apply, val_main_v5_apply, val_main_v4_apply]
  exact congrArg (fun j => Ideal.cmp .ogt (val_main_v3 (F := Ideal) x1 j) _) (funext fun a => by fin_cases a <;> rfl)

theorem and_one_iff (x y : BitVec 1) : IntOp.andi x y = 1#1 ↔ x = 1#1 ∧ y = 1#1 := by
  revert x y
  decide

theorem mask_at (n : Fin 50000) : val_main_v20 (F := Ideal) x0 x1 (ix3 b n m) = 1#1 ↔ near x0 x1 b m n := by
  rw [val_main_v20_apply, and_one_iff, valid_at, val_main_v17_apply, val_main_v15_apply, dist_at, val_main_v16_apply]
  exact Iff.rfl

theorem flag_at (n : Fin 50000) : val_main_v21 (F := Ideal) x0 x1 (ix3 b n m) = ((ind (near x0 x1 b m n) : ℝ) : EReal) :=
  flag_real _ _ (mask_at x0 x1 b m n)

theorem count_at : val_main_v22 (F := Ideal) x0 x1 (ix2 b m) = ((cnt (near x0 x1 b m) : ℝ) : EReal) := by
  rw [val_main_v22_apply]
  exact sum_from _ (fun n => ind (near x0 x1 b m n)) fun n =>
    (congrArg (val_main_v21 (F := Ideal) x0 x1) (funext fun a => by fin_cases a <;> rfl)).trans (flag_at x0 x1 b m n)

variable (P : Fin 4 → Fin 50000 → Fin 3 → ℝ) (hP : ∀ b n k, x0 (ix3 b n k) = ((P b n k : ℝ) : EReal))

theorem flags_at (n : Fin 50000) (k : Fin 3) :
    val_main_v28 (F := Ideal) x0 x1 (ix4 b n m k) = ((ind (near x0 x1 b m n) : ℝ) : EReal) := by
  rw [val_main_v28_apply, val_main_v26_apply]
  exact (congrArg (val_main_v21 (F := Ideal) x0 x1) (funext fun a => by fin_cases a <;> rfl)).trans (flag_at x0 x1 b m n)

theorem flags_at' (n : Fin 50000) (k : Fin 3) :
    val_main_v42 (F := Ideal) x0 x1 (ix4 b n m k) = ((ind (near x0 x1 b m n) : ℝ) : EReal) := by
  rw [val_main_v42_apply, val_main_v41_apply]
  exact (congrArg (val_main_v21 (F := Ideal) x0 x1) (funext fun a => by fin_cases a <;> rfl)).trans (flag_at x0 x1 b m n)

include hP

theorem spread_points_at (n : Fin 50000) (k : Fin 3) : val_main_v27 (F := Ideal) x0 (ix4 b n m k) = ((P b n k : ℝ) : EReal) := by
  rw [val_main_v27_apply, val_main_v25_apply, ← hP]
  exact congrArg x0 (funext fun a => by fin_cases a <;> rfl)

theorem spread_points_at' (n : Fin 50000) (k : Fin 3) : val_main_v38 (F := Ideal) x0 (ix4 b n m k) = ((P b n k : ℝ) : EReal) := by
  rw [val_main_v38_apply, val_main_v36_apply, ← hP]
  exact congrArg x0 (funext fun a => by fin_cases a <;> rfl)

theorem total_at (k : Fin 3) :
    val_main_v30 (F := Ideal) x0 x1 (ix3 b m k) = ((∑ n, P b n k * ind (near x0 x1 b m n) : ℝ) : EReal) := by
  rw [val_main_v30_apply]
  refine sum_from _ (fun n => P b n k * ind (near x0 x1 b m n)) fun n => ?_
  rw [show idx_main_v30 (ix3 b m k) n = ix4 b n m k from funext fun a => by fin_cases a <;> rfl, val_main_v29_apply,
    spread_points_at x0 b m P hP, flags_at]
  exact (EReal.coe_mul _ _).symm

theorem centroid_at (k : Fin 3) :
    val_main_v35 (F := Ideal) x0 x1 (ix3 b m k) = ((cen (P b) (near x0 x1 b m) k : ℝ) : EReal) := by
  rw [val_main_v35_apply, total_at x0 x1 b m P hP, val_main_v34_apply, val_main_v33_apply, val_main_v32_apply, val_main_v31_apply]
  rw [show idx_main_v33 (idx_main_v34 (ix3 b m k)) = ix2 b m from funext fun a => by fin_cases a <;> rfl, count_at]
  refine (congrArg (Ideal.div _) ?_).trans (div_real _ (max (cnt (near x0 x1 b m)) 1) (by positivity))
  exact (congrArg (max _) lit_one).trans (max_real _ _)

theorem centred_at (n : Fin 50000) (k : Fin 3) :
    val_main_v43 (F := Ideal) x0 x1 (ix4 b n m k) = ((centred (P b) (near x0 x1 b m) n k : ℝ) : EReal) := by
  rw [val_main_v43_apply, flags_at', val_main_v40_apply, spread_points_at' x0 b m P hP, val_main_v39_apply, val_main_v37_apply]
  rw [show idx_main_v37 (idx_main_v39 (ix4 b n m k)) = ix3 b m k from funext fun a => by fin_cases a <;> rfl, centroid_at x0 x1 b m P hP]
  exact (congrArg (· * _) (EReal.coe_sub _ _).symm).trans (EReal.coe_mul _ _).symm

theorem scatter_at (i j : Fin 3) :
    val_main_v44 (F := Ideal) x0 x1 (ix4 b m i j)
      = ((∑ n, centred (P b) (near x0 x1 b m) n i * centred (P b) (near x0 x1 b m) n j : ℝ) : EReal) := by
  rw [val_main_v44_apply, ← sum_real]
  refine Finset.sum_congr rfl fun n _ => ?_
  rw [show lidx_main_v44 (ix4 b m i j) n = ix4 b n m i from funext fun a => by fin_cases a <;> rfl,
    show ridx_main_v44 (ix4 b m i j) n = ix4 b n m j from funext fun a => by fin_cases a <;> rfl,
    centred_at x0 x1 b m P hP, centred_at x0 x1 b m P hP]
  exact (EReal.coe_mul _ _).symm

omit hP in
theorem eye_at (i j : Fin 3) : val_main_v61 (F := Ideal) (ix4 b m i j) = ((ind (i = j) * eps : ℝ) : EReal) := by
  rw [val_main_v61_apply, val_main_v60_apply, val_main_v59_apply, val_main_v58_apply, val_main_v57_apply]
  rw [show idx_main_v60 (idx_main_v61 (ix4 b m i j)) = ix2 i j from funext fun a => by fin_cases a <;> rfl]
  refine (congrArg₂ (· * ·) (flag_real (val_main_v56 (F := Ideal) (ix2 i j)) (i = j) ?_) lit_eps).trans (EReal.coe_mul _ _).symm
  fin_cases i <;> fin_cases j <;> decide

omit hP in
theorem dummy_at (i j : Fin 3) :
    val_main_call1_v1 (F := Ideal) (ix4 b m i j) = ((ind (i = j) * (3 - ((i : ℕ) : ℝ)) : ℝ) : EReal) := by
  rw [val_main_call1_v1_apply, val_main_v72_apply, val_main_v71_apply, val_main_v70_apply, val_main_v68_apply]
  rw [show idx_main_call1_v1 (ix4 b m i j) = ix2 i j from funext fun a => by fin_cases a <;> rfl]
  refine (congrArg₂ (· * ·) (flag_real (val_main_v67 (F := Ideal) (ix2 i j)) (i = j) ?_)
    (congrArg₂ (· - ·) lit_three (?_ : _ = (((i : ℕ) : ℝ) : EReal)))).trans
    ((congrArg (_ * ·) (EReal.coe_sub _ _).symm).trans (EReal.coe_mul _ _).symm)
  · fin_cases i <;> fin_cases j <;> decide
  · show (((BitVec.ofNat 32 i.val).toInt : ℝ) : EReal) = _
    rw [show (BitVec.ofNat 32 i.val).toInt = ((i.val : ℕ) : ℤ) from by fin_cases i <;> rfl]
    norm_cast

theorem cov_at (i j : Fin 3) :
    val_main_v62 (F := Ideal) x0 x1 (ix4 b m i j) = ((cov (P b) (near x0 x1 b m) eps i j : ℝ) : EReal) := by
  rw [val_main_v62_apply, eye_at, val_main_v51_apply, scatter_at x0 x1 b m P hP, val_main_v50_apply, val_main_v49_apply,
    val_main_v48_apply, val_main_v47_apply, val_main_v46_apply, val_main_v45_apply]
  rw [show idx_main_v49 (idx_main_v50 (ix4 b m i j)) = ix2 b m from funext fun a => by fin_cases a <;> rfl, count_at]
  refine (congrArg (· + _) ((congrArg (Ideal.div _) ?_).trans
    (div_real _ (max 1 (cnt (near x0 x1 b m) - 1)) (by positivity)))).trans (EReal.coe_add _ _).symm
  exact (congrArg₂ max lit_one ((congrArg (_ - ·) lit_one).trans (EReal.coe_sub _ _).symm)).trans (max_real _ _)

omit hP in
theorem enough_at : val_main_v24 (F := Ideal) x0 x1 (ix2 b m) = Ideal.cmp .oge ((cnt (near x0 x1 b m) : ℝ) : EReal) ((3 : ℝ) : EReal) := by
  rw [val_main_v24_apply, count_at, val_main_v23_apply]
  exact congrArg (Ideal.cmp .oge _) lit_three

/-- The matrices the reference decomposes. -/
theorem fitted_at (i j : Fin 3) :
    val_main_v74 (F := Ideal) x0 x1 (ix4 b m i j) = ((fitted (P b) (near x0 x1 b m) eps i j : ℝ) : EReal) := by
  rw [val_main_v74_apply, cov_at x0 x1 b m P hP, dummy_at, val_main_call1_v0_apply, val_main_v73_apply]
  rw [show idx_main_v73 (idx_main_call1_v0 (ix4 b m i j)) = ix2 b m from funext fun a => by fin_cases a <;> rfl, enough_at,
    select_ge, if_real]
  rfl

end

end PlaneFit.Ref

end
-- ==== Proof.RefEigen.lean ====
/- The six Jacobi sweeps of the reference. -/
module

public import proofs.«01_k».proof.Proof.RefTurn

@[expose] public section

noncomputable section

namespace PlaneFit

open Cert.ReferenceIdeal Cert.ReferenceIdeal.Gen Cert.ReferenceIdeal.Read Idealize.ShloMosaic.ValueIdx
open Idealize.ShloMosaic hiding ix1 ix2 ix3 ix4

/-- An entry of every matrix. -/
abbrev entry (o : Fin 4 → ℕ) (h : S4x32x3x3.Slices o S4x32x1x1) (A : Mats) : Nums :=
  shapeCast S4x32 (extractStridedSlice S4x32x1x1 o A h) shapeCasts_S4x32x1x1_S4x32

/-- The rotation matrices of the plane `(0, 2)`. -/
def jacs02 (A : Mats) : Mats :=
  jacs (val_main_v93 (F := Ideal)) (val_main_v108 (F := Ideal)) (val_main_v115 (F := Ideal))
    (entry ![0, 0, 0, 0] slices_S4x32x3x3_S4x32x1x1_0_0_0_0 A) (entry ![0, 0, 2, 2] slices_S4x32x3x3_S4x32x1x1_0_0_2_2 A)
    (entry ![0, 0, 0, 2] slices_S4x32x3x3_S4x32x1x1_0_0_0_2 A)

/-- The rotation matrices of the plane `(1, 2)`. -/
def jacs12 (A : Mats) : Mats :=
  jacs (val_main_v128 (F := Ideal)) (val_main_v143 (F := Ideal)) (val_main_v150 (F := Ideal))
    (entry ![0, 0, 1, 1] slices_S4x32x3x3_S4x32x1x1_0_0_1_1 A) (entry ![0, 0, 2, 2] slices_S4x32x3x3_S4x32x1x1_0_0_2_2 A)
    (entry ![0, 0, 1, 2] slices_S4x32x3x3_S4x32x1x1_0_0_1_2 A)

/-- The rotation matrices of the plane `(0, 1)`. -/
def jacs01 (A : Mats) : Mats :=
  jacs (val_main_v163 (F := Ideal)) (val_main_v178 (F := Ideal)) (val_main_v185 (F := Ideal))
    (entry ![0, 0, 0, 0] slices_S4x32x3x3_S4x32x1x1_0_0_0_0 A) (entry ![0, 0, 1, 1] slices_S4x32x3x3_S4x32x1x1_0_0_1_1 A)
    (entry ![0, 0, 0, 1] slices_S4x32x3x3_S4x32x1x1_0_0_0_1 A)

/-- The matrices after a rotation in each of the first planes. -/
def step1 (A : Mats) : Mats := turned (jacs02 A) A
def step2 (A : Mats) : Mats := turned (jacs12 A) A
def step3 (A : Mats) : Mats := turned (jacs01 A) A

/-- The matrices after a sweep. -/
def sweepA (A : Mats) : Mats := step3 (step2 (step1 A))

/-- The vectors after a sweep of the matrices. -/
def sweepV (A V : Mats) : Mats := prods (prods (prods V (jacs02 A)) (jacs12 (step1 A))) (jacs01 (step2 (step1 A)))

section

variable {A V : Mats} {S : Fin 4 → Fin 32 → Mat × Mat}

/-- The two vectors are the given pairs. -/
def Pairs (A V : Mats) (S : Fin 4 → Fin 32 → Mat × Mat) : Prop :=
  Real4 A (fun b m => (S b m).1) ∧ Real4 V fun b m => (S b m).2

theorem pairs_step1 (h : Pairs A V S) : Pairs (step1 A) (prods V (jacs02 A)) fun b m => rot 0 2 (S b m) :=
  turned_real (jacs_real plane02
    (fun b m => (entry_at A _ _ 0 0 rfl b m).trans (h.1 b m 0 0))
    (fun b m => (entry_at A _ _ 2 2 rfl b m).trans (h.1 b m 2 2))
    (fun b m => (entry_at A _ _ 0 2 rfl b m).trans (h.1 b m 0 2))) h.1 h.2

theorem pairs_step2 (h : Pairs A V S) : Pairs (step2 A) (prods V (jacs12 A)) fun b m => rot 1 2 (S b m) :=
  turned_real (jacs_real plane12
    (fun b m => (entry_at A _ _ 1 1 rfl b m).trans (h.1 b m 1 1))
    (fun b m => (entry_at A _ _ 2 2 rfl b m).trans (h.1 b m 2 2))
    (fun b m => (entry_at A _ _ 1 2 rfl b m).trans (h.1 b m 1 2))) h.1 h.2

theorem pairs_step3 (h : Pairs A V S) : Pairs (step3 A) (prods V (jacs01 A)) fun b m => rot 0 1 (S b m) :=
  turned_real (jacs_real plane01
    (fun b m => (entry_at A _ _ 0 0 rfl b m).trans (h.1 b m 0 0))
    (fun b m => (entry_at A _ _ 1 1 rfl b m).trans (h.1 b m 1 1))
    (fun b m => (entry_at A _ _ 0 1 rfl b m).trans (h.1 b m 0 1))) h.1 h.2

theorem pairs_sweep (h : Pairs A V S) : Pairs (sweepA A) (sweepV A V) fun b m => cycle (S b m) :=
  pairs_step3 (pairs_step2 (pairs_step1 h))

end

section

variable (x0 : FVec Ideal S4x50000x3 .f32) (x1 : FVec Ideal S4x32x4 .f32)

/-! ### The program's vectors after each sweep -/

theorem matrices1 : val_main_v311 (F := Ideal) x0 x1 = sweepA (val_main_v74 (F := Ideal) x0 x1) := rfl
theorem matrices2 : val_main_v419 (F := Ideal) x0 x1 = sweepA (val_main_v311 (F := Ideal) x0 x1) := rfl
theorem matrices3 : val_main_v527 (F := Ideal) x0 x1 = sweepA (val_main_v419 (F := Ideal) x0 x1) := rfl
theorem matrices4 : val_main_v635 (F := Ideal) x0 x1 = sweepA (val_main_v527 (F := Ideal) x0 x1) := rfl
theorem matrices5 : val_main_v743 (F := Ideal) x0 x1 = sweepA (val_main_v635 (F := Ideal) x0 x1) := rfl
theorem matrices6 : val_main_v851 (F := Ideal) x0 x1 = sweepA (val_main_v743 (F := Ideal) x0 x1) := rfl

theorem vectors1 : val_main_v312 (F := Ideal) x0 x1 = sweepV (val_main_v74 (F := Ideal) x0 x1) (val_main_v204 (F := Ideal)) := rfl
theorem vectors2 : val_main_v420 (F := Ideal) x0 x1 = sweepV (val_main_v311 (F := Ideal) x0 x1) (val_main_v312 (F := Ideal) x0 x1) := rfl
theorem vectors3 : val_main_v528 (F := Ideal) x0 x1 = sweepV (val_main_v419 (F := Ideal) x0 x1) (val_main_v420 (F := Ideal) x0 x1) := rfl
theorem vectors4 : val_main_v636 (F := Ideal) x0 x1 = sweepV (val_main_v527 (F := Ideal) x0 x1) (val_main_v528 (F := Ideal) x0 x1) := rfl
theorem vectors5 : val_main_v744 (F := Ideal) x0 x1 = sweepV (val_main_v635 (F := Ideal) x0 x1) (val_main_v636 (F := Ideal) x0 x1) := rfl
theorem vectors6 : val_main_v852 (F := Ideal) x0 x1 = sweepV (val_main_v743 (F := Ideal) x0 x1) (val_main_v744 (F := Ideal) x0 x1) := rfl

/-- The reference's decomposition. -/
theorem pairs_eigen {S : Fin 4 → Fin 32 → Mat} (h : Real4 (val_main_v74 (F := Ideal) x0 x1) S) :
    Pairs (val_main_v851 (F := Ideal) x0 x1) (val_main_v852 (F := Ideal) x0 x1) fun b m => eigen (S b m) := by
  rw [matrices6, vectors6, matrices5, vectors5, matrices4, vectors4, matrices3, vectors3, matrices2, vectors2, matrices1, vectors1]
  have h0 : Pairs (val_main_v74 (F := Ideal) x0 x1) (val_main_v204 (F := Ideal)) fun b m => (S b m, one) := ⟨h, one_real⟩
  exact pairs_sweep (pairs_sweep (pairs_sweep (pairs_sweep (pairs_sweep (pairs_sweep h0)))))

end

end PlaneFit

end
-- ==== Proof.RefNormal.lean ====
/- The reference's refined planes: the columns put in order, the third row, the sign and the offset. -/
module

public import proofs.«01_k».proof.Proof.RefFit
public import proofs.«01_k».proof.Proof.RefEigen

@[expose] public section

noncomputable section

namespace PlaneFit.Ref

open Cert.ReferenceIdeal Cert.ReferenceIdeal.Gen Cert.ReferenceIdeal.Read Idealize.ShloMosaic.ValueIdx
open Idealize.ShloMosaic hiding ix1 ix2 ix3 ix4

theorem gt_iff (a b : ℝ) : Ideal.cmp .ogt (a : EReal) (b : EReal) = 1#1 ↔ b < a := by
  by_cases h : b < a <;> simp [Ideal.cmp, EReal.coe_lt_coe_iff, h]

theorem eq_iff (a b : ℝ) : Ideal.cmp .oeq (a : EReal) (b : EReal) = 1#1 ↔ a = b := by
  by_cases h : a = b <;> simp [Ideal.cmp, EReal.coe_eq_coe_iff, h]

theorem ge_iff (a b : ℝ) : Ideal.cmp .oge (a : EReal) (b : EReal) = 1#1 ↔ b ≤ a := by
  by_cases h : b ≤ a <;> simp [Ideal.cmp, EReal.coe_le_coe_iff, h]

theorem or_one_iff (x y : BitVec 1) : IntOp.ori x y = 1#1 ↔ x = 1#1 ∨ y = 1#1 := by
  revert x y
  decide

/-- Three columns side by side. -/
theorem stacked (a : Fin 3 → FVec Ideal S4x32x1 .f32) (b : Fin 4) (m : Fin 32) (i : Fin 3) :
    concatenate S4x32x3 2 [⟨S4x32x1, a 0⟩, ⟨S4x32x1, a 1⟩, ⟨S4x32x1, a 2⟩] concatenates_S4x32x1_S4x32x1_S4x32x1_S4x32x3_d2 (ix3 b m i)
      = a i (ix3 b m 0) :=
  concatenate_apply_piece (t := S4x32x3) 2 [⟨S4x32x1, a 0⟩, ⟨S4x32x1, a 1⟩, ⟨S4x32x1, a 2⟩]
    concatenates_S4x32x1_S4x32x1_S4x32x1_S4x32x3_d2 (ix3 b m i) i.val (by simp) S4x32x1 (a i)
    (by match i with | 0 => rfl | 1 => rfl | 2 => rfl) rfl i.val (by match i with | 0 => rfl | 1 => rfl | 2 => rfl) (ix3 b m 0)
    (fun a ha => by match a with | ⟨0, _⟩ => rfl | ⟨1, _⟩ => rfl | ⟨2, _⟩ => exact absurd rfl ha) (Nat.add_zero i.val)

section

variable (x0 : FVec Ideal S4x50000x3 .f32) (x1 : FVec Ideal S4x32x4 .f32) (b : Fin 4) (m : Fin 32)
variable {S : Fin 4 → Fin 32 → Mat × Mat}
  (h : Pairs (val_main_v851 (F := Ideal) x0 x1) (val_main_v852 (F := Ideal) x0 x1) S)

include h

/-- The singular values. -/
theorem values_at (i : Fin 3) : val_main_v862 (F := Ideal) x0 x1 (ix3 b m i) = (((S b m).1 i i : ℝ) : EReal) := by
  refine (stacked ![val_main_v859 (F := Ideal) x0 x1, val_main_v860 (F := Ideal) x0 x1, val_main_v861 (F := Ideal) x0 x1] b m i).trans ?_
  rw [← h.1 b m i i]
  match i with
  | 0 =>
    show val_main_v859 (F := Ideal) x0 x1 (ix3 b m 0) = _
    unfold val_main_v859 val_main_v854 val_main_v853
    exact (column_at _ b m).trans (entry_at _ _ _ 0 0 rfl b m)
  | 1 =>
    show val_main_v860 (F := Ideal) x0 x1 (ix3 b m 0) = _
    unfold val_main_v860 val_main_v856 val_main_v855
    exact (column_at _ b m).trans (entry_at _ _ _ 1 1 rfl b m)
  | 2 =>
    show val_main_v861 (F := Ideal) x0 x1 (ix3 b m 0) = _
    unfold val_main_v861 val_main_v858 val_main_v857
    exact (column_at _ b m).trans (entry_at _ _ _ 2 2 rfl b m)

/-- Column `i` comes before column `j`. -/
theorem ahead_at (i j : Fin 3) : val_main_v875 (F := Ideal) x0 x1 (ix4 b m i j) = 1#1
    ↔ (S b m).1 j j < (S b m).1 i i ∨ (S b m).1 i i = (S b m).1 j j ∧ j < i := by
  rw [val_main_v875_apply, or_one_iff, val_main_v874_apply, and_one_iff, val_main_v867_apply, val_main_v870_apply,
    val_main_v865_apply, val_main_v866_apply, val_main_v868_apply, val_main_v869_apply, val_main_v863_apply,
    val_main_v864_apply, val_main_v873_apply, val_main_v872_apply]
  rw [show idx_main_v863 (idx_main_v865 (ix4 b m i j)) = ix3 b m i from funext fun a => by fin_cases a <;> rfl,
    show idx_main_v864 (idx_main_v866 (ix4 b m i j)) = ix3 b m j from funext fun a => by fin_cases a <;> rfl,
    show idx_main_v872 (idx_main_v873 (ix4 b m i j)) = ix2 i j from funext fun a => by fin_cases a <;> rfl,
    values_at x0 x1 b m h, values_at x0 x1 b m h]
  refine or_congr (gt_iff _ _) (and_congr (eq_iff _ _) ?_)
  fin_cases i <;> fin_cases j <;> decide

theorem place_at (j : Fin 3) :
    val_main_v877 (F := Ideal) x0 x1 (ix3 b m j) = ((place (fun i => (S b m).1 i i) j : ℝ) : EReal) := by
  rw [val_main_v877_apply]
  refine sum_from _ (fun i => ind ((S b m).1 j j < (S b m).1 i i ∨ (S b m).1 i i = (S b m).1 j j ∧ j < i)) fun i => ?_
  rw [show idx_main_v877 (ix3 b m j) i = ix4 b m i j from funext fun a => by fin_cases a <;> rfl, val_main_v876_apply]
  exact flag_real _ _ (ahead_at x0 x1 b m h i j)

theorem order_at (j k : Fin 3) : val_main_v884 (F := Ideal) x0 x1 (ix4 b m j k)
    = ((ind (place (fun i => (S b m).1 i i) j = ((k : ℕ) : ℝ)) : ℝ) : EReal) := by
  rw [val_main_v884_apply]
  refine flag_real _ _ ?_
  rw [val_main_v883_apply, val_main_v881_apply, val_main_v878_apply, val_main_v882_apply, val_main_v880_apply, val_main_v879_apply]
  rw [show idx_main_v878 (idx_main_v881 (ix4 b m j k)) = ix3 b m j from funext fun a => by fin_cases a <;> rfl,
    show idx_main_v880 (idx_main_v882 (ix4 b m j k)) = ix2 j k from funext fun a => by fin_cases a <;> rfl, place_at x0 x1 b m h]
  rw [← eq_iff]
  refine Eq.congr_left (congrArg (Ideal.cmp .oeq _) ?_)
  show (((BitVec.ofNat 32 k.val).toInt : ℝ) : EReal) = _
  rw [show (BitVec.ofNat 32 k.val).toInt = ((k.val : ℕ) : ℤ) from by fin_cases k <;> rfl]
  norm_cast

/-- The third row of the ordered vectors. -/
theorem third_at (k : Fin 3) : val_main_v887 (F := Ideal) x0 x1 (ix3 b m k) = ((thirdRow (S b m) k : ℝ) : EReal) := by
  have e : val_main_v887 (F := Ideal) x0 x1 (ix3 b m k) = val_main_v885 (F := Ideal) x0 x1 (ix4 b m 2 k) := by
    refine (shapeCast_apply _ _ (ix3 b m k) (ix4 b m 0 k) ?_).trans ?_
    · simp [Shape.rowMajor_val_three, Shape.rowMajor_val_four]
    · exact extractStridedSlice_apply _ _ _ _ _ fun a => by fin_cases a <;> simp [ix4]
  rw [e]
  refine (prods_at _ _ b m 2 k).trans ?_
  rw [thirdRow, ← sum_real]
  refine Finset.sum_congr rfl fun j _ => ?_
  rw [h.2 b m 2 j, order_at x0 x1 b m h]
  exact (EReal.coe_mul _ _).symm

end

section

variable (x0 : FVec Ideal S4x50000x3 .f32) (x1 : FVec Ideal S4x32x4 .f32) (b : Fin 4) (m : Fin 32)
variable (P : Fin 4 → Fin 50000 → Fin 3 → ℝ) (hP : ∀ b n k, x0 (ix3 b n k) = ((P b n k : ℝ) : EReal))

include hP

theorem normal_at (k : Fin 3) :
    val_main_v887 (F := Ideal) x0 x1 (ix3 b m k) = ((normal (P b) (near x0 x1 b m) eps k : ℝ) : EReal) :=
  third_at x0 x1 b m (S := fun b m => eigen (fitted (P b) (near x0 x1 b m) eps))
    (pairs_eigen x0 x1 fun b m i j => fitted_at x0 x1 b m P hP i j) k

omit hP in
/-- Whether the refined normal is turned around. -/
abbrev around : Prop := val_main_v891 (F := Ideal) x0 x1 (ix2 b m) = 1#1

/-- The refined normal, turned to the side of the plane's own. -/
theorem oriented_at (k : Fin 3) : val_main_v894 (F := Ideal) x0 x1 (ix3 b m k)
    = ((if around x0 x1 b m then -normal (P b) (near x0 x1 b m) eps k else normal (P b) (near x0 x1 b m) eps k : ℝ) : EReal) := by
  rw [val_main_v894_apply, val_main_v893_apply, normal_at x0 x1 b m P hP, val_main_call2_v0_apply, val_main_v892_apply,
    show idx_main_v892 (idx_main_call2_v0 (ix3 b m k)) = ix2 b m from funext fun a => by fin_cases a <;> rfl]
  by_cases ha : around x0 x1 b m
  · rw [if_pos ha, show val_main_v891 (F := Ideal) x0 x1 (ix2 b m) = 1#1 from ha]
    rfl
  · rw [if_neg ha, show val_main_v891 (F := Ideal) x0 x1 (ix2 b m) = 0#1 from (BitVec.eq_zero_or_eq_one _).resolve_right ha]
    rfl

/-- The refined offset. -/
theorem offset_at : val_main_v897 (F := Ideal) x0 x1 (ix2 b m)
    = ((if around x0 x1 b m then -offset (P b) (near x0 x1 b m) eps else offset (P b) (near x0 x1 b m) eps : ℝ) : EReal) := by
  rw [val_main_v897_apply, val_main_v896_apply]
  refine (congrArg (fun z : EReal => -z) (sum_from _ (fun k => cen (P b) (near x0 x1 b m) k
    * if around x0 x1 b m then -normal (P b) (near x0 x1 b m) eps k else normal (P b) (near x0 x1 b m) eps k) fun k => ?_)).trans ?_
  · rw [show idx_main_v896 (ix2 b m) k = ix3 b m k from funext fun a => by fin_cases a <;> rfl, val_main_v895_apply,
      centroid_at x0 x1 b m P hP, oriented_at x0 x1 b m P hP]
    exact (EReal.coe_mul _ _).symm
  · rw [← EReal.coe_neg]
    congr 1
    unfold offset
    split <;> simp [Finset.sum_neg_distrib]

omit hP in
/-- A point is projected onto a plane when it is near it and the plane has enough points. -/
theorem apply_at (n : Fin 50000) : val_main_v900 (F := Ideal) x0 x1 (ix3 b n m) = 1#1
    ↔ 3 ≤ cnt (near x0 x1 b m) ∧ near x0 x1 b m n := by
  rw [val_main_v900_apply, and_one_iff, mask_at, val_main_v899_apply, val_main_v898_apply,
    show idx_main_v898 (idx_main_v899 (ix3 b n m)) = ix2 b m from funext fun a => by fin_cases a <;> rfl, enough_at, ge_iff]

end

end PlaneFit.Ref

end
-- ==== Proof.RefSweep.lean ====
/- The reference's 32 projections. -/
module

public import proofs.«01_k».proof.Proof.RefNormal

@[expose] public section

noncomputable section

namespace PlaneFit.Ref

open Cert.ReferenceIdeal Cert.ReferenceIdeal.Gen Cert.ReferenceIdeal.Read Idealize.ShloMosaic.ValueIdx
open Idealize.ShloMosaic hiding ix1 ix2 ix3 ix4

theorem slices_normal (m : Fin 32) : S4x32x3.Slices ![0, m.val, 0] S4x1x3 := by
  revert m
  decide

theorem slices_offset (m : Fin 32) : S4x32.Slices ![0, m.val] S4x1 := by
  revert m
  decide

theorem slices_apply (m : Fin 32) : S4x50000x32.Slices ![0, 0, m.val] S4x50000x1 := by
  revert m
  decide

/-- A vector of points. -/
abbrev Points : Type := FVec Ideal S4x50000x3 .f32

section

variable (N : FVec Ideal S4x32x3 .f32) (D : FVec Ideal S4x32 .f32) (A : IVec S4x50000x32 1)

/-- Plane `m`'s normal, at every point. -/
def normals (m : Fin 32) : Points :=
  broadcastInDim S4x50000x3 ![0, 1, 2] bcast_S4x1x3_S4x50000x3_0_1_2 (extractStridedSlice S4x1x3 ![0, m.val, 0] N (slices_normal m))

/-- The points after the projection onto plane `m`. -/
def passed (m : Fin 32) (X : Points) : Points :=
  select
    (broadcastInDim S4x50000x3 ![0, 1] bcast_S4x50000_S4x50000x3_0_1
      (shapeCast S4x50000 (extractStridedSlice S4x50000x1 ![0, 0, m.val] A (slices_apply m)) shapeCasts_S4x50000x1_S4x50000))
    (subf X (mulf (normals N m) (broadcastInDim S4x50000x3 ![0, 1] bcast_S4x50000_S4x50000x3_0_1
      (addf (Host.reduceAdd (mulf X (normals N m)) (constant (F := Ideal) S_ .f32 0x00000000#32) reducesTo_S4x50000x3_S4x50000_d2 h_S_)
        (broadcastInDim S4x50000 ![0, 1] bcast_S4x1_S4x50000_0_1 (extractStridedSlice S4x1 ![0, m.val] D (slices_offset m)))))))
    X

/-- The points after the first `k` planes. -/
def passedUpTo (X : Points) : ℕ → Points
  | 0 => X
  | k + 1 => passed N D A (Fin.ofNat 32 k) (passedUpTo X k)

theorem normals_at (m : Fin 32) (b : Fin 4) (n : Fin 50000) (k : Fin 3) : normals N m (ix3 b n k) = N (ix3 b m k) := by
  refine (broadcastInDim_apply _ _ _ _ (ix3 b 0 k) fun a => by fin_cases a <;> rfl).trans ?_
  exact extractStridedSlice_apply _ _ _ _ _ fun a => by fin_cases a <;> simp [ix3]

theorem over_at {α : Type} (x : S4x50000.Idx → α) (b : Fin 4) (n : Fin 50000) (k : Fin 3) :
    broadcastInDim S4x50000x3 ![0, 1] bcast_S4x50000_S4x50000x3_0_1 x (ix3 b n k) = x (ix2 b n) :=
  broadcastInDim_apply _ _ _ _ _ fun a => by fin_cases a <;> rfl

theorem sum_at (X : Points) (b : Fin 4) (n : Fin 50000) :
    Host.reduceAdd X (constant (F := Ideal) S_ .f32 0x00000000#32) reducesTo_S4x50000x3_S4x50000_d2 h_S_ (ix2 b n)
      = Ideal.ofBits .f32 0x00000000#32 + ∑ k : Fin 3, X (ix3 b n k) := by
  simp only [Host.reduceAdd, Ideal.hostReduceAdd_def]
  rw [Ideal.hostReduceAdd_single reducesTo_S4x50000x3_S4x50000_d2 (by decide)]
  refine congrArg (_ + ·) (Finset.sum_congr rfl fun k _ => ?_)
  exact congrArg X (funext fun a => Fin.ext (by match a with | ⟨0, _⟩ => rfl | ⟨1, _⟩ => rfl | ⟨2, _⟩ => rfl))

theorem offset_of (m : Fin 32) (b : Fin 4) (n : Fin 50000) :
    (broadcastInDim S4x50000 ![0, 1] bcast_S4x1_S4x50000_0_1 (extractStridedSlice S4x1 ![0, m.val] D (slices_offset m)) :
      FVec Ideal S4x50000 .f32) (ix2 b n) = D (ix2 b m) := by
  refine (broadcastInDim_apply _ _ _ _ (ix2 b 0) fun a => by fin_cases a <;> rfl).trans ?_
  exact extractStridedSlice_apply _ _ _ _ _ fun a => by fin_cases a <;> simp [ix2]

theorem apply_of (m : Fin 32) (b : Fin 4) (n : Fin 50000) :
    (shapeCast S4x50000 (extractStridedSlice S4x50000x1 ![0, 0, m.val] A (slices_apply m)) shapeCasts_S4x50000x1_S4x50000 :
      IVec S4x50000 1) (ix2 b n) = A (ix3 b n m) := by
  refine (shapeCast_apply _ _ (ix2 b n) (ix3 b n 0) ?_).trans ?_
  · simp [Shape.rowMajor_val_two, Shape.rowMajor_val_three]
  · exact extractStridedSlice_apply _ _ _ _ _ fun a => by fin_cases a <;> simp [ix3]

/-- One projection. -/
theorem passed_at (m : Fin 32) (X : Points) (b : Fin 4) (n : Fin 50000) (x ν : Fin 3 → ℝ) (δ : ℝ) (C : Prop) [Decidable C]
    (hX : ∀ k, X (ix3 b n k) = ((x k : ℝ) : EReal)) (hN : ∀ k, N (ix3 b m k) = ((ν k : ℝ) : EReal))
    (hD : D (ix2 b m) = ((δ : ℝ) : EReal)) (hA : A (ix3 b n m) = 1#1 ↔ C) (k : Fin 3) :
    passed N D A m X (ix3 b n k) = ((project C ν δ x k : ℝ) : EReal) := by
  have hs : ∑ k : Fin 3, X (ix3 b n k) * N (ix3 b m k) = ((∑ k, x k * ν k : ℝ) : EReal) := by
    rw [← sum_real]
    exact Finset.sum_congr rfl fun k _ => by rw [hX, hN, EReal.coe_mul]
  have hmoved : subf X (mulf (normals N m) (broadcastInDim S4x50000x3 ![0, 1] bcast_S4x50000_S4x50000x3_0_1
      (addf (Host.reduceAdd (mulf X (normals N m)) (constant (F := Ideal) S_ .f32 0x00000000#32) reducesTo_S4x50000x3_S4x50000_d2 h_S_)
        (broadcastInDim S4x50000 ![0, 1] bcast_S4x1_S4x50000_0_1 (extractStridedSlice S4x1 ![0, m.val] D (slices_offset m))))))
      (ix3 b n k) = ((x k - ν k * (∑ i, x i * ν i + δ) : ℝ) : EReal) := by
    show X (ix3 b n k) - normals N m (ix3 b n k) * broadcastInDim S4x50000x3 ![0, 1] bcast_S4x50000_S4x50000x3_0_1
      (addf (Host.reduceAdd (mulf X (normals N m)) (constant (F := Ideal) S_ .f32 0x00000000#32) reducesTo_S4x50000x3_S4x50000_d2 h_S_)
        (broadcastInDim S4x50000 ![0, 1] bcast_S4x1_S4x50000_0_1 (extractStridedSlice S4x1 ![0, m.val] D (slices_offset m))))
      (ix3 b n k) = _
    rw [over_at, normals_at, hX, hN]
    show _ - _ * (Host.reduceAdd (mulf X (normals N m)) (constant (F := Ideal) S_ .f32 0x00000000#32)
      reducesTo_S4x50000x3_S4x50000_d2 h_S_ (ix2 b n) + broadcastInDim S4x50000 ![0, 1] bcast_S4x1_S4x50000_0_1
        (extractStridedSlice S4x1 ![0, m.val] D (slices_offset m)) (ix2 b n)) = _
    rw [offset_of, sum_at, hD]
    have hm : ∑ k : Fin 3, mulf X (normals N m) (ix3 b n k) = ((∑ k, x k * ν k : ℝ) : EReal) :=
      (Finset.sum_congr rfl fun k _ => congrArg (X (ix3 b n k) * ·) (normals_at N m b n k)).trans hs
    rw [hm, lit_zero]
    simp only [← EReal.coe_add, ← EReal.coe_mul, ← EReal.coe_sub, zero_add]
  show Scalar.select (broadcastInDim S4x50000x3 ![0, 1] bcast_S4x50000_S4x50000x3_0_1 (shapeCast S4x50000
    (extractStridedSlice S4x50000x1 ![0, 0, m.val] A (slices_apply m)) shapeCasts_S4x50000x1_S4x50000) (ix3 b n k))
    (subf X _ (ix3 b n k)) (X (ix3 b n k)) = _
  rw [over_at, apply_of, hmoved, hX]
  unfold project
  by_cases hc : C
  · rw [hA.mpr hc, if_pos hc]
    rfl
  · rw [show A (ix3 b n m) = 0#1 from (BitVec.eq_zero_or_eq_one _).resolve_right fun e => hc (hA.mp e), if_neg hc]
    rfl

end

section

variable (x0 : FVec Ideal S4x50000x3 .f32) (x1 : FVec Ideal S4x32x4 .f32)

/-- The program's points after all planes. -/
theorem last_passed : val_main_v1348 (F := Ideal) x0 x1
    = passedUpTo (val_main_v894 (F := Ideal) x0 x1) (val_main_v897 (F := Ideal) x0 x1) (val_main_v900 (F := Ideal) x0 x1) x0 32 := by
  sl_kernel_rfl

variable (P : Fin 4 → Fin 50000 → Fin 3 → ℝ) (hP : ∀ b n k, x0 (ix3 b n k) = ((P b n k : ℝ) : EReal)) (b : Fin 4) (n : Fin 50000)

include hP

theorem passedUpTo_at (j : ℕ) (k : Fin 3) :
    passedUpTo (val_main_v894 (F := Ideal) x0 x1) (val_main_v897 (F := Ideal) x0 x1) (val_main_v900 (F := Ideal) x0 x1) x0 j (ix3 b n k)
      = ((swept (P b) (fun i => near x0 x1 b (Fin.ofNat 32 i)) eps j n k : ℝ) : EReal) := by
  induction j generalizing k with
  | zero => exact hP b n k
  | succ j ih =>
    rw [passedUpTo, passed_at _ _ _ _ _ b n _ _ _ (3 ≤ cnt (near x0 x1 b (Fin.ofNat 32 j)) ∧ near x0 x1 b (Fin.ofNat 32 j) n) ih
      (oriented_at x0 x1 b _ P hP) (offset_at x0 x1 b _ P hP) (apply_at x0 x1 b _ n) k]
    rw [swept]
    congr 1
    by_cases ha : around x0 x1 b (Fin.ofNat 32 j)
    · simp only [if_pos ha]
      rw [project_neg]
    · simp only [if_neg ha]

/-- The reference's first result. -/
theorem points_at (k : Fin 3) : val_main_v1348 (F := Ideal) x0 x1 (ix3 b n k)
    = ((swept (P b) (fun i => near x0 x1 b (Fin.ofNat 32 i)) eps 32 n k : ℝ) : EReal) := by
  rw [last_passed, passedUpTo_at x0 x1 P hP]

/-- The reference's second result. -/
theorem moves_at (k : Fin 3) : val_main_v1349 (F := Ideal) x0 x1 (ix3 b n k)
    = ((swept (P b) (fun i => near x0 x1 b (Fin.ofNat 32 i)) eps 32 n k - P b n k : ℝ) : EReal) := by
  rw [val_main_v1349_apply, points_at x0 x1 P hP, hP]
  exact (EReal.coe_sub _ _).symm

end

end PlaneFit.Ref

end
-- ==== Proof.Finite.lean ====
/- The precondition: every coordinate of every point is a real number. -/
module

public import proofs.«01_k».proof.Pre_finite_points
public import proofs.«01_k».proof.Proof.Gen.Pre_finite_points
public import Idealize.ShloMosaic.Lib.ReduceAll
public import Idealize.ShloMosaic.PureOps.Ideal.Laws

@[expose] public section

noncomputable section

namespace PlaneFit

open Cert.Pre_finite_points Idealize.ShloMosaic

theorem lit_infinity : Ideal.ofBits .f32 0x7F800000#32 = (⊤ : EReal) := by
  simp [Ideal.ofBits, Ideal.ieee]

/-- A number whose absolute value is below infinity is real. -/
theorem real_of_below (x : EReal) (h : Ideal.cmp .olt (max x (-x)) ⊤ = 1#1) : ∃ r : ℝ, x = ((r : ℝ) : EReal) := by
  have h' : max x (-x) < ⊤ := by
    by_contra hn
    simp [Ideal.cmp, hn] at h
  induction x with
  | bot => simp at h'
  | top => simp at h'
  | coe r => exact ⟨r, rfl⟩

/-- The points of arguments that meet the precondition are real. -/
theorem points_real (x0 : FVec Ideal S4x50000x3 .f32) (x1 : FVec Ideal S4x32x4 .f32)
    (h : fn (F := Ideal) x0 x1 = fun _ => 1#1) (i : S4x50000x3.Idx) : ∃ r : ℝ, x0 i = ((r : ℝ) : EReal) := by
  haveI : Subsingleton S_.Idx := ⟨fun a b => funext fun k => k.elim0⟩
  have e := Host.reduce_andi_all _ _ _ _ (fun k => k.elim0) (congrFun h _) i
  refine real_of_below (x0 i) ?_
  rw [← lit_infinity]
  exact e

end PlaneFit

end
-- ==== Proof.Agree.lean ====
/- The two programs' results are the same. -/
module

public import proofs.«01_k».proof.Defs
public import proofs.«01_k».proof.Proof.KernelValue
public import proofs.«01_k».proof.Proof.KernelRun
public import proofs.«01_k».proof.Proof.RefSweep
public import proofs.«01_k».proof.Proof.Finite
public import Idealize.ShloMosaic.Lib.Claim

@[expose] public section

noncomputable section

namespace PlaneFit

open Cert.KernelIdeal Cert.KernelIdeal.Gen Idealize.ShloMosaic.ValueIdx Idealize.ShloMosaic.TcCoe Idealize.SL.Sem
open Idealize.ShloMosaic hiding ix1 ix2 ix3 ix4 eq_ix3

section

variable (m : (ℓ : Loc nD τ sig) → Buf (Elt Idealize.ShloMosaic.Ideal) ℓ) (ρ : Dev nD → PrngReg) (c : Dev nD)
  (h : ∀ i, ∃ r : ℝ, ptsOf m c i = ((r : ℝ) : EReal))

include h

/-- The points' coordinates as real numbers. -/
theorem coordinates : ∃ P : Fin 4 → Fin 50000 → Fin 3 → ℝ, ∀ b n k, ptsOf m c (ix3 b n k) = ((P b n k : ℝ) : EReal) :=
  ⟨fun b n k => (h (ix3 b n k)).choose, fun b n k => (h (ix3 b n k)).choose_spec⟩

/-- The swept points. -/
theorem same_points : Cert.ReferenceIdeal.Read.val_main_v1348 (F := Ideal) (ptsOf m c) (plnOf m c) = W9 m ρ c main_v24 := by
  obtain ⟨P, hP⟩ := coordinates m c h
  funext i
  rw [ValueIdx.eq_ix3 i]
  exact (Ref.points_at (ptsOf m c) (plnOf m c) P hP _ _ _).trans (final_v24 m ρ c P hP _ _ _).symm

/-- How far they went. -/
theorem same_moves : Cert.ReferenceIdeal.Read.val_main_v1349 (F := Ideal) (ptsOf m c) (plnOf m c) = W9 m ρ c main_v27 := by
  obtain ⟨P, hP⟩ := coordinates m c h
  funext i
  rw [ValueIdx.eq_ix3 i]
  exact (Ref.moves_at (ptsOf m c) (plnOf m c) P hP _ _ _).trans (final_v27 m ρ c P hP _ _ _).symm

end

/-- Both programs run and end with the same results. -/
theorem algebraic : Cert.algebraic_KernelIdeal_ReferenceIdeal_pre_finite_points := by
  intro m g m' g' hpre hag
  have hfin : ∀ c i, ∃ r : ℝ, ptsOf m c i = ((r : ℝ) : EReal) := fun c => points_real _ _ (hpre c)
  refine ⟨fun c => W9 m g c main_v24, fun c => W9 m g c main_v27, kernel_run m g,
    (θ_run Cert.ReferenceIdeal.defs _ _).mono (fun r h c => ⟨(h c).1.trans ?_, (h c).2.1.trans ?_, (h c).2.2⟩)
      (Cert.ReferenceIdeal.Value.run (F := Ideal) m' g')⟩
  · refine (Cert.ReferenceIdeal.Read.val_main_v1348_eq (StableHlo.launchContents m' c)).trans ?_
    rw [StableHlo.launchContents_devRef, StableHlo.launchContents_devRef, (hag c).1, (hag c).2]
    exact same_points m g c (hfin c)
  · refine (Cert.ReferenceIdeal.Read.val_main_v1349_eq (StableHlo.launchContents m' c)).trans ?_
    rw [StableHlo.launchContents_devRef, StableHlo.launchContents_devRef, (hag c).1, (hag c).2]
    exact same_moves m g c (hfin c)

end PlaneFit

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_points
public import proofs.«01_k».proof.Proof.Agree
public import Idealize.ShloMosaic.Adequacy
public import Idealize.ShloMosaic.Init

@[expose] public section

noncomputable section

namespace Cert.Proof

open Idealize.ShloMosaic Idealize.SL.Sem

/-- The reference's run, read at its arguments; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_finite_points.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    PlaneFit.algebraic⟩

end Cert.Proof

end
